-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Local (m : (ℓ : Loc Cert.Local.nD Cert.Local.τ Cert.Local.sig) → Buf (Elt Bits) ℓ) : Prop :=
  True

def Pre_LocalIdeal (m : (ℓ : Loc Cert.LocalIdeal.nD Cert.LocalIdeal.τ Cert.LocalIdeal.sig) → Buf (Elt Ideal) ℓ) : Prop :=
  True

def Pre_LocalRefIdeal (m : (ℓ : Loc Cert.LocalRefIdeal.nD Cert.LocalRefIdeal.τ Cert.LocalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Local [hLocal : Cert.Local.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2)
      ∧ r.2.mem ((c.tc : Thread Cert.Local.nD Cert.Local.τ).loc Cert.Local.main_arg3) = m ((c.tc : Thread Cert.Local.nD Cert.Local.τ).loc Cert.Local.main_arg3)
      ∧ r.2.mem ((c.tc : Thread Cert.Local.nD Cert.Local.τ).loc Cert.Local.main_arg4) = m ((c.tc : Thread Cert.Local.nD Cert.Local.τ).loc Cert.Local.main_arg4)
      ∧ r.2.mem ((c.tc : Thread Cert.Local.nD Cert.Local.τ).loc Cert.Local.main_arg5) = m ((c.tc : Thread Cert.Local.nD Cert.Local.τ).loc Cert.Local.main_arg5)
      ∧ r.2.mem ((c.tc : Thread Cert.Local.nD Cert.Local.τ).loc Cert.Local.main_arg6) = m ((c.tc : Thread Cert.Local.nD Cert.Local.τ).loc Cert.Local.main_arg6)
      ∧ r.2.mem ((c.tc : Thread Cert.Local.nD Cert.Local.τ).loc Cert.Local.main_arg7) = m ((c.tc : Thread Cert.Local.nD Cert.Local.τ).loc Cert.Local.main_arg7))
      ∧ r.2.sem = fun _ => 0)

def quiescent_LocalIdeal [hLocalIdeal : Cert.LocalIdeal.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
      ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
      ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
      ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6)
      ∧ r.2.mem ((c.tc : Thread Cert.LocalIdeal.nD Cert.LocalIdeal.τ).loc Cert.LocalIdeal.main_arg7) = m ((c.tc : Thread Cert.LocalIdeal.nD Cert.LocalIdeal.τ).loc Cert.LocalIdeal.main_arg7))
      ∧ r.2.sem = fun _ => 0)

def quiescent_LocalRefIdeal [hLocalRefIdeal : Cert.LocalRefIdeal.Facts] : Prop :=
  ∀ (m : (ℓ : Loc Cert.LocalRefIdeal.nD Cert.LocalRefIdeal.τ Cert.LocalRefIdeal.sig) → Buf (Elt Ideal) ℓ) (g : Dev Cert.LocalRefIdeal.nD → PrngReg), Pre_LocalRefIdeal m →
    θ_run (Cert.LocalRefIdeal.defs (F := Ideal)) (onTc (τ := Cert.LocalRefIdeal.τ) (Cert.LocalRefIdeal.main (F := Ideal))) ⟨m, fun _ => 0, g⟩ (fun r => (∀ c : Dev Cert.LocalRefIdeal.nD,
      r.2.mem ((c.tc : Thread Cert.LocalRefIdeal.nD Cert.LocalRefIdeal.τ).loc Cert.LocalRefIdeal.main_arg0) = m ((c.tc : Thread Cert.LocalRefIdeal.nD Cert.LocalRefIdeal.τ).loc Cert.LocalRefIdeal.main_arg0)
      ∧ r.2.mem ((c.tc : Thread Cert.LocalRefIdeal.nD Cert.LocalRefIdeal.τ).loc Cert.LocalRefIdeal.main_arg1) = m ((c.tc : Thread Cert.LocalRefIdeal.nD Cert.LocalRefIdeal.τ).loc Cert.LocalRefIdeal.main_arg1)
      ∧ r.2.mem ((c.tc : Thread Cert.LocalRefIdeal.nD Cert.LocalRefIdeal.τ).loc Cert.LocalRefIdeal.main_arg2) = m ((c.tc : Thread Cert.LocalRefIdeal.nD Cert.LocalRefIdeal.τ).loc Cert.LocalRefIdeal.main_arg2)
      ∧ r.2.mem ((c.tc : Thread Cert.LocalRefIdeal.nD Cert.LocalRefIdeal.τ).loc Cert.LocalRefIdeal.main_arg3) = m ((c.tc : Thread Cert.LocalRefIdeal.nD Cert.LocalRefIdeal.τ).loc Cert.LocalRefIdeal.main_arg3)
      ∧ r.2.mem ((c.tc : Thread Cert.LocalRefIdeal.nD Cert.LocalRefIdeal.τ).loc Cert.LocalRefIdeal.main_arg4) = m ((c.tc : Thread Cert.LocalRefIdeal.nD Cert.LocalRefIdeal.τ).loc Cert.LocalRefIdeal.main_arg4)
      ∧ r.2.mem ((c.tc : Thread Cert.LocalRefIdeal.nD Cert.LocalRefIdeal.τ).loc Cert.LocalRefIdeal.main_arg5) = m ((c.tc : Thread Cert.LocalRefIdeal.nD Cert.LocalRefIdeal.τ).loc Cert.LocalRefIdeal.main_arg5)
      ∧ r.2.mem ((c.tc : Thread Cert.LocalRefIdeal.nD Cert.LocalRefIdeal.τ).loc Cert.LocalRefIdeal.main_arg6) = m ((c.tc : Thread Cert.LocalRefIdeal.nD Cert.LocalRefIdeal.τ).loc Cert.LocalRefIdeal.main_arg6)
      ∧ r.2.mem ((c.tc : Thread Cert.LocalRefIdeal.nD Cert.LocalRefIdeal.τ).loc Cert.LocalRefIdeal.main_arg7) = m ((c.tc : Thread Cert.LocalRefIdeal.nD Cert.LocalRefIdeal.τ).loc Cert.LocalRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v23) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Local_LocalIdeal : Prop :=
  True

def algebraic_LocalIdeal_LocalRefIdeal [hLocalIdeal : Cert.LocalIdeal.Facts] [hLocalRefIdeal : Cert.LocalRefIdeal.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.LocalRefIdeal.nD Cert.LocalRefIdeal.τ Cert.LocalRefIdeal.sig) → Buf (Elt Ideal) ℓ) (g' : Dev Cert.LocalRefIdeal.nD → PrngReg), Pre_LocalIdeal m →
    (∀ c : Dev Cert.LocalIdeal.nD,
      m' ((c.tc : Thread Cert.LocalRefIdeal.nD Cert.LocalRefIdeal.τ).loc Cert.LocalRefIdeal.main_arg0) = m ((c.tc : Thread Cert.LocalIdeal.nD Cert.LocalIdeal.τ).loc Cert.LocalIdeal.main_arg0)
      ∧ m' ((c.tc : Thread Cert.LocalRefIdeal.nD Cert.LocalRefIdeal.τ).loc Cert.LocalRefIdeal.main_arg1) = m ((c.tc : Thread Cert.LocalIdeal.nD Cert.LocalIdeal.τ).loc Cert.LocalIdeal.main_arg1)
      ∧ m' ((c.tc : Thread Cert.LocalRefIdeal.nD Cert.LocalRefIdeal.τ).loc Cert.LocalRefIdeal.main_arg2) = m ((c.tc : Thread Cert.LocalIdeal.nD Cert.LocalIdeal.τ).loc Cert.LocalIdeal.main_arg2)
      ∧ m' ((c.tc : Thread Cert.LocalRefIdeal.nD Cert.LocalRefIdeal.τ).loc Cert.LocalRefIdeal.main_arg3) = m ((c.tc : Thread Cert.LocalIdeal.nD Cert.LocalIdeal.τ).loc Cert.LocalIdeal.main_arg3)
      ∧ m' ((c.tc : Thread Cert.LocalRefIdeal.nD Cert.LocalRefIdeal.τ).loc Cert.LocalRefIdeal.main_arg4) = m ((c.tc : Thread Cert.LocalIdeal.nD Cert.LocalIdeal.τ).loc Cert.LocalIdeal.main_arg4)
      ∧ m' ((c.tc : Thread Cert.LocalRefIdeal.nD Cert.LocalRefIdeal.τ).loc Cert.LocalRefIdeal.main_arg5) = m ((c.tc : Thread Cert.LocalIdeal.nD Cert.LocalIdeal.τ).loc Cert.LocalIdeal.main_arg5)
      ∧ m' ((c.tc : Thread Cert.LocalRefIdeal.nD Cert.LocalRefIdeal.τ).loc Cert.LocalRefIdeal.main_arg6) = m ((c.tc : Thread Cert.LocalIdeal.nD Cert.LocalIdeal.τ).loc Cert.LocalIdeal.main_arg6)
      ∧ m' ((c.tc : Thread Cert.LocalRefIdeal.nD Cert.LocalRefIdeal.τ).loc Cert.LocalRefIdeal.main_arg7) = m ((c.tc : Thread Cert.LocalIdeal.nD Cert.LocalIdeal.τ).loc Cert.LocalIdeal.main_arg7)) →
    ∃ (v0 : (c : Dev Cert.LocalIdeal.nD) → Buf (Elt Ideal) ((c.tc : Thread Cert.LocalIdeal.nD Cert.LocalIdeal.τ).loc Cert.LocalIdeal.main_v20_0)) (v1 : (c : Dev Cert.LocalIdeal.nD) → Buf (Elt Ideal) ((c.tc : Thread Cert.LocalIdeal.nD Cert.LocalIdeal.τ).loc Cert.LocalIdeal.main_v20_1)) (v2 : (c : Dev Cert.LocalIdeal.nD) → Buf (Elt Ideal) ((c.tc : Thread Cert.LocalIdeal.nD Cert.LocalIdeal.τ).loc Cert.LocalIdeal.main_v20_2)) (v3 : (c : Dev Cert.LocalIdeal.nD) → Buf (Elt Ideal) ((c.tc : Thread Cert.LocalIdeal.nD Cert.LocalIdeal.τ).loc Cert.LocalIdeal.main_v20_3)) (v4 : (c : Dev Cert.LocalIdeal.nD) → Buf (Elt Ideal) ((c.tc : Thread Cert.LocalIdeal.nD Cert.LocalIdeal.τ).loc Cert.LocalIdeal.main_v20_4)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v20_0) = v0 c
          ∧ r.2.mem ((c.tc : Thread Cert.LocalIdeal.nD Cert.LocalIdeal.τ).loc Cert.LocalIdeal.main_v20_1) = v1 c
          ∧ r.2.mem ((c.tc : Thread Cert.LocalIdeal.nD Cert.LocalIdeal.τ).loc Cert.LocalIdeal.main_v20_2) = v2 c
          ∧ r.2.mem ((c.tc : Thread Cert.LocalIdeal.nD Cert.LocalIdeal.τ).loc Cert.LocalIdeal.main_v20_3) = v3 c
          ∧ r.2.mem ((c.tc : Thread Cert.LocalIdeal.nD Cert.LocalIdeal.τ).loc Cert.LocalIdeal.main_v20_4) = v4 c
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
          ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
          ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
          ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
          ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6)
          ∧ r.2.mem ((c.tc : Thread Cert.LocalIdeal.nD Cert.LocalIdeal.τ).loc Cert.LocalIdeal.main_arg7) = m ((c.tc : Thread Cert.LocalIdeal.nD Cert.LocalIdeal.τ).loc Cert.LocalIdeal.main_arg7))
      ∧ θ_run (Cert.LocalRefIdeal.defs (F := Ideal)) (onTc (τ := Cert.LocalRefIdeal.τ) (Cert.LocalRefIdeal.main (F := Ideal))) ⟨m', fun _ => 0, g'⟩ (fun r => ∀ c : Dev Cert.LocalRefIdeal.nD,
          r.2.mem ((c.tc : Thread Cert.LocalRefIdeal.nD Cert.LocalRefIdeal.τ).loc Cert.LocalRefIdeal.main_v199) = v0 c
          ∧ r.2.mem ((c.tc : Thread Cert.LocalRefIdeal.nD Cert.LocalRefIdeal.τ).loc Cert.LocalRefIdeal.main_v201) = v1 c
          ∧ r.2.mem ((c.tc : Thread Cert.LocalRefIdeal.nD Cert.LocalRefIdeal.τ).loc Cert.LocalRefIdeal.main_v203) = v2 c
          ∧ r.2.mem ((c.tc : Thread Cert.LocalRefIdeal.nD Cert.LocalRefIdeal.τ).loc Cert.LocalRefIdeal.main_v166) = v3 c
          ∧ r.2.mem ((c.tc : Thread Cert.LocalRefIdeal.nD Cert.LocalRefIdeal.τ).loc Cert.LocalRefIdeal.main_v197) = v4 c
          ∧ r.2.mem ((c.tc : Thread Cert.LocalRefIdeal.nD Cert.LocalRefIdeal.τ).loc Cert.LocalRefIdeal.main_arg0) = m' ((c.tc : Thread Cert.LocalRefIdeal.nD Cert.LocalRefIdeal.τ).loc Cert.LocalRefIdeal.main_arg0)
          ∧ r.2.mem ((c.tc : Thread Cert.LocalRefIdeal.nD Cert.LocalRefIdeal.τ).loc Cert.LocalRefIdeal.main_arg1) = m' ((c.tc : Thread Cert.LocalRefIdeal.nD Cert.LocalRefIdeal.τ).loc Cert.LocalRefIdeal.main_arg1)
          ∧ r.2.mem ((c.tc : Thread Cert.LocalRefIdeal.nD Cert.LocalRefIdeal.τ).loc Cert.LocalRefIdeal.main_arg2) = m' ((c.tc : Thread Cert.LocalRefIdeal.nD Cert.LocalRefIdeal.τ).loc Cert.LocalRefIdeal.main_arg2)
          ∧ r.2.mem ((c.tc : Thread Cert.LocalRefIdeal.nD Cert.LocalRefIdeal.τ).loc Cert.LocalRefIdeal.main_arg3) = m' ((c.tc : Thread Cert.LocalRefIdeal.nD Cert.LocalRefIdeal.τ).loc Cert.LocalRefIdeal.main_arg3)
          ∧ r.2.mem ((c.tc : Thread Cert.LocalRefIdeal.nD Cert.LocalRefIdeal.τ).loc Cert.LocalRefIdeal.main_arg4) = m' ((c.tc : Thread Cert.LocalRefIdeal.nD Cert.LocalRefIdeal.τ).loc Cert.LocalRefIdeal.main_arg4)
          ∧ r.2.mem ((c.tc : Thread Cert.LocalRefIdeal.nD Cert.LocalRefIdeal.τ).loc Cert.LocalRefIdeal.main_arg5) = m' ((c.tc : Thread Cert.LocalRefIdeal.nD Cert.LocalRefIdeal.τ).loc Cert.LocalRefIdeal.main_arg5)
          ∧ r.2.mem ((c.tc : Thread Cert.LocalRefIdeal.nD Cert.LocalRefIdeal.τ).loc Cert.LocalRefIdeal.main_arg6) = m' ((c.tc : Thread Cert.LocalRefIdeal.nD Cert.LocalRefIdeal.τ).loc Cert.LocalRefIdeal.main_arg6)
          ∧ r.2.mem ((c.tc : Thread Cert.LocalRefIdeal.nD Cert.LocalRefIdeal.τ).loc Cert.LocalRefIdeal.main_arg7) = m' ((c.tc : Thread Cert.LocalRefIdeal.nD Cert.LocalRefIdeal.τ).loc Cert.LocalRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hMod : Cert.Mod.Facts) (hModIdeal : Cert.ModIdeal.Facts) (hModRefIdeal : Cert.ModRefIdeal.Facts) (hLocal : Cert.Local.Facts) (hLocalIdeal : Cert.LocalIdeal.Facts) (hLocalRefIdeal : Cert.LocalRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mod (hMod := hMod)
    ∧ quiescent_ModIdeal (hModIdeal := hModIdeal)
    ∧ quiescent_ModRefIdeal (hModRefIdeal := hModRefIdeal)
    ∧ quiescent_Local (hLocal := hLocal)
    ∧ quiescent_LocalIdeal (hLocalIdeal := hLocalIdeal)
    ∧ quiescent_LocalRefIdeal (hLocalRefIdeal := hLocalRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Mod_ModIdeal
    ∧ algebraic_ModIdeal_ModRefIdeal (hModIdeal := hModIdeal) (hModRefIdeal := hModRefIdeal)
    ∧ preserves_Local_LocalIdeal
    ∧ algebraic_LocalIdeal_LocalRefIdeal (hLocalIdeal := hLocalIdeal) (hLocalRefIdeal := hLocalRefIdeal)
-- ==== Pre_finite.lean ====
abbrev S8x8192x8x64 : Shape := ⟨4, ![8, 8192, 8, 64]⟩
abbrev S8x8448x2x64 : Shape := ⟨4, ![8, 8448, 2, 64]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8448x2x64 : S_.BroadcastsInDim S8x8448x2x64 (![] : Fin 0 → Fin S8x8448x2x64.rank)
  reducesTo_S8x8448x2x64_S_d0_1_2_3 : S8x8448x2x64.ReducesTo [0, 1, 2, 3] S_

variable [Facts]

def fn_part1 {F : FTy → Type} [FloatOps F] (main_arg4 : FVec F S8x8448x2x64 .f32) (main_v13 : IVec S_ 1) (main_v16 : IVec S8x8192x8x64 1) : IVec S_ 1 :=
  let main_c_5 : IVec S_ 1 := constantI S_ 1 1#1
  let main_v17 : IVec S_ 1 := (fun x v => Host.reduce IntOp.andi x v reducesTo_S8x8192x8x64_S_d0_1_2_3 h_S_) main_v16 main_c_5
  let main_v18 : IVec S_ 1 := andi main_v13 main_v17
  let main_v19 : FVec F S8x8448x2x64 .f32 := Host.absf main_arg4
  let main_cst_6 : FVec F S_ .f32 := constant S_ .f32 0x7F800000#32
  let main_v20 : FVec F S8x8448x2x64 .f32 := broadcastInDim S8x8448x2x64 ![] bcast_S_S8x8448x2x64 main_cst_6
  let main_v21 : IVec S8x8448x2x64 1 := cmpf .olt main_v19 main_v20
  let main_c_7 : IVec S_ 1 := constantI S_ 1 1#1
  let main_v22 : IVec S_ 1 := (fun x v => Host.reduce IntOp.andi x v reducesTo_S8x8448x2x64_S_d0_1_2_3 h_S_) main_v21 main_c_7
  let main_v23 : IVec S_ 1 := andi main_v18 main_v22
  main_v23

def fn {F : FTy → Type} [FloatOps F] (main_arg0 : FVec F S8x8192x8x64 .f32) (main_arg1 : FVec F S8x8448x2x64 .f32) (main_arg2 : FVec F S8x8448x2x64 .f32) (main_arg3 : FVec F S8x8192x8x64 .f32) (main_arg4 : FVec F S8x8448x2x64 .f32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8448x2x64 .f32 := Host.absf main_arg1
  let main_cst_0 : FVec F S_ .f32 := constant S_ .f32 0x7F800000#32
  let main_v5 : FVec F S8x8448x2x64 .f32 := broadcastInDim S8x8448x2x64 ![] bcast_S_S8x8448x2x64 main_cst_0
  let main_v6 : IVec S8x8448x2x64 1 := cmpf .olt main_v4 main_v5
  let main_c_1 : IVec S_ 1 := constantI S_ 1 1#1
  let main_v7 : IVec S_ 1 := (fun x v => Host.reduce IntOp.andi x v reducesTo_S8x8448x2x64_S_d0_1_2_3 h_S_) main_v6 main_c_1
  let main_v8 : IVec S_ 1 := andi main_v3 main_v7
  let main_v9 : FVec F S8x8448x2x64 .f32 := Host.absf main_arg2
  let main_cst_2 : FVec F S_ .f32 := constant S_ .f32 0x7F800000#32
  let main_v10 : FVec F S8x8448x2x64 .f32 := broadcastInDim S8x8448x2x64 ![] bcast_S_S8x8448x2x64 main_cst_2
  let main_v11 : IVec S8x8448x2x64 1 := cmpf .olt main_v9 main_v10
  let main_c_3 : IVec S_ 1 := constantI S_ 1 1#1
  let main_v12 : IVec S_ 1 := (fun x v => Host.reduce IntOp.andi x v reducesTo_S8x8448x2x64_S_d0_1_2_3 h_S_) main_v11 main_c_3
  let main_v13 : IVec S_ 1 := andi main_v8 main_v12
  let main_v14 : FVec F S8x8192x8x64 .f32 := Host.absf main_arg3
  let main_cst_4 : FVec F S_ .f32 := constant S_ .f32 0x7F800000#32
  let main_v15 : FVec F S8x8192x8x64 .f32 := broadcastInDim S8x8192x8x64 ![] bcast_S_S8x8192x8x64 main_cst_4
  let main_v16 : IVec S8x8192x8x64 1 := cmpf .olt main_v14 main_v15
  fn_part1 (F := F) main_arg4 main_v13 main_v16
-- ==== Kernel.lean ====
abbrev S8x8192x8x64 : Shape := ⟨4, ![8, 8192, 8, 64]⟩
abbrev S8x8448x2x64 : Shape := ⟨4, ![8, 8448, 2, 64]⟩
abbrev S_ : Shape := ⟨0, ![]⟩
abbrev S8x8x64x8192 : Shape := ⟨4, ![8, 8, 64, 8192]⟩
abbrev S8x8x256x8192 : Shape := ⟨4, ![8, 8, 256, 8192]⟩
abbrev S8x8448x2x256 : Shape := ⟨4, ![8, 8448, 2, 256]⟩
abbrev S8x2x8448x256 : Shape := ⟨4, ![8, 2, 8448, 256]⟩
abbrev S8x2x1x8448 : Shape := ⟨4, ![8, 2, 1, 8448]⟩
abbrev S8x2x15x8448 : Shape := ⟨4, ![8, 2, 15, 8448]⟩
abbrev S8x2x64x8448 : Shape := ⟨4, ![8, 2, 64, 8448]⟩
abbrev S8x2x80x8448 : Shape := ⟨4, ![8, 2, 80, 8448]⟩
abbrev S8x2x80x11x768 : Shape := ⟨5, ![8, 2, 80, 11, 768]⟩
abbrev S8x11x2x80x768 : Shape := ⟨5, ![8, 11, 2, 80, 768]⟩
abbrev S8x8192x512 : Shape := ⟨3, ![8, 8192, 512]⟩
abbrev S1x8x256x512 : Shape := ⟨4, ![1, 8, 256, 512]⟩
abbrev S1x2x8448x256 : Shape := ⟨4, ![1, 2, 8448, 256]⟩
abbrev S1x11x2x80x768 : Shape := ⟨5, ![1, 11, 2, 80, 768]⟩
abbrev S1x512x512 : Shape := ⟨3, ![1, 512, 512]⟩
abbrev S8x1x512 : Shape := ⟨3, ![8, 1, 512]⟩
abbrev S8x80x512 : Shape := ⟨3, ![8, 80, 512]⟩
abbrev S1x1x128x256 : Shape := ⟨4, ![1, 1, 128, 256]⟩
abbrev S128x256 : Shape := ⟨2, ![128, 256]⟩
abbrev S1x1x256x512 : Shape := ⟨4, ![1, 1, 256, 512]⟩
abbrev S256x512 : Shape := ⟨2, ![256, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩
abbrev S1x1x768x256 : Shape := ⟨4, ![1, 1, 768, 256]⟩
abbrev S768x256 : Shape := ⟨2, ![768, 256]⟩
abbrev S768x512 : Shape := ⟨2, ![768, 512]⟩
abbrev S1x80x512 : Shape := ⟨3, ![1, 80, 512]⟩
abbrev S80x512 : Shape := ⟨2, ![80, 512]⟩
abbrev S1x1x1x80x768 : Shape := ⟨5, ![1, 1, 1, 80, 768]⟩
abbrev S80x768 : Shape := ⟨2, ![80, 768]⟩
abbrev S1 : Shape := ⟨1, ![1]⟩
abbrev S1x1x1 : Shape := ⟨3, ![1, 1, 1]⟩
abbrev S64x512 : Shape := ⟨2, ![64, 512]⟩
abbrev S512x128 : Shape := ⟨2, ![512, 128]⟩
abbrev S1x512x128 : Shape := ⟨3, ![1, 512, 128]⟩

abbrev nBuf : Space → Nat
  | .hbm => 30
  | .vmem => 10
  | .smem => 0
  | _ => 0

abbrev bufTy : (tb : Table) → Fin (tcTables nBuf tb) → BufTy
  | .hbm, ⟨0, _⟩ => ⟨S8x8192x8x64, .f32⟩
  | .hbm, ⟨1, _⟩ => ⟨S8x8448x2x64, .f32⟩
  | .hbm, ⟨2, _⟩ => ⟨S8x8448x2x64, .f32⟩
  | .hbm, ⟨3, _⟩ => ⟨S8x8192x8x64, .f32⟩
  | .hbm, ⟨4, _⟩ => ⟨S8x8448x2x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x8x64, .f32⟩
  | .hbm, ⟨10, _⟩ => ⟨S8x8192x8x64, .f32⟩
  | .hbm, ⟨11, _⟩ => ⟨S8x8x64x8192, .f32⟩
  | .hbm, ⟨12, _⟩ => ⟨S8x8192x8x64, .f32⟩
  | .hbm, ⟨13, _⟩ => ⟨S8x8x64x8192, .f32⟩
  | .hbm, ⟨14, _⟩ => ⟨S8x8x256x8192, .f32⟩
  | .hbm, ⟨15, _⟩ => ⟨S8x8x256x8192, .fp8e4m3⟩
  | .hbm, ⟨16, _⟩ => ⟨S8x8448x2x64, .f32⟩
  | .hbm, ⟨17, _⟩ => ⟨S8x8448x2x256, .f32⟩
  | .hbm, ⟨18, _⟩ => ⟨S8x2x8448x256, .f32⟩
  | .hbm, ⟨19, _⟩ => ⟨S8x2x8448x256, .fp8e4m3⟩
  | .hbm, ⟨20, _⟩ => ⟨S_, .f32⟩
  | .hbm, ⟨21, _⟩ => ⟨S8x2x1x8448, .f32⟩
  | .hbm, ⟨22, _⟩ => ⟨S_, .f32⟩
  | .hbm, ⟨23, _⟩ => ⟨S8x2x15x8448, .f32⟩
  | .hbm, ⟨24, _⟩ => ⟨S8x2x64x8448, .f32⟩
  | .hbm, ⟨25, _⟩ => ⟨S8x2x80x8448, .f32⟩
  | .hbm, ⟨26, _⟩ => ⟨S8x2x80x8448, .bf16⟩
  | .hbm, ⟨27, _⟩ => ⟨S8x2x80x11x768, .bf16⟩
  | .hbm, ⟨28, _⟩ => ⟨S8x11x2x80x768, .bf16⟩
  | .hbm, ⟨29, _⟩ => ⟨S8x8192x512, .bf16⟩
  | .local _ .vmem, ⟨0, _⟩ => ⟨S1x8x256x512, .fp8e4m3⟩
  | .local _ .vmem, ⟨1, _⟩ => ⟨S1x8x256x512, .fp8e4m3⟩
  | .local _ .vmem, ⟨2, _⟩ => ⟨S1x2x8448x256, .fp8e4m3⟩
  | .local _ .vmem, ⟨3, _⟩ => ⟨S1x2x8448x256, .fp8e4m3⟩
  | .local _ .vmem, ⟨4, _⟩ => ⟨S1x11x2x80x768, .bf16⟩
  | .local _ .vmem, ⟨5, _⟩ => ⟨S1x11x2x80x768, .bf16⟩
  | .local _ .vmem, ⟨6, _⟩ => ⟨S1x512x512, .bf16⟩
  | .local _ .vmem, ⟨7, _⟩ => ⟨S1x512x512, .bf16⟩
  | .local _ .vmem, ⟨8, _⟩ => ⟨S8x1x512, .f32⟩
  | .local _ .vmem, ⟨9, _⟩ => ⟨S8x80x512, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c11_i32 : BitVec 32 := 11#32
  let v85 : BitVec 32 := Scalar.addi c0_i32 c11_i32
  let c1_i32 : BitVec 32 := 1#32
  ⟨c0_i32, v85, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32 : BitVec 32 := 768#32
  let v167 : BitVec 32 := Scalar.muli arg8 c768_i32
  v167
def k0_off1 (k0_t1 : Fin k0_t1_loop.trips) : Fin 4 → Nat :=
  let c0_136 : Index := 0#32
  let c0_137 : Index := 0#32
  let c0_i32 : BitVec 32 := 0#32
  let c1_i32 : BitVec 32 := 1#32
  let arg8 : BitVec 32 := Scf.iv c0_i32 c1_i32 k0_t1
  let c768_i32 : BitVec 32 := 768#32
  let v167 : BitVec 32 := Scalar.muli arg8 c768_i32
  let v168 : BitVec 32 := v167
  let v169 : Index := Scalar.indexCast v168
  let c0_138 : Index := 0#32
  ![0, 0, v169.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_144 : BitVec 32 := 768#32
  let v175 : BitVec 32 := Scalar.muli arg8 c768_i32_144
  v175
def k0_off2 (k0_t1 : Fin k0_t1_loop.trips) : Fin 5 → Nat :=
  let c0_160 : Index := 0#32
  let c0_i32 : BitVec 32 := 0#32
  let c1_i32 : BitVec 32 := 1#32
  let arg8 : BitVec 32 := Scf.iv c0_i32 c1_i32 k0_t1
  let v198 : Index := Scalar.indexCast arg8
  let c0_161 : Index := 0#32
  let c0_162 : Index := 0#32
  let c0_163 : Index := 0#32
  ![0, v198.toNat, 0, 0, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_171 : BitVec 32 := 768#32
  let v211 : BitVec 32 := Scalar.muli arg8 c768_i32_171
  v211
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_198 : BitVec 32 := 768#32
  let v247 : BitVec 32 := Scalar.muli arg8 c768_i32_198
  v247
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_225 : BitVec 32 := 768#32
  let v283 : BitVec 32 := Scalar.muli arg8 c768_i32_225
  v283
def k0_off3 (k0_t1 : Fin k0_t1_loop.trips) : Fin 4 → Nat :=
  let c0_226 : Index := 0#32
  let c1_227 : Index := 1#32
  let c0_i32 : BitVec 32 := 0#32
  let c1_i32 : BitVec 32 := 1#32
  let arg8 : BitVec 32 := Scf.iv c0_i32 c1_i32 k0_t1
  let c768_i32_225 : BitVec 32 := 768#32
  let v283 : BitVec 32 := Scalar.muli arg8 c768_i32_225
  let v284 : BitVec 32 := v283
  let v285 : Index := Scalar.indexCast v284
  let c0_228 : Index := 0#32
  ![0, 1, v285.toNat, 0]
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_252 : BitVec 32 := 768#32
  let v319 : BitVec 32 := Scalar.muli arg8 c768_i32_252
  v319
def k0_off4 (k0_t1 : Fin k0_t1_loop.trips) : Fin 5 → Nat :=
  let c0_268 : Index := 0#32
  let c0_i32 : BitVec 32 := 0#32
  let c1_i32 : BitVec 32 := 1#32
  let arg8 : BitVec 32 := Scf.iv c0_i32 c1_i32 k0_t1
  let v342 : Index := Scalar.indexCast arg8
  let c1_269 : Index := 1#32
  let c0_270 : Index := 0#32
  let c0_271 : Index := 0#32
  ![0, v342.toNat, 1, 0, 0]
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_279 : BitVec 32 := 768#32
  let v355 : BitVec 32 := Scalar.muli arg8 c768_i32_279
  v355
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32_306 : BitVec 32 := 768#32
  let v391 : BitVec 32 := Scalar.muli arg8 c768_i32_306
  v391
@[reducible] def k0_t2_loop : Scf.Loop 32 :=
  let c0_i32_144 : BitVec 32 := 0#32
  let c11_i32_145 : BitVec 32 := 11#32
  let v175 : BitVec 32 := Scalar.addi c0_i32_144 c11_i32_145
  let c1_i32_146 : BitVec 32 := 1#32
  ⟨c0_i32_144, v175, c1_i32_146⟩
def k0_mult9 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32 : BitVec 32 := 768#32
  let v176 : BitVec 32 := Scalar.muli arg8 c768_i32
  v176
def k0_off5 (k0_t2 : Fin k0_t2_loop.trips) : Fin 4 → Nat :=
  let c0_148 : Index := 0#32
  let c0_149 : Index := 0#32
  let c0_i32_144 : BitVec 32 := 0#32
  let c1_i32_146 : BitVec 32 := 1#32
  let arg8 : BitVec 32 := Scf.iv c0_i32_144 c1_i32_146 k0_t2
  let c768_i32 : BitVec 32 := 768#32
  let v176 : BitVec 32 := Scalar.muli arg8 c768_i32
  let v177 : BitVec 32 := v176
  let v178 : Index := Scalar.indexCast v177
  let c0_150 : Index := 0#32
  ![0, 0, v178.toNat, 0]
def k0_off6 (k0_t2 : Fin k0_t2_loop.trips) : Fin 5 → Nat :=
  let c0_163 : Index := 0#32
  let c0_i32_144 : BitVec 32 := 0#32
  let c1_i32_146 : BitVec 32 := 1#32
  let arg8 : BitVec 32 := Scf.iv c0_i32_144 c1_i32_146 k0_t2
  let v199 : Index := Scalar.indexCast arg8
  let c0_164 : Index := 0#32
  let c0_165 : Index := 0#32
  let c0_166 : Index := 0#32
  ![0, v199.toNat, 0, 0, 0]
def k0_mult10 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_174 : BitVec 32 := 768#32
  let v210 : BitVec 32 := Scalar.muli arg8 c768_i32_174
  v210
def k0_mult11 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_201 : BitVec 32 := 768#32
  let v244 : BitVec 32 := Scalar.muli arg8 c768_i32_201
  v244
def k0_mult12 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_228 : BitVec 32 := 768#32
  let v278 : BitVec 32 := Scalar.muli arg8 c768_i32_228
  v278
def k0_mult13 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_255 : BitVec 32 := 768#32
  let v312 : BitVec 32 := Scalar.muli arg8 c768_i32_255
  v312
def k0_off7 (k0_t2 : Fin k0_t2_loop.trips) : Fin 4 → Nat :=
  let c0_256 : Index := 0#32
  let c1_257 : Index := 1#32
  let c0_i32_144 : BitVec 32 := 0#32
  let c1_i32_146 : BitVec 32 := 1#32
  let arg8 : BitVec 32 := Scf.iv c0_i32_144 c1_i32_146 k0_t2
  let c768_i32_255 : BitVec 32 := 768#32
  let v312 : BitVec 32 := Scalar.muli arg8 c768_i32_255
  let v313 : BitVec 32 := v312
  let v314 : Index := Scalar.indexCast v313
  let c0_258 : Index := 0#32
  ![0, 1, v314.toNat, 0]
def k0_off8 (k0_t2 : Fin k0_t2_loop.trips) : Fin 5 → Nat :=
  let c0_271 : Index := 0#32
  let c0_i32_144 : BitVec 32 := 0#32
  let c1_i32_146 : BitVec 32 := 1#32
  let arg8 : BitVec 32 := Scf.iv c0_i32_144 c1_i32_146 k0_t2
  let v335 : Index := Scalar.indexCast arg8
  let c1_272 : Index := 1#32
  let c0_273 : Index := 0#32
  let c0_274 : Index := 0#32
  ![0, v335.toNat, 1, 0, 0]
def k0_mult14 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_282 : BitVec 32 := 768#32
  let v346 : BitVec 32 := Scalar.muli arg8 c768_i32_282
  v346
def k0_mult15 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_309 : BitVec 32 := 768#32
  let v380 : BitVec 32 := Scalar.muli arg8 c768_i32_309
  v380
def k0_mult16 (k0_t2 : Fin k0_t2_loop.trips) : BitVec 32 :=
  let c0_i32_144 : BitVec 32 := 0#32
  let c1_i32_146 : BitVec 32 := 1#32
  let arg8 : BitVec 32 := Scf.iv c0_i32_144 c1_i32_146 k0_t2
  let c768_i32_336 : BitVec 32 := 768#32
  let v414 : BitVec 32 := Scalar.muli arg8 c768_i32_336
  v414
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8448x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x2x80x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x8x64 : Shape := ⟨4, ![8, 8192, 8, 64]⟩
abbrev S8x8448x2x64 : Shape := ⟨4, ![8, 8448, 2, 64]⟩
abbrev S8x8192x2x4x64 : Shape := ⟨5, ![8, 8192, 2, 4, 64]⟩
abbrev S8x2x8448x8192x4 : Shape := ⟨5, ![8, 2, 8448, 8192, 4]⟩
abbrev S8x2x4x8192x8448 : Shape := ⟨5, ![8, 2, 4, 8192, 8448]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8448x2x64, .f32⟩
  | .hbm, ⟨2, _⟩ => ⟨S8x8448x2x64, .f32⟩
  | .hbm, ⟨3, _⟩ => ⟨S8x8192x8x64, .f32⟩
  | .hbm, ⟨4, _⟩ => ⟨S8x8448x2x64, .f32⟩
  | .hbm, ⟨5, _⟩ => ⟨S8x8192x2x4x64, .f32⟩
  | .hbm, ⟨6, _⟩ => ⟨S8x2x8448x8192x4, .f32⟩
  | .hbm, ⟨7, _⟩ => ⟨S8x2x4x8192x8448, .f32⟩
  | .hbm, ⟨8, _⟩ => ⟨S_, .f32⟩
  | .hbm, ⟨9, _⟩ => ⟨S8x2x4x8192x8448, .f32⟩
  | .hbm, ⟨10, _⟩ => ⟨S8x2x4x8192x8448, .f32⟩
  | .hbm, ⟨11, _⟩ => ⟨S_, .f32⟩
  | .hbm, ⟨12, _⟩ => ⟨S8x2x4x8192, .f32⟩
  | .hbm, ⟨13, _⟩ => ⟨S_, .f32⟩
  | .hbm, ⟨14, _⟩ => ⟨S8x2x4x8192, .f32⟩
  | .hbm, ⟨15, _⟩ => ⟨S8x2x4x8192, .f32⟩
  | .hbm, ⟨16, _⟩ => ⟨S8x2x4x8192x1, .f32⟩
  | .hbm, ⟨17, _⟩ => ⟨S8x2x4x8192x8448, .f32⟩
  | .hbm, ⟨18, _⟩ => ⟨S8x2x4x8192x8448, .f32⟩
  | .hbm, ⟨19, _⟩ => ⟨S8x2x4x8192x8448, .f32⟩
  | .hbm, ⟨20, _⟩ => ⟨S_, .f32⟩
  | .hbm, ⟨21, _⟩ => ⟨S8x2x4x8192, .f32⟩
  | .hbm, ⟨22, _⟩ => ⟨S8x2x4x8192x1, .f32⟩
  | .hbm, ⟨23, _⟩ => ⟨S8x2x4x8192x8448, .f32⟩
  | .hbm, ⟨24, _⟩ => ⟨S8x2x4x8192x8448, .f32⟩
  | .hbm, ⟨25, _⟩ => ⟨S8x2x64x4x8192, .f32⟩
  | .hbm, ⟨26, _⟩ => ⟨S8x8192x2x4x64, .f32⟩
  | .hbm, ⟨27, _⟩ => ⟨S8x8192x512, .f32⟩
  | .hbm, ⟨28, _⟩ => ⟨S8x8192x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Ffn.lean ====
abbrev S8x8192x1024 : Shape := ⟨3, ![8, 8192, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 15
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x2816, .f32⟩
  | .hbm, ⟨33, _⟩ => ⟨S8x8192x2816, .f32⟩
  | .hbm, ⟨34, _⟩ => ⟨S8x8192x2816, .f32⟩
  | .hbm, ⟨35, _⟩ => ⟨S_, .f32⟩
  | .hbm, ⟨36, _⟩ => ⟨S8x8192x2816, .f32⟩
  | .hbm, ⟨37, _⟩ => ⟨S8x8192x2816, .f32⟩
  | .hbm, ⟨38, _⟩ => ⟨S_, .f32⟩
  | .hbm, ⟨39, _⟩ => ⟨S8x8192x2816, .f32⟩
  | .hbm, ⟨40, _⟩ => ⟨S8x8192x2816, .f32⟩
  | .hbm, ⟨41, _⟩ => ⟨S8x8192x2816, .f32⟩
  | .hbm, ⟨42, _⟩ => ⟨S8x8192x2816, .f32⟩
  | .hbm, ⟨43, _⟩ => ⟨S8x8192x2816, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1, .f32⟩
  | .hbm, ⟨59, _⟩ => ⟨S8x8192x1024, .f32⟩
  | .hbm, ⟨60, _⟩ => ⟨S8x8192x1024, .f32⟩
  | .hbm, ⟨61, _⟩ => ⟨S1x1x1024, .f32⟩
  | .hbm, ⟨62, _⟩ => ⟨S8x8192x1024, .f32⟩
  | .hbm, ⟨63, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Merge.lean ====
abbrev S8x8192x512 : Shape := ⟨3, ![8, 8192, 512]⟩
abbrev S8x8192x256 : Shape := ⟨3, ![8, 8192, 256]⟩
abbrev S8x8192x1024 : Shape := ⟨3, ![8, 8192, 1024]⟩
abbrev S8x1x1024 : Shape := ⟨3, ![8, 1, 1024]⟩
abbrev S1024 : Shape := ⟨1, ![1024]⟩
abbrev S1024x4096 : Shape := ⟨2, ![1024, 4096]⟩
abbrev S512x1024 : Shape := ⟨2, ![512, 1024]⟩
abbrev S256x1024 : Shape := ⟨2, ![256, 1024]⟩
abbrev S1024x1024 : Shape := ⟨2, ![1024, 1024]⟩
abbrev S4x2x8192x2x128 : Shape := ⟨5, ![4, 2, 8192, 2, 128]⟩
abbrev S4x2x2x8192x128 : Shape := ⟨5, ![4, 2, 2, 8192, 128]⟩
abbrev S1x1024 : Shape := ⟨2, ![1, 1024]⟩
abbrev S1x1024x512 : Shape := ⟨3, ![1, 1024, 512]⟩
abbrev S1x2x1x1024x128 : Shape := ⟨5, ![1, 2, 1, 1024, 128]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1x256x1024 : Shape := ⟨3, ![1, 256, 1024]⟩
abbrev S256 : Shape := ⟨1, ![256]⟩
abbrev S256x1 : Shape := ⟨2, ![256, 1]⟩
abbrev S1x1x1x256x128 : Shape := ⟨5, ![1, 1, 1, 256, 128]⟩
abbrev S256x128 : Shape := ⟨2, ![256, 128]⟩
abbrev S256x256 : Shape := ⟨2, ![256, 256]⟩
abbrev S1x256x512 : Shape := ⟨3, ![1, 256, 512]⟩
abbrev S256x512 : Shape := ⟨2, ![256, 512]⟩
abbrev S1x256x256 : Shape := ⟨3, ![1, 256, 256]⟩

abbrev nBuf : Space → Nat
  | .hbm => 28
  | .vmem => 25
  | .smem => 0
  | _ => 0

abbrev bufTy : (tb : Table) → Fin (tcTables nBuf tb) → BufTy
  | .hbm, ⟨0, _⟩ => ⟨S8x8192x512, .f32⟩
  | .hbm, ⟨1, _⟩ => ⟨S8x8192x256, .f32⟩
  | .hbm, ⟨2, _⟩ => ⟨S8x8192x256, .f32⟩
  | .hbm, ⟨3, _⟩ => ⟨S8x8192x256, .f32⟩
  | .hbm, ⟨4, _⟩ => ⟨S8x8192x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S1024x4096, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S1024x1024, .f32⟩
  | .hbm, ⟨15, _⟩ => ⟨S4x2x8192x2x128, .f32⟩
  | .hbm, ⟨16, _⟩ => ⟨S4x2x2x8192x128, .f32⟩
  | .hbm, ⟨17, _⟩ => ⟨S1024x4096, .bf16⟩
  | .hbm, ⟨18, _⟩ => ⟨S512x1024, .bf16⟩
  | .hbm, ⟨19, _⟩ => ⟨S256x1024, .bf16⟩
  | .hbm, ⟨20, _⟩ => ⟨S256x1024, .bf16⟩
  | .hbm, ⟨21, _⟩ => ⟨S256x1024, .bf16⟩
  | .hbm, ⟨22, _⟩ => ⟨S1024x1024, .bf16⟩
  | .hbm, ⟨23, _⟩ => ⟨S8x8192x512, .bf16⟩
  | .hbm, ⟨24, _⟩ => ⟨S8x8192x256, .bf16⟩
  | .hbm, ⟨25, _⟩ => ⟨S8x8192x256, .bf16⟩
  | .hbm, ⟨26, _⟩ => ⟨S1x1024, .f32⟩
  | .hbm, ⟨27, _⟩ => ⟨S8x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x2x1x1024x128, .f32⟩
  | .local _ .vmem, ⟨3, _⟩ => ⟨S1x2x1x1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x4096, .bf16⟩
  | .local _ .vmem, ⟨18, _⟩ => ⟨S512x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S1x1024x1024, .f32⟩
  | .local _ .vmem, ⟨24, _⟩ => ⟨S1x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, arg1.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S8x8192x512 : Shape := ⟨3, ![8, 8192, 512]⟩
abbrev S8x8192x256 : Shape := ⟨3, ![8, 8192, 256]⟩
abbrev S8x8192x1024 : Shape := ⟨3, ![8, 8192, 1024]⟩
abbrev S8x1x1024 : Shape := ⟨3, ![8, 1, 1024]⟩
abbrev S1024 : Shape := ⟨1, ![1024]⟩
abbrev S1024x4096 : Shape := ⟨2, ![1024, 4096]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S8x8192x4x1024 : Shape := ⟨4, ![8, 8192, 4, 1024]⟩
abbrev S8x8192x1x1024 : Shape := ⟨4, ![8, 8192, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x256, .f32⟩
  | .hbm, ⟨2, _⟩ => ⟨S8x8192x256, .f32⟩
  | .hbm, ⟨3, _⟩ => ⟨S8x8192x256, .f32⟩
  | .hbm, ⟨4, _⟩ => ⟨S8x8192x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S1024x4096, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S1024x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x4096, .f32⟩
  | .hbm, ⟨39, _⟩ => ⟨S8x8192x4x1024, .f32⟩
  | .hbm, ⟨40, _⟩ => ⟨S8x8192x4x1024, .f32⟩
  | .hbm, ⟨41, _⟩ => ⟨S8x8192x4x1024, .f32⟩
  | .hbm, ⟨42, _⟩ => ⟨S_, .f32⟩
  | .hbm, ⟨43, _⟩ => ⟨S8x8192x4x1024, .f32⟩
  | .hbm, ⟨44, _⟩ => ⟨S8x8192x4x1024, .f32⟩
  | .hbm, ⟨45, _⟩ => ⟨S_, .f32⟩
  | .hbm, ⟨46, _⟩ => ⟨S8x8192x4x1024, .f32⟩
  | .hbm, ⟨47, _⟩ => ⟨S8x8192x4x1024, .f32⟩
  | .hbm, ⟨48, _⟩ => ⟨S8x8192x1x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Inproj.lean ====
abbrev S8x8192x1024 : Shape := ⟨3, ![8, 8192, 1024]⟩
abbrev S8x1x1024 : Shape := ⟨3, ![8, 1, 1024]⟩
abbrev S1024 : Shape := ⟨1, ![1024]⟩
abbrev S1024x6400 : Shape := ⟨2, ![1024, 6400]⟩
abbrev S1024x512 : Shape := ⟨2, ![1024, 512]⟩
abbrev S1024x256 : Shape := ⟨2, ![1024, 256]⟩
abbrev S1024x768 : Shape := ⟨2, ![1024, 768]⟩
abbrev S1024x2304 : Shape := ⟨2, ![1024, 2304]⟩
abbrev S1x1024 : Shape := ⟨2, ![1, 1024]⟩
abbrev S8x8192x2304 : Shape := ⟨3, ![8, 8192, 2304]⟩
abbrev S1x1024x1024 : Shape := ⟨3, ![1, 1024, 1024]⟩
abbrev S1x1x1024 : Shape := ⟨3, ![1, 1, 1024]⟩
abbrev S1x1024x2304 : Shape := ⟨3, ![1, 1024, 2304]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2304 : Shape := ⟨2, ![256, 2304]⟩
abbrev S1x256x2304 : Shape := ⟨3, ![1, 256, 2304]⟩

abbrev nBuf : Space → Nat
  | .hbm => 14
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6400, .f32⟩
  | .hbm, ⟨5, _⟩ => ⟨S1024x512, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x768, .f32⟩
  | .hbm, ⟨10, _⟩ => ⟨S1024x2304, .f32⟩
  | .hbm, ⟨11, _⟩ => ⟨S1024x2304, .bf16⟩
  | .hbm, ⟨12, _⟩ => ⟨S1x1024, .f32⟩
  | .hbm, ⟨13, _⟩ => ⟨S8x8192x2304, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2304, .bf16⟩
  | .local _ .vmem, ⟨8, _⟩ => ⟨S1x1024x2304, .f32⟩
  | .local _ .vmem, ⟨9, _⟩ => ⟨S1x1024x2304, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x6400 : Shape := ⟨2, ![1024, 6400]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6400 : Shape := ⟨3, ![8, 8192, 6400]⟩
abbrev S8x8192x768 : Shape := ⟨3, ![8, 8192, 768]⟩
abbrev S8x8192x2304 : Shape := ⟨3, ![8, 8192, 2304]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6400, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x6400, .f32⟩
  | .hbm, ⟨29, _⟩ => ⟨S8x8192x768, .f32⟩
  | .hbm, ⟨30, _⟩ => ⟨S8x8192x768, .f32⟩
  | .hbm, ⟨31, _⟩ => ⟨S8x8192x768, .f32⟩
  | .hbm, ⟨32, _⟩ => ⟨S8x8192x2304, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Mod.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Local.lean ====
abbrev S8x8192x2304 : Shape := ⟨3, ![8, 8192, 2304]⟩
abbrev S3x768 : Shape := ⟨2, ![3, 768]⟩
abbrev S768 : Shape := ⟨1, ![768]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S4x4 : Shape := ⟨2, ![4, 4]⟩
abbrev S_ : Shape := ⟨0, ![]⟩
abbrev S1x768 : Shape := ⟨2, ![1, 768]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S4x2x2x8192x128 : Shape := ⟨5, ![4, 2, 2, 8192, 128]⟩
abbrev S8x8192x256 : Shape := ⟨3, ![8, 8192, 256]⟩
abbrev S1x1024x768 : Shape := ⟨3, ![1, 1024, 768]⟩
abbrev S1x8x768 : Shape := ⟨3, ![1, 8, 768]⟩
abbrev S1x1024x256 : Shape := ⟨3, ![1, 1024, 256]⟩
abbrev S1x8x256 : Shape := ⟨3, ![1, 8, 256]⟩
abbrev S1x2x1x1024x128 : Shape := ⟨5, ![1, 2, 1, 1024, 128]⟩
abbrev S1024x768 : Shape := ⟨2, ![1024, 768]⟩
abbrev S1x1x768 : Shape := ⟨3, ![1, 1, 768]⟩
abbrev S1024x128 : Shape := ⟨2, ![1024, 128]⟩
abbrev S1x1x1x1024x128 : Shape := ⟨5, ![1, 1, 1, 1024, 128]⟩
abbrev S1024x256 : Shape := ⟨2, ![1024, 256]⟩
abbrev S8x256 : Shape := ⟨2, ![8, 256]⟩
abbrev S1040x256 : Shape := ⟨2, ![1040, 256]⟩
abbrev S1024 : Shape := ⟨1, ![1024]⟩
abbrev S1024x1 : Shape := ⟨2, ![1024, 1]⟩
abbrev S1x128x128 : Shape := ⟨3, ![1, 128, 128]⟩
abbrev S128x128 : Shape := ⟨2, ![128, 128]⟩
abbrev S1x128x256 : Shape := ⟨3, ![1, 128, 256]⟩

abbrev nBuf : Space → Nat
  | .hbm => 34
  | .vmem => 33
  | .smem => 0
  | _ => 0

abbrev bufTy : (tb : Table) → Fin (tcTables nBuf tb) → BufTy
  | .hbm, ⟨0, _⟩ => ⟨S8x8192x2304, .f32⟩
  | .hbm, ⟨1, _⟩ => ⟨S3x768, .f32⟩
  | .hbm, ⟨2, _⟩ => ⟨S768, .f32⟩
  | .hbm, ⟨3, _⟩ => ⟨S4x64x64, .f32⟩
  | .hbm, ⟨4, _⟩ => ⟨S256, .f32⟩
  | .hbm, ⟨5, _⟩ => ⟨S256, .f32⟩
  | .hbm, ⟨6, _⟩ => ⟨S4x128x128, .f32⟩
  | .hbm, ⟨7, _⟩ => ⟨S4x128, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S1x768, .f32⟩
  | .hbm, ⟨16, _⟩ => ⟨S4x1x4x1, .f32⟩
  | .hbm, ⟨17, _⟩ => ⟨S4x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S1x256, .f32⟩
  | .hbm, ⟨24, _⟩ => ⟨S1x256, .f32⟩
  | .hbm, ⟨25, _⟩ => ⟨S4x128x128, .bf16⟩
  | .hbm, ⟨26, _⟩ => ⟨S128x4, .f32⟩
  | .hbm, ⟨27, _⟩ => ⟨S128x4x64, .f32⟩
  | .hbm, ⟨28, _⟩ => ⟨S128x256, .f32⟩
  | .hbm, ⟨29, _⟩ => ⟨S4x2x2x8192x128, .f32⟩
  | .hbm, ⟨30, _⟩ => ⟨S4x2x2x8192x128, .f32⟩
  | .hbm, ⟨31, _⟩ => ⟨S4x2x2x8192x128, .f32⟩
  | .hbm, ⟨32, _⟩ => ⟨S8x8192x256, .bf16⟩
  | .hbm, ⟨33, _⟩ => ⟨S8x8192x256, .bf16⟩
  | .local _ .vmem, ⟨0, _⟩ => ⟨S1x1024x768, .f32⟩
  | .local _ .vmem, ⟨1, _⟩ => ⟨S1x1024x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x1024x256, .f32⟩
  | .local _ .vmem, ⟨7, _⟩ => ⟨S1x1024x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S3x768, .f32⟩
  | .local _ .vmem, ⟨17, _⟩ => ⟨S1x768, .f32⟩
  | .local _ .vmem, ⟨18, _⟩ => ⟨S256x256, .bf16⟩
  | .local _ .vmem, ⟨19, _⟩ => ⟨S1x256, .f32⟩
  | .local _ .vmem, ⟨20, _⟩ => ⟨S1x256, .f32⟩
  | .local _ .vmem, ⟨21, _⟩ => ⟨S4x128x128, .bf16⟩
  | .local _ .vmem, ⟨22, _⟩ => ⟨S128x256, .f32⟩
  | .local _ .vmem, ⟨23, _⟩ => ⟨S1x2x1x1024x128, .f32⟩
  | .local _ .vmem, ⟨24, _⟩ => ⟨S1x2x1x1024x128, .f32⟩
  | .local _ .vmem, ⟨25, _⟩ => ⟨S1x2x1x1024x128, .f32⟩
  | .local _ .vmem, ⟨26, _⟩ => ⟨S1x2x1x1024x128, .f32⟩
  | .local _ .vmem, ⟨27, _⟩ => ⟨S1x2x1x1024x128, .f32⟩
  | .local _ .vmem, ⟨28, _⟩ => ⟨S1x2x1x1024x128, .f32⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x1024x256, .bf16⟩
  | _, _ => ⟨S8x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c2_i32 : BitVec 32 := 2#32
  let c0_i32 : BitVec 32 := 0#32
  ![arg0.toNat, v2.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c3_i32 : BitVec 32 := 3#32
  let c0_i32 : BitVec 32 := 0#32
  ![arg0.toNat, v2.toNat, c3_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, arg1.toNat, c0_i32_11.toNat]

def cc0_transform_16 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, arg1.toNat, c0_i32_11.toNat]

def cc0_transform_17 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, arg1.toNat, c0_i32_11.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2x1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== LocalRefIdeal.lean ====
abbrev S8x8192x2304 : Shape := ⟨3, ![8, 8192, 2304]⟩
abbrev S3x768 : Shape := ⟨2, ![3, 768]⟩
abbrev S768 : Shape := ⟨1, ![768]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S8x8192x768 : Shape := ⟨3, ![8, 8192, 768]⟩
abbrev S_ : Shape := ⟨0, ![]⟩
abbrev S8x8194x768 : Shape := ⟨3, ![8, 8194, 768]⟩
abbrev S1x768 : Shape := ⟨2, ![1, 768]⟩
abbrev S1x1x768 : Shape := ⟨3, ![1, 1, 768]⟩
abbrev S8x8192x256 : Shape := ⟨3, ![8, 8192, 256]⟩
abbrev S8192 : Shape := ⟨1, ![8192]⟩
abbrev S8x8192x64 : Shape := ⟨3, ![8, 8192, 64]⟩
abbrev S8x8194x64 : Shape := ⟨3, ![8, 8194, 64]⟩
abbrev S1x8192x1 : Shape := ⟨3, ![1, 8192, 1]⟩
abbrev S1x64x64 : Shape := ⟨3, ![1, 64, 64]⟩
abbrev S64x64 : Shape := ⟨2, ![64, 64]⟩
abbrev S8x8196x64 : Shape := ⟨3, ![8, 8196, 64]⟩
abbrev S8x8200x64 : Shape := ⟨3, ![8, 8200, 64]⟩
abbrev S8x8208x64 : Shape := ⟨3, ![8, 8208, 64]⟩
abbrev S1x1x256 : Shape := ⟨3, ![1, 1, 256]⟩
abbrev S8x8192 : Shape := ⟨2, ![8, 8192]⟩
abbrev S8x8192x1 : Shape := ⟨3, ![8, 8192, 1]⟩
abbrev S8x64x128x4x64 : Shape := ⟨5, ![8, 64, 128, 4, 64]⟩
abbrev S4x8x64x64x128 : Shape := ⟨5, ![4, 8, 64, 64, 128]⟩
abbrev S128x4 : Shape := ⟨2, ![128, 4]⟩
abbrev S1x1x128x4x1 : Shape := ⟨5, ![1, 1, 128, 4, 1]⟩
abbrev S4x2x8192x2x128 : Shape := ⟨5, ![4, 2, 8192, 2, 128]⟩
abbrev S4x2x2x8192x128 : Shape := ⟨5, ![4, 2, 2, 8192, 128]⟩

abbrev nBuf : Space → Nat
  | .hbm => 243
  | .vmem => 0
  | .smem => 0
  | _ => 0

abbrev hbmTy0_0 (i : Nat) : BufTy := match i % 128 with
  | 0 => ⟨S8x8192x2304, .f32⟩
  | 1 => ⟨S3x768, .f32⟩
  | 2 => ⟨S768, .f32⟩
  | 3 => ⟨S4x64x64, .f32⟩
  | 4 => ⟨S256, .f32⟩
  | 5 => ⟨S256, .f32⟩
  | 6 => ⟨S4x128x128, .f32⟩
  | 7 => ⟨S4x128, .f32⟩
  | 8 => ⟨S8x8192x768, .f32⟩
  | 9 => ⟨S_, .i32⟩
  | 10 => ⟨S_, .f32⟩
  | 11 => ⟨S8x8194x768, .f32⟩
  | 12 => ⟨S8x8192x768, .f32⟩
  | 13 => ⟨S1x768, .f32⟩
  | 14 => ⟨S768, .f32⟩
  | 15 => ⟨S1x1x768, .f32⟩
  | 16 => ⟨S8x8192x768, .f32⟩
  | 17 => ⟨S8x8192x768, .f32⟩
  | 18 => ⟨S8x8192x768, .f32⟩
  | 19 => ⟨S1x768, .f32⟩
  | 20 => ⟨S768, .f32⟩
  | 21 => ⟨S1x1x768, .f32⟩
  | 22 => ⟨S8x8192x768, .f32⟩
  | 23 => ⟨S8x8192x768, .f32⟩
  | 24 => ⟨S8x8192x768, .f32⟩
  | 25 => ⟨S8x8192x768, .f32⟩
  | 26 => ⟨S1x768, .f32⟩
  | 27 => ⟨S768, .f32⟩
  | 28 => ⟨S1x1x768, .f32⟩
  | 29 => ⟨S8x8192x768, .f32⟩
  | 30 => ⟨S8x8192x768, .f32⟩
  | 31 => ⟨S8x8192x768, .f32⟩
  | 32 => ⟨S1x1x768, .f32⟩
  | 33 => ⟨S8x8192x768, .f32⟩
  | 34 => ⟨S8x8192x768, .f32⟩
  | 35 => ⟨S8x8192x256, .f32⟩
  | 36 => ⟨S8x8192x256, .f32⟩
  | 37 => ⟨S8x8192x256, .f32⟩
  | 38 => ⟨S8x8192x256, .f32⟩
  | 39 => ⟨S8192, .i32⟩
  | 40 => ⟨S8x8192x64, .f32⟩
  | 41 => ⟨S_, .i32⟩
  | 42 => ⟨S_, .f32⟩
  | 43 => ⟨S8x8194x64, .f32⟩
  | 44 => ⟨S8x8192x64, .f32⟩
  | 45 => ⟨S8x8192x64, .f32⟩
  | 46 => ⟨S8x8192x64, .f32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .i32⟩
  | 60 => ⟨S8192, .f32⟩
  | 61 => ⟨S1x8192x1, .f32⟩
  | 62 => ⟨S8x8192x64, .f32⟩
  | 63 => ⟨S8x8192x64, .f32⟩
  | 64 => ⟨S8x8192x64, .f32⟩
  | 65 => ⟨S1x64x64, .f32⟩
  | 66 => ⟨S64x64, .f32⟩
  | 67 => ⟨S8x8192x64, .f32⟩
  | 68 => ⟨S8x8192x64, .f32⟩
  | 69 => ⟨S_, .i32⟩
  | 70 => ⟨S_, .f32⟩
  | 71 => ⟨S8x8196x64, .f32⟩
  | 72 => ⟨S8x8192x64, .f32⟩
  | 73 => ⟨S8x8192x64, .f32⟩
  | 74 => ⟨S8x8192x64, .f32⟩
  | 75 => ⟨S8x8192x64, .f32⟩
  | 76 => ⟨S8x8192x64, .f32⟩
  | 77 => ⟨S8x8192x64, .f32⟩
  | 78 => ⟨S8x8192x64, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .i32⟩
  | 92 => ⟨S8192, .f32⟩
  | 93 => ⟨S1x8192x1, .f32⟩
  | 94 => ⟨S8x8192x64, .f32⟩
  | 95 => ⟨S8x8192x64, .f32⟩
  | 96 => ⟨S8x8192x64, .f32⟩
  | 97 => ⟨S1x64x64, .f32⟩
  | 98 => ⟨S64x64, .f32⟩
  | 99 => ⟨S8x8192x64, .f32⟩
  | 100 => ⟨S8x8192x64, .f32⟩
  | 101 => ⟨S_, .i32⟩
  | 102 => ⟨S_, .f32⟩
  | 103 => ⟨S8x8200x64, .f32⟩
  | 104 => ⟨S8x8192x64, .f32⟩
  | 105 => ⟨S8x8192x64, .f32⟩
  | 106 => ⟨S8x8192x64, .f32⟩
  | 107 => ⟨S8x8192x64, .f32⟩
  | 108 => ⟨S8x8192x64, .f32⟩
  | 109 => ⟨S8x8192x64, .f32⟩
  | 110 => ⟨S8x8192x64, .f32⟩
  | 111 => ⟨S8x8192x64, .f32⟩
  | 112 => ⟨S8x8192x64, .f32⟩
  | 113 => ⟨S8x8192x64, .f32⟩
  | 114 => ⟨S8x8192x64, .f32⟩
  | 115 => ⟨S8x8192x64, .f32⟩
  | 116 => ⟨S8x8192x64, .f32⟩
  | 117 => ⟨S8x8192x64, .f32⟩
  | 118 => ⟨S8x8192x64, .f32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S8x8192x2304, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192, .f32⟩
  | 5 => ⟨S1x8192x1, .f32⟩
  | 6 => ⟨S8x8192x64, .f32⟩
  | 7 => ⟨S8x8192x64, .f32⟩
  | 8 => ⟨S8x8192x64, .f32⟩
  | 9 => ⟨S1x64x64, .f32⟩
  | 10 => ⟨S64x64, .f32⟩
  | 11 => ⟨S8x8192x64, .f32⟩
  | 12 => ⟨S8x8192x64, .f32⟩
  | 13 => ⟨S_, .i32⟩
  | 14 => ⟨S_, .f32⟩
  | 15 => ⟨S8x8208x64, .f32⟩
  | 16 => ⟨S8x8192x64, .f32⟩
  | 17 => ⟨S8x8192x64, .f32⟩
  | 18 => ⟨S8x8192x64, .f32⟩
  | 19 => ⟨S8x8192x64, .f32⟩
  | 20 => ⟨S8x8192x64, .f32⟩
  | 21 => ⟨S8x8192x64, .f32⟩
  | 22 => ⟨S8x8192x64, .f32⟩
  | 23 => ⟨S8x8192x64, .f32⟩
  | 24 => ⟨S8x8192x64, .f32⟩
  | 25 => ⟨S8x8192x64, .f32⟩
  | 26 => ⟨S8x8192x64, .f32⟩
  | 27 => ⟨S8x8192x64, .f32⟩
  | 28 => ⟨S8x8192x64, .f32⟩
  | 29 => ⟨S8x8192x64, .f32⟩
  | 30 => ⟨S8x8192x64, .f32⟩
  | 31 => ⟨S8x8192x64, .f32⟩
  | 32 => ⟨S8x8192x64, .f32⟩
  | 33 => ⟨S8x8192x64, .f32⟩
  | 34 => ⟨S8x8192x64, .f32⟩
  | 35 => ⟨S8x8192x64, .f32⟩
  | 36 => ⟨S8x8192x64, .f32⟩
  | 37 => ⟨S8x8192x64, .f32⟩
  | 38 => ⟨S8x8192x64, .f32⟩
  | 39 => ⟨S8x8192x64, .f32⟩
  | 40 => ⟨S8x8192x64, .f32⟩
  | 41 => ⟨S8x8192x64, .f32⟩
  | 42 => ⟨S8x8192x64, .f32⟩
  | 43 => ⟨S8x8192x64, .f32⟩
  | 44 => ⟨S8x8192x64, .f32⟩
  | 45 => ⟨S8x8192x64, .f32⟩
  | 46 => ⟨S8x8192x64, .f32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .i32⟩
  | 60 => ⟨S8192, .f32⟩
  | 61 => ⟨S1x8192x1, .f32⟩
  | 62 => ⟨S8x8192x64, .f32⟩
  | 63 => ⟨S8x8192x64, .f32⟩
  | 64 => ⟨S8x8192x64, .f32⟩
  | 65 => ⟨S1x64x64, .f32⟩
  | 66 => ⟨S64x64, .f32⟩
  | 67 => ⟨S8x8192x64, .f32⟩
  | 68 => ⟨S8x8192x256, .f32⟩
  | 69 => ⟨S1x1x256, .f32⟩
  | 70 => ⟨S8x8192x256, .f32⟩
  | 71 => ⟨S8x8192x256, .f32⟩
  | 72 => ⟨S8x8192x256, .bf16⟩
  | 73 => ⟨S8x8192x256, .f32⟩
  | 74 => ⟨S8x8192x256, .f32⟩
  | 75 => ⟨S_, .f32⟩
  | 76 => ⟨S8x8192, .f32⟩
  | 77 => ⟨S8x8192x1, .f32⟩
  | 78 => ⟨S_, .f32⟩
  | 79 => ⟨S8x8192x1, .f32⟩
  | 80 => ⟨S8x8192x1, .f32⟩
  | 81 => ⟨S8x8192x256, .f32⟩
  | 82 => ⟨S8x8192x256, .f32⟩
  | 83 => ⟨S8x8192x256, .f32⟩
  | 84 => ⟨S_, .f32⟩
  | 85 => ⟨S8x8192, .f32⟩
  | 86 => ⟨S8x8192x1, .f32⟩
  | 87 => ⟨S_, .f32⟩
  | 88 => ⟨S8x8192x1, .f32⟩
  | 89 => ⟨S8x8192x1, .f32⟩
  | 90 => ⟨S_, .f32⟩
  | 91 => ⟨S8x8192x1, .f32⟩
  | 92 => ⟨S8x8192x1, .f32⟩
  | 93 => ⟨S8x8192x1, .f32⟩
  | 94 => ⟨S8x8192x256, .f32⟩
  | 95 => ⟨S8x8192x256, .f32⟩
  | 96 => ⟨S1x1x256, .f32⟩
  | 97 => ⟨S8x8192x256, .f32⟩
  | 98 => ⟨S8x8192x256, .f32⟩
  | 99 => ⟨S8x64x128x4x64, .f32⟩
  | 100 => ⟨S4x8x64x64x128, .f32⟩
  | 101 => ⟨S8x64x128x4x64, .f32⟩
  | 102 => ⟨S128x4, .f32⟩
  | 103 => ⟨S1x1x128x4x1, .f32⟩
  | 104 => ⟨S8x64x128x4x64, .f32⟩
  | 105 => ⟨S8x64x128x4x64, .f32⟩
  | 106 => ⟨S8x8192x256, .f32⟩
  | 107 => ⟨S8x8192x256, .f32⟩
  | 108 => ⟨S8x8192x256, .bf16⟩
  | 109 => ⟨S4x2x8192x2x128, .f32⟩
  | 110 => ⟨S4x2x2x8192x128, .f32⟩
  | 111 => ⟨S4x2x8192x2x128, .f32⟩
  | 112 => ⟨S4x2x2x8192x128, .f32⟩
  | 113 => ⟨S4x2x8192x2x128, .f32⟩
  | 114 => ⟨S4x2x2x8192x128, .f32⟩
  | _ => ⟨S8x8192x2304, .f32⟩

abbrev hbmTy (i : Nat) : BufTy := match i / 128 with
  | 0 => hbmTy0_0 i
  | 1 => hbmTy0_1 i
  | _ => ⟨S8x8192x2304, .f32⟩

abbrev bufTy : (tb : Table) → Fin (tcTables nBuf tb) → BufTy
  | .hbm, ⟨i, _⟩ => hbmTy i
  | _, _ => ⟨S8x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_0 : Ref sig .tc := ⟨.hbm, 41, rfl⟩
abbrev main_call1_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_v35 : Ref sig .tc := ⟨.hbm, 48, rfl⟩
abbrev main_v36 : Ref sig .tc := ⟨.hbm, 49, rfl⟩
abbrev main_c_2 : Ref sig .tc := ⟨.hbm, 50, rfl⟩
abbrev main_v37 : Ref sig .tc := ⟨.hbm, 51, rfl⟩
abbrev main_v38 : Ref sig .tc := ⟨.hbm, 52, rfl⟩
abbrev main_c_3 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_5 : Ref sig .tc := ⟨.hbm, 69, rfl⟩
abbrev main_call2_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_6 : Ref sig .tc := ⟨.hbm, 79, rfl⟩
abbrev main_v61 : Ref sig .tc := ⟨.hbm, 80, rfl⟩
abbrev main_v62 : Ref sig .tc := ⟨.hbm, 81, rfl⟩
abbrev main_c_7 : Ref sig .tc := ⟨.hbm, 82, rfl⟩
abbrev main_v63 : Ref sig .tc := ⟨.hbm, 83, rfl⟩
abbrev main_v64 : Ref sig .tc := ⟨.hbm, 84, rfl⟩
abbrev main_c_8 : Ref sig .tc := ⟨.hbm, 85, rfl⟩
abbrev main_v65 : Ref sig .tc := ⟨.hbm, 86, rfl⟩
abbrev main_v66 : Ref sig .tc := ⟨.hbm, 87, rfl⟩
abbrev main_c_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_10 : Ref sig .tc := ⟨.hbm, 101, rfl⟩
abbrev main_call3_v0 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_11 : Ref sig .tc := ⟨.hbm, 119, rfl⟩
abbrev main_v95 : Ref sig .tc := ⟨.hbm, 120, rfl⟩
abbrev main_v96 : Ref sig .tc := ⟨.hbm, 121, rfl⟩
abbrev main_c_12 : Ref sig .tc := ⟨.hbm, 122, rfl⟩
abbrev main_v97 : Ref sig .tc := ⟨.hbm, 123, rfl⟩
abbrev main_v98 : Ref sig .tc := ⟨.hbm, 124, rfl⟩
abbrev main_c_13 : Ref sig .tc := ⟨.hbm, 125, rfl⟩
abbrev main_v99 : Ref sig .tc := ⟨.hbm, 126, rfl⟩
abbrev main_v100 : Ref sig .tc := ⟨.hbm, 127, rfl⟩
abbrev main_c_14 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_15 : Ref sig .tc := ⟨.hbm, 141, rfl⟩
abbrev main_call4_v0 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c_16 : Ref sig .tc := ⟨.hbm, 175, rfl⟩
abbrev main_v145 : Ref sig .tc := ⟨.hbm, 176, rfl⟩
abbrev main_v146 : Ref sig .tc := ⟨.hbm, 177, rfl⟩
abbrev main_c_17 : Ref sig .tc := ⟨.hbm, 178, rfl⟩
abbrev main_v147 : Ref sig .tc := ⟨.hbm, 179, rfl⟩
abbrev main_v148 : Ref sig .tc := ⟨.hbm, 180, rfl⟩
abbrev main_c_18 : Ref sig .tc := ⟨.hbm, 181, rfl⟩
abbrev main_v149 : Ref sig .tc := ⟨.hbm, 182, rfl⟩
abbrev main_v150 : Ref sig .tc := ⟨.hbm, 183, rfl⟩
abbrev main_c_19 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst : Ref sig .tc := ⟨.hbm, 203, rfl⟩
abbrev main_v169 : Ref sig .tc := ⟨.hbm, 204, rfl⟩
abbrev main_v170 : Ref sig .tc := ⟨.hbm, 205, rfl⟩
abbrev main_cst_20 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_cst_21 : Ref sig .tc := ⟨.hbm, 212, rfl⟩
abbrev main_v176 : Ref sig .tc := ⟨.hbm, 213, rfl⟩
abbrev main_v177 : Ref sig .tc := ⟨.hbm, 214, rfl⟩
abbrev main_cst_22 : Ref sig .tc := ⟨.hbm, 215, rfl⟩
abbrev main_v178 : Ref sig .tc := ⟨.hbm, 216, rfl⟩
abbrev main_v179 : Ref sig .tc := ⟨.hbm, 217, rfl⟩
abbrev main_cst_23 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩

abbrev nD : Nat := 1
abbrev τ : Topo := Topo.v7x

variable {F : FTy → Type} [FloatOps F]
-- ==== Proof.Model.lean ====
/- What one grid point of the attention call computes, as functions of the blocks it is given and of the contents of
   its two accumulators (the running maximum and the weighted sums), without memory: one pass over a tile of keys in
   either of its two forms, and the passes composed. -/
module

public import proofs.«01_k».proof.Proof.Gen.KernelIdeal.Skeleton
public import Idealize.ShloMosaic.Lib.Pipeline.FrameBody
public import Idealize.ShloMosaic.Lib.Ring

@[expose] public section

set_option maxRecDepth 16384

noncomputable section

namespace Cert.KernelIdeal.Attn

open Idealize.ShloMosaic Idealize.ShloMosaic.TcCoe Idealize.SL.Sem
open Cert.KernelIdeal.Gen

variable {F : FTy → Type} [FloatOps F]

/-- The block of queries, one column per query: 8 heads, 256 rows. -/
abbrev Q (F : FTy → Type) := Vec F S1x8x256x512 .fp8e4m3
/-- The block of keys: 2 groups, 8448 keys. -/
abbrev K (F : FTy → Type) := Vec F S1x2x8448x256 .fp8e4m3
/-- The block of values: 11 tiles, 2 groups, 80 rows. -/
abbrev W (F : FTy → Type) := Vec F S1x11x2x80x768 .bf16
/-- The running maxima of the 8 heads. -/
abbrev M (F : FTy → Type) := Vec F S8x1x512 .f32
/-- The weighted sums of the 8 heads. -/
abbrev A (F : FTy → Type) := Vec F S8x80x512 .f32

/-- Head 0's queries. -/
abbrev rq0 : Rect S1x8x256x512 := Rect.unit (s := S1x8x256x512) ![0, 0, 0, 0] S1x1x256x512.size inb_S1x8x256x512_S1x1x256x512_0_0_0_0
/-- Head 0's maxima. -/
abbrev rm0 : Rect S8x1x512 := Rect.unit (s := S8x1x512) ![0, 0, 0] S1x1x512.size inb_S8x1x512_S1x1x512_0_0_0
/-- Head 0's sums. -/
abbrev ra0 : Rect S8x80x512 := Rect.unit (s := S8x80x512) ![0, 0, 0] S1x80x512.size inb_S8x80x512_S1x80x512_0_0_0
/-- Head 1's queries. -/
abbrev rq1 : Rect S1x8x256x512 := Rect.unit (s := S1x8x256x512) ![0, 1, 0, 0] S1x1x256x512.size inb_S1x8x256x512_S1x1x256x512_0_1_0_0
/-- Head 1's maxima. -/
abbrev rm1 : Rect S8x1x512 := Rect.unit (s := S8x1x512) ![1, 0, 0] S1x1x512.size inb_S8x1x512_S1x1x512_1_0_0
/-- Head 1's sums. -/
abbrev ra1 : Rect S8x80x512 := Rect.unit (s := S8x80x512) ![1, 0, 0] S1x80x512.size inb_S8x80x512_S1x80x512_1_0_0
/-- Head 2's queries. -/
abbrev rq2 : Rect S1x8x256x512 := Rect.unit (s := S1x8x256x512) ![0, 2, 0, 0] S1x1x256x512.size inb_S1x8x256x512_S1x1x256x512_0_2_0_0
/-- Head 2's maxima. -/
abbrev rm2 : Rect S8x1x512 := Rect.unit (s := S8x1x512) ![2, 0, 0] S1x1x512.size inb_S8x1x512_S1x1x512_2_0_0
/-- Head 2's sums. -/
abbrev ra2 : Rect S8x80x512 := Rect.unit (s := S8x80x512) ![2, 0, 0] S1x80x512.size inb_S8x80x512_S1x80x512_2_0_0
/-- Head 3's queries. -/
abbrev rq3 : Rect S1x8x256x512 := Rect.unit (s := S1x8x256x512) ![0, 3, 0, 0] S1x1x256x512.size inb_S1x8x256x512_S1x1x256x512_0_3_0_0
/-- Head 3's maxima. -/
abbrev rm3 : Rect S8x1x512 := Rect.unit (s := S8x1x512) ![3, 0, 0] S1x1x512.size inb_S8x1x512_S1x1x512_3_0_0
/-- Head 3's sums. -/
abbrev ra3 : Rect S8x80x512 := Rect.unit (s := S8x80x512) ![3, 0, 0] S1x80x512.size inb_S8x80x512_S1x80x512_3_0_0
/-- Head 4's queries. -/
abbrev rq4 : Rect S1x8x256x512 := Rect.unit (s := S1x8x256x512) ![0, 4, 0, 0] S1x1x256x512.size inb_S1x8x256x512_S1x1x256x512_0_4_0_0
/-- Head 4's maxima. -/
abbrev rm4 : Rect S8x1x512 := Rect.unit (s := S8x1x512) ![4, 0, 0] S1x1x512.size inb_S8x1x512_S1x1x512_4_0_0
/-- Head 4's sums. -/
abbrev ra4 : Rect S8x80x512 := Rect.unit (s := S8x80x512) ![4, 0, 0] S1x80x512.size inb_S8x80x512_S1x80x512_4_0_0
/-- Head 5's queries. -/
abbrev rq5 : Rect S1x8x256x512 := Rect.unit (s := S1x8x256x512) ![0, 5, 0, 0] S1x1x256x512.size inb_S1x8x256x512_S1x1x256x512_0_5_0_0
/-- Head 5's maxima. -/
abbrev rm5 : Rect S8x1x512 := Rect.unit (s := S8x1x512) ![5, 0, 0] S1x1x512.size inb_S8x1x512_S1x1x512_5_0_0
/-- Head 5's sums. -/
abbrev ra5 : Rect S8x80x512 := Rect.unit (s := S8x80x512) ![5, 0, 0] S1x80x512.size inb_S8x80x512_S1x80x512_5_0_0
/-- Head 6's queries. -/
abbrev rq6 : Rect S1x8x256x512 := Rect.unit (s := S1x8x256x512) ![0, 6, 0, 0] S1x1x256x512.size inb_S1x8x256x512_S1x1x256x512_0_6_0_0
/-- Head 6's maxima. -/
abbrev rm6 : Rect S8x1x512 := Rect.unit (s := S8x1x512) ![6, 0, 0] S1x1x512.size inb_S8x1x512_S1x1x512_6_0_0
/-- Head 6's sums. -/
abbrev ra6 : Rect S8x80x512 := Rect.unit (s := S8x80x512) ![6, 0, 0] S1x80x512.size inb_S8x80x512_S1x80x512_6_0_0
/-- Head 7's queries. -/
abbrev rq7 : Rect S1x8x256x512 := Rect.unit (s := S1x8x256x512) ![0, 7, 0, 0] S1x1x256x512.size inb_S1x8x256x512_S1x1x256x512_0_7_0_0
/-- Head 7's maxima. -/
abbrev rm7 : Rect S8x1x512 := Rect.unit (s := S8x1x512) ![7, 0, 0] S1x1x512.size inb_S8x1x512_S1x1x512_7_0_0
/-- Head 7's sums. -/
abbrev ra7 : Rect S8x80x512 := Rect.unit (s := S8x80x512) ![7, 0, 0] S1x80x512.size inb_S8x80x512_S1x80x512_7_0_0
/-- The keys of group 0 the first maximum is taken over. -/
abbrev rs0 : Rect S1x2x8448x256 := Rect.unit (s := S1x2x8448x256) ![0, 0, 4224, 0] S1x1x128x256.size inb_S1x2x8448x256_S1x1x128x256_0_0_4224_0
/-- The keys of group 1 the first maximum is taken over. -/
abbrev rs1 : Rect S1x2x8448x256 := Rect.unit (s := S1x2x8448x256) ![0, 1, 4224, 0] S1x1x128x256.size inb_S1x2x8448x256_S1x1x128x256_0_1_4224_0
/-- A tile of keys of group 0. -/
abbrev rku0 (k : Fin k0_t1_loop.trips) : Rect S1x2x8448x256 := Rect.unit (s := S1x2x8448x256) (k0_off1 k) S1x1x768x256.size (k0_off1_inb k)
/-- A tile of values of group 0. -/
abbrev rvu0 (k : Fin k0_t1_loop.trips) : Rect S1x11x2x80x768 := Rect.unit (s := S1x11x2x80x768) (k0_off2 k) S1x1x1x80x768.size (k0_off2_inb k)
/-- A tile of keys of group 1. -/
abbrev rku1 (k : Fin k0_t1_loop.trips) : Rect S1x2x8448x256 := Rect.unit (s := S1x2x8448x256) (k0_off3 k) S1x1x768x256.size (k0_off3_inb k)
/-- A tile of values of group 1. -/
abbrev rvu1 (k : Fin k0_t1_loop.trips) : Rect S1x11x2x80x768 := Rect.unit (s := S1x11x2x80x768) (k0_off4 k) S1x1x1x80x768.size (k0_off4_inb k)
/-- A tile of keys of group 0. -/
abbrev rkw0 (k : Fin k0_t2_loop.trips) : Rect S1x2x8448x256 := Rect.unit (s := S1x2x8448x256) (k0_off5 k) S1x1x768x256.size (k0_off5_inb k)
/-- A tile of values of group 0. -/
abbrev rvw0 (k : Fin k0_t2_loop.trips) : Rect S1x11x2x80x768 := Rect.unit (s := S1x11x2x80x768) (k0_off6 k) S1x1x1x80x768.size (k0_off6_inb k)
/-- A tile of keys of group 1. -/
abbrev rkw1 (k : Fin k0_t2_loop.trips) : Rect S1x2x8448x256 := Rect.unit (s := S1x2x8448x256) (k0_off7 k) S1x1x768x256.size (k0_off7_inb k)
/-- A tile of values of group 1. -/
abbrev rvw1 (k : Fin k0_t2_loop.trips) : Rect S1x11x2x80x768 := Rect.unit (s := S1x11x2x80x768) (k0_off8 k) S1x1x1x80x768.size (k0_off8_inb k)

/-- The scores of a tile of keys against a head's queries. -/
def score (kt : Vec F S1x1x768x256 .fp8e4m3) (qt : Vec F S1x1x256x512 .fp8e4m3) : FVec F S768x512 .f32 :=
  matmul dot_S768x256_S256x512_S768x512_1_0_0_1_n_n none (shapeCast S768x256 kt shapeCasts_S1x1x768x256_S768x256)
    (shapeCast S256x512 qt shapeCasts_S1x1x256x512_S256x512) (constant S768x512 .f32 0x00000000#32)

/-- The largest score of each query over the tile. -/
def top (s : FVec F S768x512 .f32) : FVec F S1x512 .f32 :=
  shapeCast S1x512 (multiReduction .maximumf [0] S512 s 0xFF800000#32 reduces_S768x512_S512 (.inl rfl) rfl) shapeCasts_S512_S1x512

/-- A head's maxima as a row. -/
def row (m : Vec F S1x1x512 .f32) : FVec F S1x512 .f32 := shapeCast S1x512 m shapeCasts_S1x1x512_S1x512

/-- The maxima after a tile, as a row. -/
def rise (s : FVec F S768x512 .f32) (m : Vec F S1x1x512 .f32) : FVec F S1x512 .f32 := maximumf (row m) (top s)

/-- The maxima after a tile. -/
def newM (s : FVec F S768x512 .f32) (m : Vec F S1x1x512 .f32) : FVec F S1x1x512 .f32 :=
  shapeCast S1x1x512 (rise s m) shapeCasts_S1x512_S1x1x512

/-- How far the tile's largest score lies above the maximum before it, kept as a running maximum. -/
def jump (j : FVec F S1x512 .f32) (s : FVec F S768x512 .f32) (m : Vec F S1x1x512 .f32) : FVec F S1x512 .f32 :=
  maximumf j (subf (top s) (row m))

/-- The factor the sums are rescaled by. -/
def scale (s : FVec F S768x512 .f32) (m : Vec F S1x1x512 .f32) : FVec F S80x512 .f32 :=
  broadcastTo S80x512 (exp2 (subf (row m) (rise s m))) broadcasts_S1x512_S80x512

/-- The sums as a matrix. -/
def sums (a : Vec F S1x80x512 .f32) : FVec F S80x512 .f32 := shapeCast S80x512 a shapeCasts_S1x80x512_S80x512

/-- The values' tile times the weights. -/
def weigh (vt : Vec F S1x1x1x80x768 .bf16) (p : FVec F S768x512 .bf16) : FVec F S80x512 .f32 :=
  matmul dot_S80x768_S768x512_S80x512_1_0_0_1_n_n none (shapeCast S80x768 vt shapeCasts_S1x1x1x80x768_S80x768) p
    (constant S80x512 .f32 0x00000000#32)

/-- The weights of a tile against the maximum BEFORE it. -/
def lagP (s : FVec F S768x512 .f32) (m : Vec F S1x1x512 .f32) : FVec F S768x512 .bf16 :=
  exp2 (truncf .bf16 (subf s (broadcastTo S768x512 (row m) broadcasts_S1x512_S768x512)) bitsLt_bf16_f32)

/-- The sums after a tile, weights taken against the maximum before it and the whole rescaled after. -/
def lagA (s : FVec F S768x512 .f32) (m : Vec F S1x1x512 .f32) (a : Vec F S1x80x512 .f32) (vt : Vec F S1x1x1x80x768 .bf16) :
    FVec F S1x80x512 .f32 :=
  shapeCast S1x80x512 (mulf (scale s m) (addf (sums a) (weigh vt (lagP s m)))) shapeCasts_S80x512_S1x80x512

/-- The weights of a tile against the maximum AFTER it. -/
def exP (s : FVec F S768x512 .f32) (m : Vec F S1x1x512 .f32) : FVec F S768x512 .bf16 :=
  truncf .bf16 (exp2 (subf s (broadcastTo S768x512 (rise s m) broadcasts_S1x512_S768x512))) bitsLt_bf16_f32

/-- The sums after a tile, rescaled first and then the weights against the new maximum added. -/
def exA (s : FVec F S768x512 .f32) (m : Vec F S1x1x512 .f32) (a : Vec F S1x80x512 .f32) (vt : Vec F S1x1x1x80x768 .bf16) :
    FVec F S1x80x512 .f32 :=
  shapeCast S1x80x512 (addf (mulf (scale s m) (sums a)) (weigh vt (exP s m))) shapeCasts_S80x512_S1x80x512

/-- The first maximum of a head: over 128 keys. -/
def firstM (kt : Vec F S1x1x128x256 .fp8e4m3) (qt : Vec F S1x1x256x512 .fp8e4m3) : FVec F S1x1x512 .f32 :=
  k0_pay113 kt qt

/-- A head's normalised result: 64 rows of sums over the row of the weights' sum. -/
def norm (a : Vec F S1x80x512 .f32) : FVec F S64x512 .f32 :=
  divf (extractStridedSlice S64x512 ![0, 0] (sums a) slices_S80x512_o0_0_S64x512)
    (broadcastTo S64x512 (extractStridedSlice S1x512 ![64, 0] (sums a) slices_S80x512_o64_0_S1x512) broadcasts_S1x512_S64x512)

/-- Two heads' results side by side, one row per query. -/
def pairO (a b : Vec F S1x80x512 .f32) : FVec F S1x512x128 .bf16 :=
  shapeCast S1x512x128 (truncf .bf16 (transpose S512x128 [1, 0]
    (concatenate S128x512 0 [⟨S64x512, norm a⟩, ⟨S64x512, norm b⟩] concatenates_S64x512_S64x512_S128x512_d0)
    transposes_S128x512_p1_0_S512x128) bitsLt_bf16_f32) shapeCasts_S512x128_S1x512x128

/-- The first maxima. -/
def initL (x0 : Q F) (x1 : K F) : List (View.Piece (Elt F) S8x1x512 .f32) :=
  [⟨rm7, firstM (View.ld x1 rs1) (View.ld x0 rq7)⟩,
    ⟨rm6, firstM (View.ld x1 rs1) (View.ld x0 rq6)⟩,
    ⟨rm5, firstM (View.ld x1 rs1) (View.ld x0 rq5)⟩,
    ⟨rm4, firstM (View.ld x1 rs1) (View.ld x0 rq4)⟩,
    ⟨rm3, firstM (View.ld x1 rs0) (View.ld x0 rq3)⟩,
    ⟨rm2, firstM (View.ld x1 rs0) (View.ld x0 rq2)⟩,
    ⟨rm1, firstM (View.ld x1 rs0) (View.ld x0 rq1)⟩,
    ⟨rm0, firstM (View.ld x1 rs0) (View.ld x0 rq0)⟩]

/-- The first maxima. -/
def initM (x0 : Q F) (x1 : K F) : M F := View.canon (initL x0 x1)

/-- The maxima a lagged pass stores. -/
def uML (k : Fin k0_t1_loop.trips) (x0 : Q F) (x1 : K F) (m : M F) : List (View.Piece (Elt F) S8x1x512 .f32) :=
  [⟨rm7, newM (score (View.ld x1 (rku1 k)) (View.ld x0 rq7)) (View.ld m rm7)⟩,
    ⟨rm6, newM (score (View.ld x1 (rku1 k)) (View.ld x0 rq6)) (View.ld m rm6)⟩,
    ⟨rm5, newM (score (View.ld x1 (rku1 k)) (View.ld x0 rq5)) (View.ld m rm5)⟩,
    ⟨rm4, newM (score (View.ld x1 (rku1 k)) (View.ld x0 rq4)) (View.ld m rm4)⟩,
    ⟨rm3, newM (score (View.ld x1 (rku0 k)) (View.ld x0 rq3)) (View.ld m rm3)⟩,
    ⟨rm2, newM (score (View.ld x1 (rku0 k)) (View.ld x0 rq2)) (View.ld m rm2)⟩,
    ⟨rm1, newM (score (View.ld x1 (rku0 k)) (View.ld x0 rq1)) (View.ld m rm1)⟩,
    ⟨rm0, newM (score (View.ld x1 (rku0 k)) (View.ld x0 rq0)) (View.ld m rm0)⟩]

/-- The sums a lagged pass stores. -/
def uAL (k : Fin k0_t1_loop.trips) (x0 : Q F) (x1 : K F) (x2 : W F) (m : M F) (a : A F) : List (View.Piece (Elt F) S8x80x512 .f32) :=
  [⟨ra7, lagA (score (View.ld x1 (rku1 k)) (View.ld x0 rq7)) (View.ld m rm7) (View.ld a ra7) (View.ld x2 (rvu1 k))⟩,
    ⟨ra6, lagA (score (View.ld x1 (rku1 k)) (View.ld x0 rq6)) (View.ld m rm6) (View.ld a ra6) (View.ld x2 (rvu1 k))⟩,
    ⟨ra5, lagA (score (View.ld x1 (rku1 k)) (View.ld x0 rq5)) (View.ld m rm5) (View.ld a ra5) (View.ld x2 (rvu1 k))⟩,
    ⟨ra4, lagA (score (View.ld x1 (rku1 k)) (View.ld x0 rq4)) (View.ld m rm4) (View.ld a ra4) (View.ld x2 (rvu1 k))⟩,
    ⟨ra3, lagA (score (View.ld x1 (rku0 k)) (View.ld x0 rq3)) (View.ld m rm3) (View.ld a ra3) (View.ld x2 (rvu0 k))⟩,
    ⟨ra2, lagA (score (View.ld x1 (rku0 k)) (View.ld x0 rq2)) (View.ld m rm2) (View.ld a ra2) (View.ld x2 (rvu0 k))⟩,
    ⟨ra1, lagA (score (View.ld x1 (rku0 k)) (View.ld x0 rq1)) (View.ld m rm1) (View.ld a ra1) (View.ld x2 (rvu0 k))⟩,
    ⟨ra0, lagA (score (View.ld x1 (rku0 k)) (View.ld x0 rq0)) (View.ld m rm0) (View.ld a ra0) (View.ld x2 (rvu0 k))⟩]

/-- The maxima after a lagged pass. -/
def uM (k : Fin k0_t1_loop.trips) (x0 : Q F) (x1 : K F) (m : M F) : M F := View.canon (uML k x0 x1 m)

/-- The sums after a lagged pass. -/
def uA (k : Fin k0_t1_loop.trips) (x0 : Q F) (x1 : K F) (x2 : W F) (m : M F) (a : A F) : A F := View.canon (uAL k x0 x1 x2 m a)

/-- The maxima an exact pass stores. -/
def wML (k : Fin k0_t2_loop.trips) (x0 : Q F) (x1 : K F) (m : M F) : List (View.Piece (Elt F) S8x1x512 .f32) :=
  [⟨rm7, newM (score (View.ld x1 (rkw1 k)) (View.ld x0 rq7)) (View.ld m rm7)⟩,
    ⟨rm6, newM (score (View.ld x1 (rkw1 k)) (View.ld x0 rq6)) (View.ld m rm6)⟩,
    ⟨rm5, newM (score (View.ld x1 (rkw1 k)) (View.ld x0 rq5)) (View.ld m rm5)⟩,
    ⟨rm4, newM (score (View.ld x1 (rkw1 k)) (View.ld x0 rq4)) (View.ld m rm4)⟩,
    ⟨rm3, newM (score (View.ld x1 (rkw0 k)) (View.ld x0 rq3)) (View.ld m rm3)⟩,
    ⟨rm2, newM (score (View.ld x1 (rkw0 k)) (View.ld x0 rq2)) (View.ld m rm2)⟩,
    ⟨rm1, newM (score (View.ld x1 (rkw0 k)) (View.ld x0 rq1)) (View.ld m rm1)⟩,
    ⟨rm0, newM (score (View.ld x1 (rkw0 k)) (View.ld x0 rq0)) (View.ld m rm0)⟩]

/-- The sums an exact pass stores. -/
def wAL (k : Fin k0_t2_loop.trips) (x0 : Q F) (x1 : K F) (x2 : W F) (m : M F) (a : A F) : List (View.Piece (Elt F) S8x80x512 .f32) :=
  [⟨ra7, exA (score (View.ld x1 (rkw1 k)) (View.ld x0 rq7)) (View.ld m rm7) (View.ld a ra7) (View.ld x2 (rvw1 k))⟩,
    ⟨ra6, exA (score (View.ld x1 (rkw1 k)) (View.ld x0 rq6)) (View.ld m rm6) (View.ld a ra6) (View.ld x2 (rvw1 k))⟩,
    ⟨ra5, exA (score (View.ld x1 (rkw1 k)) (View.ld x0 rq5)) (View.ld m rm5) (View.ld a ra5) (View.ld x2 (rvw1 k))⟩,
    ⟨ra4, exA (score (View.ld x1 (rkw1 k)) (View.ld x0 rq4)) (View.ld m rm4) (View.ld a ra4) (View.ld x2 (rvw1 k))⟩,
    ⟨ra3, exA (score (View.ld x1 (rkw0 k)) (View.ld x0 rq3)) (View.ld m rm3) (View.ld a ra3) (View.ld x2 (rvw0 k))⟩,
    ⟨ra2, exA (score (View.ld x1 (rkw0 k)) (View.ld x0 rq2)) (View.ld m rm2) (View.ld a ra2) (View.ld x2 (rvw0 k))⟩,
    ⟨ra1, exA (score (View.ld x1 (rkw0 k)) (View.ld x0 rq1)) (View.ld m rm1) (View.ld a ra1) (View.ld x2 (rvw0 k))⟩,
    ⟨ra0, exA (score (View.ld x1 (rkw0 k)) (View.ld x0 rq0)) (View.ld m rm0) (View.ld a ra0) (View.ld x2 (rvw0 k))⟩]

/-- The maxima after an exact pass. -/
def wM (k : Fin k0_t2_loop.trips) (x0 : Q F) (x1 : K F) (m : M F) : M F := View.canon (wML k x0 x1 m)

/-- The sums after an exact pass. -/
def wA (k : Fin k0_t2_loop.trips) (x0 : Q F) (x1 : K F) (x2 : W F) (m : M F) (a : A F) : A F := View.canon (wAL k x0 x1 x2 m a)

/-- The largest rise after a lagged pass. -/
def uJ (k : Fin k0_t1_loop.trips) (x0 : Q F) (x1 : K F) (m : M F) (j : FVec F S1x512 .f32) : FVec F S1x512 .f32 :=
  (jump (jump (jump (jump (jump (jump (jump (jump j (score (View.ld x1 (rku0 k)) (View.ld x0 rq0)) (View.ld m
    rm0)) (score (View.ld x1 (rku0 k)) (View.ld x0 rq1)) (View.ld m rm1)) (score (View.ld x1 (rku0 k)) (View.ld x0
    rq2)) (View.ld m rm2)) (score (View.ld x1 (rku0 k)) (View.ld x0 rq3)) (View.ld m rm3)) (score (View.ld x1
    (rku1 k)) (View.ld x0 rq4)) (View.ld m rm4)) (score (View.ld x1 (rku1 k)) (View.ld x0 rq5)) (View.ld m rm5))
    (score (View.ld x1 (rku1 k)) (View.ld x0 rq6)) (View.ld m rm6)) (score (View.ld x1 (rku1 k)) (View.ld x0 rq7))
    (View.ld m rm7))

/-- The eight stores of maxima cover them. -/
theorem coverM (p0 p1 p2 p3 p4 p5 p6 p7 : Vec F S1x1x512 .f32) (y : S8x1x512.Idx) :
    ∃ pc ∈ ([⟨rm7, p7⟩, ⟨rm6, p6⟩, ⟨rm5, p5⟩, ⟨rm4, p4⟩, ⟨rm3, p3⟩, ⟨rm2, p2⟩, ⟨rm1, p1⟩, ⟨rm0, p0⟩] :
      List (View.Piece (Elt F) S8x1x512 .f32)), y ∈ pc.1.set :=
  View.cover_of_tiled (Val := Elt F) [⟨rm7, p7⟩, ⟨rm6, p6⟩, ⟨rm5, p5⟩, ⟨rm4, p4⟩, ⟨rm3, p3⟩, ⟨rm2, p2⟩, ⟨rm1, p1⟩, ⟨rm0, p0⟩]
    S1x1x512.size (by rfl) y

/-- The eight stores of sums cover them. -/
theorem coverA (p0 p1 p2 p3 p4 p5 p6 p7 : Vec F S1x80x512 .f32) (y : S8x80x512.Idx) :
    ∃ pc ∈ ([⟨ra7, p7⟩, ⟨ra6, p6⟩, ⟨ra5, p5⟩, ⟨ra4, p4⟩, ⟨ra3, p3⟩, ⟨ra2, p2⟩, ⟨ra1, p1⟩, ⟨ra0, p0⟩] :
      List (View.Piece (Elt F) S8x80x512 .f32)), y ∈ pc.1.set :=
  View.cover_of_tiled (Val := Elt F) [⟨ra7, p7⟩, ⟨ra6, p6⟩, ⟨ra5, p5⟩, ⟨ra4, p4⟩, ⟨ra3, p3⟩, ⟨ra2, p2⟩, ⟨ra1, p1⟩, ⟨ra0, p0⟩]
    S1x80x512.size (by rfl) y

/-- The largest rise, the maxima and the sums before lagged pass `k`. -/
def lag (x0 : Q F) (x1 : K F) (x2 : W F) : ℕ → FVec F S1x512 .f32 × M F × A F
  | 0 => (k0_pay125, initM x0 x1, k0_pay124)
  | k + 1 => if h : k < k0_t1_loop.trips then
      (uJ ⟨k, h⟩ x0 x1 (lag x0 x1 x2 k).2.1 (lag x0 x1 x2 k).1, uM ⟨k, h⟩ x0 x1 (lag x0 x1 x2 k).2.1,
        uA ⟨k, h⟩ x0 x1 x2 (lag x0 x1 x2 k).2.1 (lag x0 x1 x2 k).2.2)
    else lag x0 x1 x2 k

/-- The maxima and the sums before exact pass `k`. -/
def exact (x0 : Q F) (x1 : K F) (x2 : W F) : ℕ → M F × A F
  | 0 => (k0_pay132, k0_pay133)
  | k + 1 => if h : k < k0_t2_loop.trips then
      (wM ⟨k, h⟩ x0 x1 (exact x0 x1 x2 k).1, wA ⟨k, h⟩ x0 x1 x2 (exact x0 x1 x2 k).1 (exact x0 x1 x2 k).2)
    else exact x0 x1 x2 k

/-- Whether the rises stayed small enough for the lagged passes to stand: as the word the kernel tests. -/
def redo (j : FVec F S1x512 .f32) : BitVec 1 :=
  Scalar.cmpi .ne (Scalar.extui (Scalar.xori (Scalar.cmpf .ole (k0_pay131 j) (Scalar.ofBits .f32 0x41400000#32 : F .f32)) 1#1) : BitVec 32) 0#32

/-- The sums the result is read from. -/
def final (x0 : Q F) (x1 : K F) (x2 : W F) : A F :=
  if redo (lag x0 x1 x2 k0_t1_loop.trips).1 = 1#1 then (exact x0 x1 x2 k0_t2_loop.trips).2
  else (lag x0 x1 x2 k0_t1_loop.trips).2.2

/-- The columns of the result two heads give. -/
abbrev ro0 : Rect S1x512x512 := Rect.unit (s := S1x512x512) ![0, 0, 0] S1x512x128.size inb_S1x512x512_S1x512x128_0_0_0
/-- The columns of the result two heads give. -/
abbrev ro1 : Rect S1x512x512 := Rect.unit (s := S1x512x512) ![0, 0, 128] S1x512x128.size inb_S1x512x512_S1x512x128_0_0_128
/-- The columns of the result two heads give. -/
abbrev ro2 : Rect S1x512x512 := Rect.unit (s := S1x512x512) ![0, 0, 256] S1x512x128.size inb_S1x512x512_S1x512x128_0_0_256
/-- The columns of the result two heads give. -/
abbrev ro3 : Rect S1x512x512 := Rect.unit (s := S1x512x512) ![0, 0, 384] S1x512x128.size inb_S1x512x512_S1x512x128_0_0_384

/-- The block of the result, from the sums. -/
def outOf (a : A F) : Vec F S1x512x512 .bf16 :=
  View.canon [⟨ro3, pairO (View.ld a ra6) (View.ld a ra7)⟩, ⟨ro2, pairO (View.ld a ra4) (View.ld a ra5)⟩,
    ⟨ro1, pairO (View.ld a ra2) (View.ld a ra3)⟩, ⟨ro0, pairO (View.ld a ra0) (View.ld a ra1)⟩]

/-- The block of the result, from the blocks of queries, keys and values. -/
def out (x0 : Q F) (x1 : K F) (x2 : W F) : Vec F S1x512x512 .bf16 := outOf (final x0 x1 x2)

/-- The four stores cover the block of the result. -/
theorem coverO (p0 p1 p2 p3 : Vec F S1x512x128 .bf16) (y : S1x512x512.Idx) :
    ∃ pc ∈ ([⟨ro3, p3⟩, ⟨ro2, p2⟩, ⟨ro1, p1⟩, ⟨ro0, p0⟩] : List (View.Piece (Elt F) S1x512x512 .bf16)), y ∈ pc.1.set :=
  View.cover_of_tiled (Val := Elt F) [⟨ro3, p3⟩, ⟨ro2, p2⟩, ⟨ro1, p1⟩, ⟨ro0, p0⟩] S1x512x128.size (by rfl) y

end Cert.KernelIdeal.Attn
-- ==== Proof.Online.lean ====
/- Softmax sums taken a tile at a time, over the extended reals: what one step does to a running maximum and the sums
   weighted against it. -/
module

public import Idealize.ShloMosaic.PureOps.Ideal
public import Idealize.ShloMosaic.Lib.Pointwise

@[expose] public section

noncomputable section

namespace Cert.Online

open Idealize.ShloMosaic

/-- A finite sum of reals, read as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, read as an extended real, is one of them and above them all. -/
theorem fold_max {ι : Type*} [Fintype ι] [Nonempty ι] (f : ι → ℝ) :
    ∃ t : ℝ, Finset.univ.fold max (⊥ : EReal) (fun i => ((f i : ℝ) : EReal)) = (t : EReal) := by
  obtain ⟨i, -, hi⟩ := Finset.exists_mem_eq_sup (Finset.univ : Finset ι) Finset.univ_nonempty (fun i => ((f i : ℝ) : EReal))
  exact ⟨f i, hi⟩

/-- A power of two of a real. -/
theorem exp2_real (x : ℝ) : Ideal.exp2 (x : EReal) = (((2 : ℝ) ^ x : ℝ) : EReal) := rfl

/-- The maximum of two reals, read as extended reals. -/
theorem max_coe (a b : ℝ) : max (a : EReal) (b : EReal) = ((max a b : ℝ) : EReal) := (EReal.coe_strictMono.monotone.map_max).symm

/-- A weight against one maximum times the rescaling to another is the weight against the other. -/
theorem rescale (s a b : ℝ) : (2 : ℝ) ^ (a - b) * (2 : ℝ) ^ (s - a) = (2 : ℝ) ^ (s - b) := by
  rw [← Real.rpow_add two_pos]; congr 1; ring

/-- The sums of `n` tiles weighted against `μ`. -/
def acc {ι : Type*} [Fintype ι] (s v : ℕ → ι → ℝ) (n : ℕ) (μ : ℝ) : ℝ :=
  ∑ k ∈ Finset.range n, ∑ r, v k r * (2 : ℝ) ^ (s k r - μ)

/-- No block has been added up at the start. -/
theorem acc_zero {ι : Type*} [Fintype ι] (s v : ℕ → ι → ℝ) (μ : ℝ) : acc s v 0 μ = 0 := by simp [acc]

/-- One more block adds its weighted values. -/
theorem acc_succ {ι : Type*} [Fintype ι] (s v : ℕ → ι → ℝ) (n : ℕ) (μ : ℝ) :
    acc s v (n + 1) μ = acc s v n μ + ∑ r, v n r * (2 : ℝ) ^ (s n r - μ) := Finset.sum_range_succ _ _

/-- The sums against one maximum, rescaled, are the sums against the other. -/
theorem rescale_acc {ι : Type*} [Fintype ι] (s v : ℕ → ι → ℝ) (n : ℕ) (a b : ℝ) :
    (2 : ℝ) ^ (a - b) * acc s v n a = acc s v n b := by
  unfold acc
  rw [Finset.mul_sum]
  refine Finset.sum_congr rfl fun k _ => ?_
  rw [Finset.mul_sum]
  refine Finset.sum_congr rfl fun r _ => ?_
  rw [mul_left_comm, rescale]

/-- The tile's sum over extended reals. -/
theorem tile {ι : Type*} [Fintype ι] (s v : ι → ℝ) (μ : ℝ) :
    ∑ r, ((v r : ℝ) : EReal) * Ideal.exp2 ((s r : ℝ) - (μ : EReal)) = ((∑ r, v r * (2 : ℝ) ^ (s r - μ) : ℝ) : EReal) := by
  rw [← coe_sum]
  refine Finset.sum_congr rfl fun r _ => ?_
  rw [← EReal.coe_sub, exp2_real, EReal.coe_mul]

/-- A step that weighs against the maximum before the tile and rescales after. -/
theorem lagged {ι : Type*} [Fintype ι] (s v : ℕ → ι → ℝ) (n : ℕ) (μ t : ℝ) :
    Ideal.exp2 ((μ : EReal) - max (μ : EReal) (t : EReal))
        * (((acc s v n μ : ℝ) : EReal) + ∑ r, ((v n r : ℝ) : EReal) * Ideal.exp2 ((s n r : ℝ) - (μ : EReal)))
      = ((acc s v (n + 1) (max μ t) : ℝ) : EReal) := by
  rw [tile, max_coe, ← EReal.coe_sub, exp2_real, ← EReal.coe_add, ← EReal.coe_mul, ← acc_succ, rescale_acc]

/-- A step that rescales first and weighs against the maximum after the tile. -/
theorem exact {ι : Type*} [Fintype ι] (s v : ℕ → ι → ℝ) (n : ℕ) (μ t : ℝ) :
    Ideal.exp2 ((μ : EReal) - max (μ : EReal) (t : EReal)) * ((acc s v n μ : ℝ) : EReal)
        + ∑ r, ((v n r : ℝ) : EReal) * Ideal.exp2 ((s n r : ℝ) - max (μ : EReal) (t : EReal))
      = ((acc s v (n + 1) (max μ t) : ℝ) : EReal) := by
  rw [max_coe, tile, ← EReal.coe_sub, exp2_real, ← EReal.coe_mul, rescale_acc, ← EReal.coe_add, ← acc_succ]

/-- The first such step, from no maximum and no sums. -/
theorem exact_first {ι : Type*} [Fintype ι] (s v : ℕ → ι → ℝ) (t : ℝ) :
    Ideal.exp2 ((⊥ : EReal) - max (⊥ : EReal) (t : EReal)) * (0 : EReal)
        + ∑ r, ((v 0 r : ℝ) : EReal) * Ideal.exp2 ((s 0 r : ℝ) - max (⊥ : EReal) (t : EReal))
      = ((acc s v 1 t : ℝ) : EReal) := by
  rw [max_eq_right bot_le, tile, mul_zero, zero_add, acc_succ, acc_zero, zero_add]

/-- The quotient of two such sums does not see what they are weighted against. -/
theorem quotient {ι : Type*} [Fintype ι] (s v w : ℕ → ι → ℝ) (n : ℕ) (μ : ℝ) :
    acc s v n μ / acc s w n μ = acc s v n 0 / acc s w n 0 := by
  rw [← rescale_acc s v n 0 μ, ← rescale_acc s w n 0 μ, mul_div_mul_left _ _ (Real.rpow_pos_of_pos two_pos _).ne']

/-- The division of two reals, the second not zero. -/
theorem div_real (a b : ℝ) (h : b ≠ 0) : Ideal.div (a : EReal) (b : EReal) = ((a / b : ℝ) : EReal) := by
  rw [Ideal.div_coe h, ← EReal.coe_mul, mul_one_div]

end Cert.Online
-- ==== Proof.Ops.lean ====
/- The attention call's passes over the extended reals, read at an index: the maxima and the sums after a pass in terms
   of those before it and of the scores. -/
module

public import proofs.«01_k».proof.Proof.Model
public import proofs.«01_k».proof.Proof.Online
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal.Gen

/-- The pattern of minus infinity. -/
theorem neg_inf : Ideal.ofBits .f32 0xFF800000#32 = ⊥ := by simp [Ideal.ofBits, Ideal.ieee]

/-- The group of keys and values a head reads. -/
def grp (h : Fin 8) : Fin 2 := ⟨h.val / 4, by omega⟩

/-- Key `r` of tile `k`. -/
def key (k : Fin 11) (r : Fin 768) : Fin 8448 := ⟨768 * k.val + r.val, by omega⟩

/-- The score of a key against a query of a head. -/
def Sc (x0 : Q Ideal) (x1 : K Ideal) (h : Fin 8) (q : Fin 512) (s : Fin 8448) : EReal :=
  ∑ d : Fin 256, x1 (ix4 0 (grp h) s d) * x0 (ix4 0 h d q)

/-- The largest score over a tile. -/
def Tp (x0 : Q Ideal) (x1 : K Ideal) (k : Fin 11) (h : Fin 8) (q : Fin 512) : EReal :=
  Finset.univ.fold max (⊥ : EReal) fun r : Fin 768 => Sc x0 x1 h q (key k r)

/-- A score is the product of a key row and a query column. -/
theorem score_apply (kt : Vec Ideal S1x1x768x256 .fp8e4m3) (qt : Vec Ideal S1x1x256x512 .fp8e4m3) (r : Fin 768) (q : Fin 512) :
    score kt qt (ix2 r q) = ∑ d : Fin 256, kt (ix4 0 0 r d) * qt (ix4 0 0 d q) := by
  unfold score; pointwise

/-- The new maximum is the larger of the old one and the block of scores. -/
theorem newM_apply (s : FVec Ideal S768x512 .f32) (m : Vec Ideal S1x1x512 .f32) (q : Fin 512) :
    newM s m (ix3 0 0 q) = max (m (ix3 0 0 q)) (Finset.univ.fold max (⊥ : EReal) fun r : Fin 768 => s (ix2 r q)) := by
  unfold newM rise row top; pointwise; rw [neg_inf]

/-- A step of the first pass, one entry: the block, weighed under the old reference, joins the sum, and all of it is scaled to the new one. -/
theorem lagA_apply (s : FVec Ideal S768x512 .f32) (m : Vec Ideal S1x1x512 .f32) (a : Vec Ideal S1x80x512 .f32)
    (vt : Vec Ideal S1x1x1x80x768 .bf16) (c : Fin 80) (q : Fin 512) :
    lagA s m a vt (ix3 0 c q) = Ideal.exp2 (m (ix3 0 0 q) - max (m (ix3 0 0 q))
          (Finset.univ.fold max (⊥ : EReal) fun r : Fin 768 => s (ix2 r q)))
        * (a (ix3 0 c q) + ∑ r : Fin 768, vt (ix5 0 0 0 c r) * Ideal.exp2 (s (ix2 r q) - m (ix3 0 0 q))) := by
  unfold lagA scale sums weigh lagP rise row top; pointwise; rw [neg_inf]; rfl

/-- A step of the second pass, one entry: the sum so far scaled to the new maximum, and the block under it. -/
theorem exA_apply (s : FVec Ideal S768x512 .f32) (m : Vec Ideal S1x1x512 .f32) (a : Vec Ideal S1x80x512 .f32)
    (vt : Vec Ideal S1x1x1x80x768 .bf16) (c : Fin 80) (q : Fin 512) :
    exA s m a vt (ix3 0 c q) = Ideal.exp2 (m (ix3 0 0 q) - max (m (ix3 0 0 q))
          (Finset.univ.fold max (⊥ : EReal) fun r : Fin 768 => s (ix2 r q))) * a (ix3 0 c q)
        + ∑ r : Fin 768, vt (ix5 0 0 0 c r) * Ideal.exp2 (s (ix2 r q) - max (m (ix3 0 0 q))
          (Finset.univ.fold max (⊥ : EReal) fun r : Fin 768 => s (ix2 r q))) := by
  unfold exA scale sums weigh exP rise row top; pointwise; rw [neg_inf]; rfl

/-- The first maximum of a query: the largest of its scores with 128 keys. -/
theorem firstM_apply (kt : Vec Ideal S1x1x128x256 .fp8e4m3) (qt : Vec Ideal S1x1x256x512 .fp8e4m3) (q : Fin 512) :
    firstM kt qt (ix3 0 0 q) = Finset.univ.fold max (⊥ : EReal)
      fun r : Fin 128 => ∑ d : Fin 256, kt (ix4 0 0 r d) * qt (ix4 0 0 d q) := by
  unfold firstM k0_pay113; pointwise; rw [neg_inf]

/-- The two heads of a pair side by side, each divided by its row of ones. -/
theorem pairO_apply (a b : Vec Ideal S1x80x512 .f32) (q : Fin 512) (c : Fin 128) :
    pairO a b (ix3 0 q c) = if h : c.val < 64 then Ideal.div (a (ix3 0 ⟨c.val, by omega⟩ q)) (a (ix3 0 64 q))
      else Ideal.div (b (ix3 0 ⟨c.val - 64, by omega⟩ q)) (b (ix3 0 64 q)) := by
  unfold pairO norm sums; pointwise

/-- An index of a row of maxima is a query. -/
theorem idx_m (x : S1x1x512.Idx) : ∃ q : Fin 512, x = ix3 0 0 q :=
  ⟨x 2, funext fun a => Fin.ext (by
    have h0 : (x 0).val < 1 := (x 0).isLt
    have h1 : (x 1).val < 1 := (x 1).isLt
    match a with
    | ⟨0, _⟩ => show (x 0).val = 0; omega
    | ⟨1, _⟩ => show (x 1).val = 0; omega
    | ⟨2, _⟩ => rfl)⟩

/-- An index of a block of sums is a row and a query. -/
theorem idx_a (x : S1x80x512.Idx) : ∃ (c : Fin 80) (q : Fin 512), x = ix3 0 c q :=
  ⟨x 1, x 2, funext fun a => Fin.ext (by
    have h0 : (x 0).val < 1 := (x 0).isLt
    match a with
    | ⟨0, _⟩ => show (x 0).val = 0; omega
    | ⟨1, _⟩ => rfl
    | ⟨2, _⟩ => rfl)⟩

/-! ## Where the loads read -/

/-- The first loop runs over eleven blocks of keys. -/
theorem trips1 : k0_t1_loop.trips = 11 := by decide +kernel
/-- The second loop runs over eleven blocks of keys. -/
theorem trips2 : k0_t2_loop.trips = 11 := by decide +kernel

/-- Where the first pass reads the keys of the first key head. -/
theorem off1 : ∀ k : Fin k0_t1_loop.trips, k0_off1 k = ![0, 0, 768 * k.val, 0] := by decide +kernel
/-- Where the first pass reads the values of the first key head. -/
theorem off2 : ∀ k : Fin k0_t1_loop.trips, k0_off2 k = ![0, k.val, 0, 0, 0] := by decide +kernel
/-- Where the first pass reads the keys of the second key head. -/
theorem off3 : ∀ k : Fin k0_t1_loop.trips, k0_off3 k = ![0, 1, 768 * k.val, 0] := by decide +kernel
/-- Where the first pass reads the values of the second key head. -/
theorem off4 : ∀ k : Fin k0_t1_loop.trips, k0_off4 k = ![0, k.val, 1, 0, 0] := by decide +kernel
/-- Where the second pass reads the keys of the first key head. -/
theorem off5 : ∀ k : Fin k0_t2_loop.trips, k0_off5 k = ![0, 0, 768 * k.val, 0] := by decide +kernel
/-- Where the second pass reads the values of the first key head. -/
theorem off6 : ∀ k : Fin k0_t2_loop.trips, k0_off6 k = ![0, k.val, 0, 0, 0] := by decide +kernel
/-- Where the second pass reads the keys of the second key head. -/
theorem off7 : ∀ k : Fin k0_t2_loop.trips, k0_off7 k = ![0, 1, 768 * k.val, 0] := by decide +kernel
/-- Where the second pass reads the values of the second key head. -/
theorem off8 : ∀ k : Fin k0_t2_loop.trips, k0_off8 k = ![0, k.val, 1, 0, 0] := by decide +kernel

/-- A tile of keys, loaded. -/
abbrev KT (x1 : K Ideal) (off : Fin 4 → ℕ) (inb : ∀ a, off a + S1x1x768x256.size a ≤ S1x2x8448x256.size a) : Vec Ideal S1x1x768x256 .fp8e4m3 :=
  View.ld (Val := Elt Ideal) (e' := .fp8e4m3) x1 (Rect.unit (s := S1x2x8448x256) off S1x1x768x256.size inb)
/-- The keys of the first maximum, loaded. -/
abbrev ST (x1 : K Ideal) (off : Fin 4 → ℕ) (inb : ∀ a, off a + S1x1x128x256.size a ≤ S1x2x8448x256.size a) : Vec Ideal S1x1x128x256 .fp8e4m3 :=
  View.ld (Val := Elt Ideal) (e' := .fp8e4m3) x1 (Rect.unit (s := S1x2x8448x256) off S1x1x128x256.size inb)
/-- A tile of values, loaded. -/
abbrev VT (x2 : W Ideal) (off : Fin 5 → ℕ) (inb : ∀ a, off a + S1x1x1x80x768.size a ≤ S1x11x2x80x768.size a) : Vec Ideal S1x1x1x80x768 .bf16 :=
  View.ld (Val := Elt Ideal) (e' := .bf16) x2 (Rect.unit (s := S1x11x2x80x768) off S1x1x1x80x768.size inb)
/-- A head's queries, loaded. -/
abbrev QT (x0 : Q Ideal) (h : Fin 8) (inb : ∀ a, (![0, h.val, 0, 0] : Fin 4 → ℕ) a + S1x1x256x512.size a ≤ S1x8x256x512.size a) : Vec Ideal S1x1x256x512 .fp8e4m3 :=
  View.ld (Val := Elt Ideal) (e' := .fp8e4m3) x0 (Rect.unit (s := S1x8x256x512) ![0, h.val, 0, 0] S1x1x256x512.size inb)
/-- Where a head's maxima lie. -/
abbrev RM (h : Fin 8) (inb : ∀ a, (![h.val, 0, 0] : Fin 3 → ℕ) a + S1x1x512.size a ≤ S8x1x512.size a) : Rect S8x1x512 :=
  Rect.unit (s := S8x1x512) ![h.val, 0, 0] S1x1x512.size inb
/-- Where a head's sums lie. -/
abbrev RA (h : Fin 8) (inb : ∀ a, (![h.val, 0, 0] : Fin 3 → ℕ) a + S1x80x512.size a ≤ S8x80x512.size a) : Rect S8x80x512 :=
  Rect.unit (s := S8x80x512) ![h.val, 0, 0] S1x80x512.size inb
/-- A head's maxima, loaded. -/
abbrev MT (m : M Ideal) (h : Fin 8) (inb : ∀ a, (![h.val, 0, 0] : Fin 3 → ℕ) a + S1x1x512.size a ≤ S8x1x512.size a) : Vec Ideal S1x1x512 .f32 :=
  View.ld (Val := Elt Ideal) (e' := .f32) m (RM h inb)
/-- A head's sums, loaded. -/
abbrev AT (a : A Ideal) (h : Fin 8) (inb : ∀ a, (![h.val, 0, 0] : Fin 3 → ℕ) a + S1x80x512.size a ≤ S8x80x512.size a) : Vec Ideal S1x80x512 .f32 :=
  View.ld (Val := Elt Ideal) (e' := .f32) a (RA h inb)

/-- A load of a tile of keys. -/
theorem ld_keys (x1 : K Ideal) (off : Fin 4 → ℕ) (inb) (h : Fin 8) (k : Fin 11)
    (e : off = ![0, (grp h).val, 768 * k.val, 0]) (r : Fin 768) (d : Fin 256) :
    KT x1 off inb (ix4 0 0 r d) = x1 (ix4 0 (grp h) (key k r) d) := by
  subst e
  refine congrArg x1 (funext fun a => Fin.ext ?_)
  match a with
  | ⟨0, _⟩ => rfl
  | ⟨1, _⟩ => show (grp h).val + 1 * 0 = (grp h).val; omega
  | ⟨2, _⟩ => show 768 * k.val + 1 * r.val = 768 * k.val + r.val; omega
  | ⟨3, _⟩ => show 0 + 1 * d.val = d.val; omega

/-- A load of a tile of values. -/
theorem ld_values (x2 : W Ideal) (off : Fin 5 → ℕ) (inb) (h : Fin 8) (k : Fin 11)
    (e : off = ![0, k.val, (grp h).val, 0, 0]) (r : Fin 80) (s : Fin 768) :
    VT x2 off inb (ix5 0 0 0 r s) = x2 (ix5 0 k (grp h) r s) := by
  subst e
  refine congrArg x2 (funext fun a => Fin.ext ?_)
  match a with
  | ⟨0, _⟩ => rfl
  | ⟨1, _⟩ => show k.val + 1 * 0 = k.val; omega
  | ⟨2, _⟩ => show (grp h).val + 1 * 0 = (grp h).val; omega
  | ⟨3, _⟩ => show 0 + 1 * r.val = r.val; omega
  | ⟨4, _⟩ => show 0 + 1 * s.val = s.val; omega

/-- A load of the keys the first maximum is taken over. -/
theorem ld_first (x1 : K Ideal) (off : Fin 4 → ℕ) (inb) (h : Fin 8)
    (e : off = ![0, (grp h).val, 4224, 0]) (r : Fin 128) (d : Fin 256) :
    ST x1 off inb (ix4 0 0 r d) = x1 (ix4 0 (grp h) ⟨4224 + r.val, by omega⟩ d) := by
  subst e
  refine congrArg x1 (funext fun a => Fin.ext ?_)
  match a with
  | ⟨0, _⟩ => rfl
  | ⟨1, _⟩ => show (grp h).val + 1 * 0 = (grp h).val; omega
  | ⟨2, _⟩ => show 4224 + 1 * r.val = 4224 + r.val; omega
  | ⟨3, _⟩ => show 0 + 1 * d.val = d.val; omega

/-- A load of a head's queries. -/
theorem ld_queries (x0 : Q Ideal) (h : Fin 8) (inb) (d : Fin 256) (q : Fin 512) :
    QT x0 h inb (ix4 0 0 d q) = x0 (ix4 0 h d q) := by
  refine congrArg x0 (funext fun a => Fin.ext ?_)
  match a with
  | ⟨0, _⟩ => rfl
  | ⟨1, _⟩ => show h.val + 1 * 0 = h.val; omega
  | ⟨2, _⟩ => show 0 + 1 * d.val = d.val; omega
  | ⟨3, _⟩ => show 0 + 1 * q.val = q.val; omega

/-- The index a head's maxima lie at. -/
theorem emb_m (h : Fin 8) (inb) (q : Fin 512) : (RM h inb).idx (ix3 0 0 q) = ix3 h 0 q := by
  refine funext fun a => Fin.ext ?_
  match a with
  | ⟨0, _⟩ => show h.val + 1 * 0 = h.val; omega
  | ⟨1, _⟩ => rfl
  | ⟨2, _⟩ => show 0 + 1 * q.val = q.val; omega

/-- The index a head's sums lie at. -/
theorem emb_a (h : Fin 8) (inb) (c : Fin 80) (q : Fin 512) : (RA h inb).idx (ix3 0 c q) = ix3 h c q := by
  refine funext fun a => Fin.ext ?_
  match a with
  | ⟨0, _⟩ => show h.val + 1 * 0 = h.val; omega
  | ⟨1, _⟩ => show 0 + 1 * c.val = c.val; omega
  | ⟨2, _⟩ => show 0 + 1 * q.val = q.val; omega

/-- A load of a head's maxima. -/
theorem ld_m (m : M Ideal) (h : Fin 8) (inb) (q : Fin 512) : MT m h inb (ix3 0 0 q) = m (ix3 h 0 q) := congrArg m (emb_m h inb q)

/-- A load of a head's sums. -/
theorem ld_a (a : A Ideal) (h : Fin 8) (inb) (c : Fin 80) (q : Fin 512) : AT a h inb (ix3 0 c q) = a (ix3 h c q) :=
  congrArg a (emb_a h inb c q)

/-! ## The stores, head by head -/

/-- A tile of scores against a head's queries. -/
theorem score_head (x0 : Q Ideal) (x1 : K Ideal) (off : Fin 4 → ℕ) (inb) (h : Fin 8) (inbq) (k : Fin 11)
    (e : off = ![0, (grp h).val, 768 * k.val, 0]) (r : Fin 768) (q : Fin 512) :
    score (KT x1 off inb)
      (QT x0 h inbq) (ix2 r q)
      = Sc x0 x1 h q (key k r) := by
  rw [score_apply]
  exact Finset.sum_congr rfl fun d _ => congrArg₂ (· * ·) (ld_keys x1 off inb h k e r d) (ld_queries x0 h inbq d q)

/-- The maxima a pass leaves. -/
def GM (x0 : Q Ideal) (x1 : K Ideal) (k : Fin 11) (m : M Ideal) : M Ideal := fun y =>
  max (m y) (Tp x0 x1 k (y 0) (y 2))

/-- The sums a lagged pass leaves. -/
def GA (x0 : Q Ideal) (x1 : K Ideal) (x2 : W Ideal) (k : Fin 11) (m : M Ideal) (a : A Ideal) : A Ideal := fun y =>
  Ideal.exp2 (m (ix3 (y 0) 0 (y 2)) - max (m (ix3 (y 0) 0 (y 2))) (Tp x0 x1 k (y 0) (y 2)))
    * (a y + ∑ r : Fin 768, x2 (ix5 0 k (grp (y 0)) (y 1) r) * Ideal.exp2 (Sc x0 x1 (y 0) (y 2) (key k r) - m (ix3 (y 0) 0 (y 2))))

/-- The sums an exact pass leaves. -/
def GE (x0 : Q Ideal) (x1 : K Ideal) (x2 : W Ideal) (k : Fin 11) (m : M Ideal) (a : A Ideal) : A Ideal := fun y =>
  Ideal.exp2 (m (ix3 (y 0) 0 (y 2)) - max (m (ix3 (y 0) 0 (y 2))) (Tp x0 x1 k (y 0) (y 2))) * a y
    + ∑ r : Fin 768, x2 (ix5 0 k (grp (y 0)) (y 1) r)
      * Ideal.exp2 (Sc x0 x1 (y 0) (y 2) (key k r) - max (m (ix3 (y 0) 0 (y 2))) (Tp x0 x1 k (y 0) (y 2)))

/-- The first maxima. -/
def GI (x0 : Q Ideal) (x1 : K Ideal) : M Ideal := fun y =>
  Finset.univ.fold max (⊥ : EReal) fun r : Fin 128 => Sc x0 x1 (y 0) (y 2) ⟨4224 + r.val, by omega⟩

section
variable (x0 : Q Ideal) (x1 : K Ideal) (x2 : W Ideal) (h : Fin 8) (k : Fin 11) (off : Fin 4 → ℕ) (off' : Fin 5 → ℕ)
  (e : off = ![0, (grp h).val, 768 * k.val, 0]) (e' : off' = ![0, k.val, (grp h).val, 0, 0])
  (m : M Ideal) (a : A Ideal) (inb inb' inbq inbm inba)

include e

/-- The largest score of a query in a block of keys. -/
theorem top_head (q : Fin 512) : (Finset.univ.fold max (⊥ : EReal) fun r : Fin 768 => score (KT x1 off inb) (QT x0 h inbq) (ix2 r q)) = Tp x0 x1 k h q := by
  unfold Tp
  exact congrArg (fun f => Finset.univ.fold max (⊥ : EReal) f) (funext fun r => score_head x0 x1 off inb h inbq k e r q)

/-- A head's new maxima are the closed form's. -/
theorem newM_head (x : S1x1x512.Idx) : newM (score (KT x1 off inb) (QT x0 h inbq)) (MT m h inbm) x = GM x0 x1 k m ((RM h inbm).emb x) := by
  obtain ⟨q, rfl⟩ := idx_m x
  rw [newM_apply, top_head x0 x1 h k off e, ld_m]
  exact (congrArg (GM x0 x1 k m) (emb_m h inbm q)).symm

include e'

/-- A head's sums after a lagged pass are the closed form's. -/
theorem lagA_head (x : S1x80x512.Idx) :
    lagA (score (KT x1 off inb) (QT x0 h inbq)) (MT m h inbm) (AT a h inba) (VT x2 off' inb') x = GA x0 x1 x2 k m a ((RA h inba).emb x) := by
  obtain ⟨c, q, rfl⟩ := idx_a x
  rw [lagA_apply, top_head x0 x1 h k off e, ld_m, ld_a]
  simp only [score_head x0 x1 off inb h inbq k e, ld_values x2 off' inb' h k e']
  exact (congrArg (GA x0 x1 x2 k m a) (emb_a h inba c q)).symm

/-- A head's sums after an exact pass are the closed form's. -/
theorem exA_head (x : S1x80x512.Idx) :
    exA (score (KT x1 off inb) (QT x0 h inbq)) (MT m h inbm) (AT a h inba) (VT x2 off' inb') x = GE x0 x1 x2 k m a ((RA h inba).emb x) := by
  obtain ⟨c, q, rfl⟩ := idx_a x
  rw [exA_apply, top_head x0 x1 h k off e, ld_m, ld_a]
  simp only [score_head x0 x1 off inb h inbq k e, ld_values x2 off' inb' h k e']
  exact (congrArg (GE x0 x1 x2 k m a) (emb_a h inba c q)).symm

end

/-- A head's first maxima are the closed form's. -/
theorem firstM_head (x0 : Q Ideal) (x1 : K Ideal) (h : Fin 8) (off : Fin 4 → ℕ) (e : off = ![0, (grp h).val, 4224, 0]) (inb inbq inbm)
    (x : S1x1x512.Idx) : firstM (ST x1 off inb) (QT x0 h inbq) x = GI x0 x1 ((RM h inbm).emb x) := by
  obtain ⟨q, rfl⟩ := idx_m x
  rw [firstM_apply]
  simp only [ld_first x1 off inb h e, ld_queries x0 h inbq]
  exact (congrArg (GI x0 x1) (emb_m h inbm q)).symm

end Cert.KernelIdeal.Attn
-- ==== Proof.Passes2.lean ====
/- The attention call's stores, read whole: the eight heads' stores of a pass make one array of maxima and one of sums. -/
module

public import proofs.«01_k».proof.Proof.Ops

@[expose] public section

set_option maxRecDepth 16384

noncomputable section

namespace Cert.KernelIdeal.Attn

open Idealize.ShloMosaic Idealize.ShloMosaic.TcCoe Idealize.SL.Sem
open Cert.KernelIdeal.Gen

/-- Eight pieces, each a closed form at its place, are the closed form. -/
theorem eight {S : Shape} {e : EltTy} (G : S.Idx → Elt Ideal e) (p0 p1 p2 p3 p4 p5 p6 p7 : View.Piece (Elt Ideal) S e)
    (h0 : ∀ x, p0.2 x = G (p0.1.emb x)) (h1 : ∀ x, p1.2 x = G (p1.1.emb x)) (h2 : ∀ x, p2.2 x = G (p2.1.emb x))
    (h3 : ∀ x, p3.2 x = G (p3.1.emb x)) (h4 : ∀ x, p4.2 x = G (p4.1.emb x)) (h5 : ∀ x, p5.2 x = G (p5.1.emb x))
    (h6 : ∀ x, p6.2 x = G (p6.1.emb x)) (h7 : ∀ x, p7.2 x = G (p7.1.emb x))
    (hc : ∀ y, ∃ p ∈ [p7, p6, p5, p4, p3, p2, p1, p0], y ∈ p.1.set) :
    View.canon [p7, p6, p5, p4, p3, p2, p1, p0] = G := by
  funext y
  refine View.canon_apply_of_pieces G _ ?_ y (hc y)
  intro p hp
  simp only [List.mem_cons, List.not_mem_nil, or_false] at hp
  rcases hp with rfl | rfl | rfl | rfl | rfl | rfl | rfl | rfl <;> assumption

variable (x0 : Q Ideal) (x1 : K Ideal) (x2 : W Ideal) (m : M Ideal) (a : A Ideal)

/-- The first keys of the first key head. -/
theorem firstOff0 (h : Fin 8) (hh : (grp h).val = 0) : (![0, 0, 4224, 0] : Fin 4 → ℕ) = ![0, (grp h).val, 4224, 0] := by rw [hh]
/-- The first keys of the second key head. -/
theorem firstOff1 (h : Fin 8) (hh : (grp h).val = 1) : (![0, 1, 4224, 0] : Fin 4 → ℕ) = ![0, (grp h).val, 4224, 0] := by rw [hh]

set_option maxRecDepth 200000 in
/-- The first maxima, written once for all heads. -/
theorem initM_eq : initM x0 x1 = GI x0 x1 :=
  eight (GI x0 x1) _ _ _ _ _ _ _ _
    (firstM_head x0 x1 0 _ (firstOff0 0 rfl) _ _ inb_S8x1x512_S1x1x512_0_0_0) (firstM_head x0 x1 1 _ (firstOff0 1 rfl) _ _ inb_S8x1x512_S1x1x512_1_0_0)
    (firstM_head x0 x1 2 _ (firstOff0 2 rfl) _ _ inb_S8x1x512_S1x1x512_2_0_0) (firstM_head x0 x1 3 _ (firstOff0 3 rfl) _ _ inb_S8x1x512_S1x1x512_3_0_0)
    (firstM_head x0 x1 4 _ (firstOff1 4 rfl) _ _ inb_S8x1x512_S1x1x512_4_0_0) (firstM_head x0 x1 5 _ (firstOff1 5 rfl) _ _ inb_S8x1x512_S1x1x512_5_0_0)
    (firstM_head x0 x1 6 _ (firstOff1 6 rfl) _ _ inb_S8x1x512_S1x1x512_6_0_0) (firstM_head x0 x1 7 _ (firstOff1 7 rfl) _ _ inb_S8x1x512_S1x1x512_7_0_0) (coverM _ _ _ _ _ _ _ _)

/-- A lagged pass's number as a tile's. -/
def t1 (k : Fin k0_t1_loop.trips) : Fin 11 := ⟨k.val, trips1 ▸ k.isLt⟩
/-- An exact pass's number as a tile's. -/
def t2 (k : Fin k0_t2_loop.trips) : Fin 11 := ⟨k.val, trips2 ▸ k.isLt⟩

/-- A step of the first pass on the maxima, written once for all heads. -/
theorem uM_eq (k : Fin k0_t1_loop.trips) : uM k x0 x1 m = GM x0 x1 (t1 k) m :=
  eight (GM x0 x1 (t1 k) m) _ _ _ _ _ _ _ _
    (newM_head x0 x1 0 (t1 k) _ (off1 k) m _ _ _) (newM_head x0 x1 1 (t1 k) _ (off1 k) m _ _ _)
    (newM_head x0 x1 2 (t1 k) _ (off1 k) m _ _ _) (newM_head x0 x1 3 (t1 k) _ (off1 k) m _ _ _)
    (newM_head x0 x1 4 (t1 k) _ (off3 k) m _ _ _) (newM_head x0 x1 5 (t1 k) _ (off3 k) m _ _ _)
    (newM_head x0 x1 6 (t1 k) _ (off3 k) m _ _ _) (newM_head x0 x1 7 (t1 k) _ (off3 k) m _ _ _) (coverM _ _ _ _ _ _ _ _)

/-- A step of the second pass on the maxima, written once for all heads. -/
theorem wM_eq (k : Fin k0_t2_loop.trips) : wM k x0 x1 m = GM x0 x1 (t2 k) m :=
  eight (GM x0 x1 (t2 k) m) _ _ _ _ _ _ _ _
    (newM_head x0 x1 0 (t2 k) _ (off5 k) m _ _ _) (newM_head x0 x1 1 (t2 k) _ (off5 k) m _ _ _)
    (newM_head x0 x1 2 (t2 k) _ (off5 k) m _ _ _) (newM_head x0 x1 3 (t2 k) _ (off5 k) m _ _ _)
    (newM_head x0 x1 4 (t2 k) _ (off7 k) m _ _ _) (newM_head x0 x1 5 (t2 k) _ (off7 k) m _ _ _)
    (newM_head x0 x1 6 (t2 k) _ (off7 k) m _ _ _) (newM_head x0 x1 7 (t2 k) _ (off7 k) m _ _ _) (coverM _ _ _ _ _ _ _ _)

/-- A step of the first pass on the sums, written once for all heads. -/
theorem uA_eq (k : Fin k0_t1_loop.trips) : uA k x0 x1 x2 m a = GA x0 x1 x2 (t1 k) m a :=
  eight (GA x0 x1 x2 (t1 k) m a) _ _ _ _ _ _ _ _
    (lagA_head x0 x1 x2 0 (t1 k) _ _ (off1 k) (off2 k) m a _ _ _ _ _) (lagA_head x0 x1 x2 1 (t1 k) _ _ (off1 k) (off2 k) m a _ _ _ _ _)
    (lagA_head x0 x1 x2 2 (t1 k) _ _ (off1 k) (off2 k) m a _ _ _ _ _) (lagA_head x0 x1 x2 3 (t1 k) _ _ (off1 k) (off2 k) m a _ _ _ _ _)
    (lagA_head x0 x1 x2 4 (t1 k) _ _ (off3 k) (off4 k) m a _ _ _ _ _) (lagA_head x0 x1 x2 5 (t1 k) _ _ (off3 k) (off4 k) m a _ _ _ _ _)
    (lagA_head x0 x1 x2 6 (t1 k) _ _ (off3 k) (off4 k) m a _ _ _ _ _) (lagA_head x0 x1 x2 7 (t1 k) _ _ (off3 k) (off4 k) m a _ _ _ _ _)
    (coverA _ _ _ _ _ _ _ _)

/-- A step of the second pass on the sums, written once for all heads. -/
theorem wA_eq (k : Fin k0_t2_loop.trips) : wA k x0 x1 x2 m a = GE x0 x1 x2 (t2 k) m a :=
  eight (GE x0 x1 x2 (t2 k) m a) _ _ _ _ _ _ _ _
    (exA_head x0 x1 x2 0 (t2 k) _ _ (off5 k) (off6 k) m a _ _ _ _ _) (exA_head x0 x1 x2 1 (t2 k) _ _ (off5 k) (off6 k) m a _ _ _ _ _)
    (exA_head x0 x1 x2 2 (t2 k) _ _ (off5 k) (off6 k) m a _ _ _ _ _) (exA_head x0 x1 x2 3 (t2 k) _ _ (off5 k) (off6 k) m a _ _ _ _ _)
    (exA_head x0 x1 x2 4 (t2 k) _ _ (off7 k) (off8 k) m a _ _ _ _ _) (exA_head x0 x1 x2 5 (t2 k) _ _ (off7 k) (off8 k) m a _ _ _ _ _)
    (exA_head x0 x1 x2 6 (t2 k) _ _ (off7 k) (off8 k) m a _ _ _ _ _) (exA_head x0 x1 x2 7 (t2 k) _ _ (off7 k) (off8 k) m a _ _ _ _ _)
    (coverA _ _ _ _ _ _ _ _)

/-! ## The result's block -/

/-- The result from the sums: 64 columns a head. -/
def GO (a : A Ideal) : Vec Ideal S1x512x512 .bf16 := fun y =>
  Ideal.div (a (ix3 ⟨(y 2).val / 64, by have : (y 2).val < 512 := (y 2).isLt; omega⟩
      ⟨(y 2).val % 64, by have := Nat.mod_lt (y 2).val (by decide : 0 < 64); omega⟩ (y 1)))
    (a (ix3 ⟨(y 2).val / 64, by have : (y 2).val < 512 := (y 2).isLt; omega⟩ 64 (y 1)))

/-- Two heads' columns are the closed form's. -/
theorem pair_head (g : Fin 4) (h0 h1 : Fin 8) (e0 : h0.val = 2 * g.val) (e1 : h1.val = 2 * g.val + 1) (inb0 inb1 inbo) (x : S1x512x128.Idx) :
    pairO (AT a h0 inb0) (AT a h1 inb1) x
      = GO a ((Rect.unit (s := S1x512x512) ![0, 0, 128 * g.val] S1x512x128.size inbo).emb x) := by
  obtain ⟨q, c, rfl⟩ : ∃ (q : Fin 512) (c : Fin 128), x = ix3 0 q c := ⟨x 1, x 2, funext fun b => Fin.ext (by
    have h0 : (x 0).val < 1 := (x 0).isLt
    match b with
    | ⟨0, _⟩ => show (x 0).val = 0; omega
    | ⟨1, _⟩ => rfl
    | ⟨2, _⟩ => rfl)⟩
  have he : (Rect.unit (s := S1x512x512) ![0, 0, 128 * g.val] S1x512x128.size inbo).emb (ix3 0 q c)
      = ix3 0 q ⟨128 * g.val + c.val, by omega⟩ := funext fun b => Fin.ext (by
    match b with
    | ⟨0, _⟩ => rfl
    | ⟨1, _⟩ => show 0 + 1 * q.val = q.val; omega
    | ⟨2, _⟩ => show 128 * g.val + 1 * c.val = 128 * g.val + c.val; omega)
  rw [pairO_apply, he]
  have hc := c.isLt
  split
  · rw [ld_a, ld_a]
    refine congrArg₂ Ideal.div (congrArg a ?_) (congrArg a ?_) <;> funext b <;> apply Fin.ext
    · match b with
      | ⟨0, _⟩ => show h0.val = (128 * g.val + c.val) / 64; omega
      | ⟨1, _⟩ => show c.val = (128 * g.val + c.val) % 64; omega
      | ⟨2, _⟩ => rfl
    · match b with
      | ⟨0, _⟩ => show h0.val = (128 * g.val + c.val) / 64; omega
      | ⟨1, _⟩ => rfl
      | ⟨2, _⟩ => rfl
  · rw [ld_a, ld_a]
    refine congrArg₂ Ideal.div (congrArg a ?_) (congrArg a ?_) <;> funext b <;> apply Fin.ext
    · match b with
      | ⟨0, _⟩ => show h1.val = (128 * g.val + c.val) / 64; omega
      | ⟨1, _⟩ => show c.val - 64 = (128 * g.val + c.val) % 64; omega
      | ⟨2, _⟩ => rfl
    · match b with
      | ⟨0, _⟩ => show h1.val = (128 * g.val + c.val) / 64; omega
      | ⟨1, _⟩ => rfl
      | ⟨2, _⟩ => rfl

/-- The result block out of the sums, written once for all heads. -/
theorem outOf_eq : outOf a = GO a := by
  funext y
  refine View.canon_apply_of_pieces (GO a) _ ?_ y (coverO _ _ _ _ y)
  intro p hp
  simp only [List.mem_cons, List.not_mem_nil, or_false] at hp
  rcases hp with rfl | rfl | rfl | rfl
  · exact pair_head a 3 6 7 rfl rfl _ _ inb_S1x512x512_S1x512x128_0_0_384
  · exact pair_head a 2 4 5 rfl rfl _ _ inb_S1x512x512_S1x512x128_0_0_256
  · exact pair_head a 1 2 3 rfl rfl _ _ inb_S1x512x512_S1x512x128_0_0_128
  · exact pair_head a 0 0 1 rfl rfl _ _ inb_S1x512x512_S1x512x128_0_0_0

end Cert.KernelIdeal.Attn
-- ==== Proof.Block.lean ====
/- The block of the result one grid point of the attention call leaves, where its operands are finite: for each head,
   query and column, the weighted mean of the values, the weights being the powers of two of the scores. -/
module

public import proofs.«01_k».proof.Proof.Passes2

@[expose] public section

set_option maxRecDepth 16384

noncomputable section

namespace Cert.KernelIdeal.Attn

open Idealize.ShloMosaic Idealize.ShloMosaic.TcCoe Idealize.SL.Sem
open Cert.KernelIdeal.Gen Cert.Online

variable (X0 : S1x8x256x512.Idx → ℝ) (X1 : S1x2x8448x256.Idx → ℝ) (X2 : S1x11x2x80x768.Idx → ℝ)

/-- A score as a real. -/
def SR (h : Fin 8) (q : Fin 512) (s : Fin 8448) : ℝ := ∑ d : Fin 256, X1 (ix4 0 (grp h) s d) * X0 (ix4 0 h d q)

/-- The scores of tile `k`. -/
def sF (h : Fin 8) (q : Fin 512) (k : ℕ) (r : Fin 768) : ℝ := if hk : k < 11 then SR X0 X1 h q (key ⟨k, hk⟩ r) else 0

/-- Row `c` of the values of tile `k`. -/
def vF (h : Fin 8) (c : Fin 80) (k : ℕ) (r : Fin 768) : ℝ := if hk : k < 11 then X2 (ix5 0 ⟨k, hk⟩ (grp h) c r) else 0

/-- Within the eleven blocks the score is the one of the block. -/
theorem sF_of (h : Fin 8) (q : Fin 512) (k : Fin 11) (r : Fin 768) : sF X0 X1 h q k.val r = SR X0 X1 h q (key k r) := dif_pos k.isLt
/-- Within the eleven blocks the value is the one of the block. -/
theorem vF_of (h : Fin 8) (c : Fin 80) (k : Fin 11) (r : Fin 768) : vF X2 h c k.val r = X2 (ix5 0 k (grp h) c r) := dif_pos k.isLt

/-- Before any block the first pass holds zero sums, the first maximum of each query, and no larger score seen. -/
theorem lag_zero (x0 : Q Ideal) (x1 : K Ideal) (x2 : W Ideal) : lag x0 x1 x2 0 = (k0_pay125 (F := Ideal), initM x0 x1, k0_pay124 (F := Ideal)) := by rw [lag]

/-- The maxima before the first lagged pass. -/
theorem lag_zero_max (x0 : Q Ideal) (x1 : K Ideal) (x2 : W Ideal) : (lag x0 x1 x2 0).2.1 = GI x0 x1 := by rw [lag_zero, ← initM_eq]

/-- The sums before the first lagged pass. -/
theorem lag_zero_sum (x0 : Q Ideal) (x1 : K Ideal) (x2 : W Ideal) : (lag x0 x1 x2 0).2.2 = k0_pay124 (F := Ideal) := by rw [lag_zero]

/-- A lagged pass, at the idealized numbers. -/
theorem lag_step (x0 : Q Ideal) (x1 : K Ideal) (x2 : W Ideal) (n : ℕ) (hk : n < k0_t1_loop.trips) :
    (lag x0 x1 x2 (n + 1)).2 = (GM x0 x1 (t1 ⟨n, hk⟩) (lag x0 x1 x2 n).2.1,
      GA x0 x1 x2 (t1 ⟨n, hk⟩) (lag x0 x1 x2 n).2.1 (lag x0 x1 x2 n).2.2) := by
  rw [lag, dif_pos hk, uM_eq, uA_eq]

/-- Before any block the second pass holds the least maximum and zero sums. -/
theorem exact_zero (x0 : Q Ideal) (x1 : K Ideal) (x2 : W Ideal) : Attn.exact x0 x1 x2 0 = (k0_pay132 (F := Ideal), k0_pay133 (F := Ideal)) := by rw [Attn.exact]

/-- The maxima before the first exact pass. -/
theorem exact_zero_max (x0 : Q Ideal) (x1 : K Ideal) (x2 : W Ideal) : (Attn.exact x0 x1 x2 0).1 = k0_pay132 (F := Ideal) := by rw [exact_zero]

/-- The sums before the first exact pass. -/
theorem exact_zero_sum (x0 : Q Ideal) (x1 : K Ideal) (x2 : W Ideal) : (Attn.exact x0 x1 x2 0).2 = k0_pay133 (F := Ideal) := by rw [exact_zero]

/-- An exact pass, at the idealized numbers. -/
theorem exact_step (x0 : Q Ideal) (x1 : K Ideal) (x2 : W Ideal) (n : ℕ) (hk : n < k0_t2_loop.trips) :
    Attn.exact x0 x1 x2 (n + 1) = (GM x0 x1 (t2 ⟨n, hk⟩) (Attn.exact x0 x1 x2 n).1,
      GE x0 x1 x2 (t2 ⟨n, hk⟩) (Attn.exact x0 x1 x2 n).1 (Attn.exact x0 x1 x2 n).2) := by
  rw [Attn.exact, dif_pos hk, wM_eq, wA_eq]

/-- The first pass starts from zero sums. -/
theorem pay124_apply (y : S8x80x512.Idx) : k0_pay124 (F := Ideal) y = (0 : EReal) := by unfold k0_pay124; pointwise
/-- The second pass starts from zero sums. -/
theorem pay133_apply (y : S8x80x512.Idx) : k0_pay133 (F := Ideal) y = (0 : EReal) := by unfold k0_pay133; pointwise
/-- The second pass starts from the least maximum. -/
theorem pay132_apply (y : S8x1x512.Idx) : k0_pay132 (F := Ideal) y = (⊥ : EReal) := by unfold k0_pay132; pointwise; rw [neg_inf]

variable (x0 : Q Ideal) (x1 : K Ideal) (x2 : W Ideal)
  (hx0 : ∀ i, x0 i = ((X0 i : ℝ) : EReal)) (hx1 : ∀ i, x1 i = ((X1 i : ℝ) : EReal)) (hx2 : ∀ i, x2 i = ((X2 i : ℝ) : EReal))

include hx0 hx1

/-- A score of real operands is real. -/
theorem Sc_real (h : Fin 8) (q : Fin 512) (s : Fin 8448) : Sc x0 x1 h q s = ((SR X0 X1 h q s : ℝ) : EReal) := by
  unfold Sc SR
  rw [← coe_sum]
  exact Finset.sum_congr rfl fun d _ => by rw [hx0, hx1, EReal.coe_mul]

/-- A tile's largest score is real. -/
theorem Tp_real (k : Fin 11) (h : Fin 8) (q : Fin 512) : ∃ t : ℝ, Tp x0 x1 k h q = (t : EReal) := by
  obtain ⟨t, ht⟩ := fold_max fun r : Fin 768 => SR X0 X1 h q (key k r)
  refine ⟨t, ?_⟩
  rw [← ht]; unfold Tp
  exact congrArg (fun f => Finset.univ.fold max (⊥ : EReal) f) (funext fun r => Sc_real X0 X1 x0 x1 hx0 hx1 h q _)

/-- The first maximum is real. -/
theorem GI_real (h : Fin 8) (q : Fin 512) : ∃ t : ℝ, GI x0 x1 (ix3 h 0 q) = (t : EReal) := by
  obtain ⟨t, ht⟩ := fold_max fun r : Fin 128 => SR X0 X1 h q ⟨4224 + r.val, by omega⟩
  refine ⟨t, ?_⟩
  rw [← ht]
  exact congrArg (fun f => Finset.univ.fold max (⊥ : EReal) f) (funext fun r => Sc_real X0 X1 x0 x1 hx0 hx1 h q _)

include hx2

/-- The sums at a lagged pass's end, from those at its start. -/
theorem GA_real (k : Fin 11) (m : M Ideal) (a : A Ideal) (h : Fin 8) (q : Fin 512) (μ : ℝ) (hm : m (ix3 h 0 q) = (μ : EReal))
    (ha : ∀ c, a (ix3 h c q) = ((acc (sF X0 X1 h q) (vF X2 h c) k.val μ : ℝ) : EReal)) :
    ∃ μ' : ℝ, GM x0 x1 k m (ix3 h 0 q) = (μ' : EReal)
      ∧ ∀ c, GA x0 x1 x2 k m a (ix3 h c q) = ((acc (sF X0 X1 h q) (vF X2 h c) (k.val + 1) μ' : ℝ) : EReal) := by
  obtain ⟨t, ht⟩ := Tp_real X0 X1 x0 x1 hx0 hx1 k h q
  refine ⟨max μ t, ?_, fun c => ?_⟩
  · show max (m (ix3 h 0 q)) (Tp x0 x1 k h q) = _
    rw [hm, ht, max_coe]
  · rw [← lagged]
    show Ideal.exp2 (m (ix3 h 0 q) - max (m (ix3 h 0 q)) (Tp x0 x1 k h q))
      * (a (ix3 h c q) + ∑ r : Fin 768, x2 (ix5 0 k (grp h) c r) * Ideal.exp2 (Sc x0 x1 h q (key k r) - m (ix3 h 0 q))) = _
    simp only [hm, ht, ha, hx2, Sc_real X0 X1 x0 x1 hx0 hx1, sF_of, vF_of]

/-- The sums at an exact pass's end, from those at its start. -/
theorem GE_real (k : Fin 11) (m : M Ideal) (a : A Ideal) (h : Fin 8) (q : Fin 512) (μ : ℝ) (hm : m (ix3 h 0 q) = (μ : EReal))
    (ha : ∀ c, a (ix3 h c q) = ((acc (sF X0 X1 h q) (vF X2 h c) k.val μ : ℝ) : EReal)) :
    ∃ μ' : ℝ, GM x0 x1 k m (ix3 h 0 q) = (μ' : EReal)
      ∧ ∀ c, GE x0 x1 x2 k m a (ix3 h c q) = ((acc (sF X0 X1 h q) (vF X2 h c) (k.val + 1) μ' : ℝ) : EReal) := by
  obtain ⟨t, ht⟩ := Tp_real X0 X1 x0 x1 hx0 hx1 k h q
  refine ⟨max μ t, ?_, fun c => ?_⟩
  · show max (m (ix3 h 0 q)) (Tp x0 x1 k h q) = _
    rw [hm, ht, max_coe]
  · rw [← Online.exact]
    show Ideal.exp2 (m (ix3 h 0 q) - max (m (ix3 h 0 q)) (Tp x0 x1 k h q)) * a (ix3 h c q)
      + ∑ r : Fin 768, x2 (ix5 0 k (grp h) c r) * Ideal.exp2 (Sc x0 x1 h q (key k r) - max (m (ix3 h 0 q)) (Tp x0 x1 k h q)) = _
    simp only [hm, ht, ha, hx2, Sc_real X0 X1 x0 x1 hx0 hx1, sF_of, vF_of]

/-- The first exact pass, from no maximum and no sums. -/
theorem GE_first (m : M Ideal) (a : A Ideal) (h : Fin 8) (q : Fin 512) (hm : m (ix3 h 0 q) = ⊥) (ha : ∀ c, a (ix3 h c q) = 0) :
    ∃ μ' : ℝ, GM x0 x1 0 m (ix3 h 0 q) = (μ' : EReal)
      ∧ ∀ c, GE x0 x1 x2 0 m a (ix3 h c q) = ((acc (sF X0 X1 h q) (vF X2 h c) 1 μ' : ℝ) : EReal) := by
  obtain ⟨t, ht⟩ := Tp_real X0 X1 x0 x1 hx0 hx1 0 h q
  refine ⟨t, ?_, fun c => ?_⟩
  · show max (m (ix3 h 0 q)) (Tp x0 x1 0 h q) = _
    rw [hm, ht, max_eq_right bot_le]
  · rw [← Online.exact_first]
    show Ideal.exp2 (m (ix3 h 0 q) - max (m (ix3 h 0 q)) (Tp x0 x1 0 h q)) * a (ix3 h c q)
      + ∑ r : Fin 768, x2 (ix5 0 0 (grp h) c r) * Ideal.exp2 (Sc x0 x1 h q (key 0 r) - max (m (ix3 h 0 q)) (Tp x0 x1 0 h q)) = _
    have e1 := sF_of X0 X1 h q 0
    have e2 := vF_of X2 h c 0
    simp only [Fin.val_zero] at e1 e2
    simp only [hm, ht, ha, hx2, Sc_real X0 X1 x0 x1 hx0 hx1, e1, e2]

/-- Before lagged pass `n` the maxima are real and the sums are those of the tiles passed, weighted against them. -/
theorem lag_real (h : Fin 8) (q : Fin 512) : ∀ n : ℕ, n ≤ 11 → ∃ μ : ℝ, (lag x0 x1 x2 n).2.1 (ix3 h 0 q) = (μ : EReal)
    ∧ ∀ c, (lag x0 x1 x2 n).2.2 (ix3 h c q) = ((acc (sF X0 X1 h q) (vF X2 h c) n μ : ℝ) : EReal)
  | 0, _ => by
    obtain ⟨t, ht⟩ := GI_real X0 X1 x0 x1 hx0 hx1 h q
    refine ⟨t, ?_, fun c => ?_⟩
    · rw [lag_zero_max, ht]
    · rw [lag_zero_sum, acc_zero]
      exact (pay124_apply _).trans EReal.coe_zero.symm
  | n + 1, hn => by
    obtain ⟨μ, hm, ha⟩ := lag_real h q n (by omega)
    have hk : n < k0_t1_loop.trips := by rw [trips1]; omega
    obtain ⟨μ', h1, h2⟩ := GA_real X0 X1 X2 x0 x1 x2 hx0 hx1 hx2 (t1 ⟨n, hk⟩) _ _ h q μ hm ha
    refine ⟨μ', ?_, fun c => ?_⟩
    · rw [lag_step x0 x1 x2 n hk]; exact h1
    · rw [lag_step x0 x1 x2 n hk]; exact h2 c

/-- The same of the exact passes, from the first on. -/
theorem exact_real (h : Fin 8) (q : Fin 512) : ∀ n : ℕ, n + 1 ≤ 11 → ∃ μ : ℝ, (Attn.exact x0 x1 x2 (n + 1)).1 (ix3 h 0 q) = (μ : EReal)
    ∧ ∀ c, (Attn.exact x0 x1 x2 (n + 1)).2 (ix3 h c q) = ((acc (sF X0 X1 h q) (vF X2 h c) (n + 1) μ : ℝ) : EReal)
  | 0, _ => by
    have hk : 0 < k0_t2_loop.trips := by rw [trips2]; omega
    obtain ⟨μ', h1, h2⟩ := GE_first X0 X1 X2 x0 x1 x2 hx0 hx1 hx2 (Attn.exact x0 x1 x2 0).1 (Attn.exact x0 x1 x2 0).2 h q
      (by rw [exact_zero_max]; exact pay132_apply _) (fun c => by rw [exact_zero_sum]; exact pay133_apply _)
    refine ⟨μ', ?_, fun c => ?_⟩
    · rw [exact_step x0 x1 x2 0 hk]; exact h1
    · rw [exact_step x0 x1 x2 0 hk]; exact h2 c
  | n + 1, hn => by
    obtain ⟨μ, hm, ha⟩ := exact_real h q n (by omega)
    have hk : n + 1 < k0_t2_loop.trips := by rw [trips2]; omega
    obtain ⟨μ', h1, h2⟩ := GE_real X0 X1 X2 x0 x1 x2 hx0 hx1 hx2 (t2 ⟨n + 1, hk⟩) _ _ h q μ hm ha
    refine ⟨μ', ?_, fun c => ?_⟩
    · rw [exact_step x0 x1 x2 (n + 1) hk]; exact h1
    · rw [exact_step x0 x1 x2 (n + 1) hk]; exact h2 c

/-- Whichever passes stand, the sums the result is read from are those of all eleven tiles. -/
theorem final_real (h : Fin 8) (q : Fin 512) : ∃ μ : ℝ,
    ∀ c, final x0 x1 x2 (ix3 h c q) = ((acc (sF X0 X1 h q) (vF X2 h c) 11 μ : ℝ) : EReal) := by
  unfold final
  split
  · obtain ⟨μ, -, ha⟩ := exact_real X0 X1 X2 x0 x1 x2 hx0 hx1 hx2 h q 10 (by omega)
    exact ⟨μ, by rw [trips2]; exact ha⟩
  · obtain ⟨μ, -, ha⟩ := lag_real X0 X1 X2 x0 x1 x2 hx0 hx1 hx2 h q 11 (by omega)
    exact ⟨μ, by rw [trips1]; exact ha⟩

/-- The sum of the weights is positive. -/
theorem acc_pos (s v : ℕ → Fin 768 → ℝ) (hv : ∀ k < 11, ∀ r, v k r = 1) : 0 < acc s v 11 0 := by
  unfold acc
  refine Finset.sum_pos (fun k hk => Finset.sum_pos (fun r _ => ?_) ⟨0, Finset.mem_univ _⟩) ⟨0, by simp⟩
  rw [hv k (Finset.mem_range.mp hk), one_mul]
  exact Real.rpow_pos_of_pos two_pos _

/-- The result's block at query `q` and column `d` of head `h`. -/
theorem out_real (h1 : ∀ k g r, X2 (ix5 0 k g 64 r) = 1) (q : Fin 512) (c : Fin 512) (h : Fin 8) (d : Fin 80)
    (eh : h.val = c.val / 64) (ed : d.val = c.val % 64) :
    out x0 x1 x2 (ix3 0 q c)
      = ((acc (sF X0 X1 h q) (vF X2 h d) 11 0 / acc (sF X0 X1 h q) (vF X2 h 64) 11 0 : ℝ) : EReal) := by
  obtain ⟨μ, ha⟩ := final_real X0 X1 X2 x0 x1 x2 hx0 hx1 hx2 h q
  have hpos : acc (sF X0 X1 h q) (vF X2 h 64) 11 μ ≠ 0 := by
    rw [← rescale_acc _ _ _ 0 μ]
    exact mul_ne_zero (Real.rpow_pos_of_pos two_pos _).ne'
      (acc_pos X0 X1 X2 x0 x1 x2 hx0 hx1 hx2 _ _ fun k hk r => by rw [vF, dif_pos hk, h1]).ne'
  unfold out
  rw [outOf_eq, ← quotient _ _ _ _ μ, ← div_real _ _ hpos, ← ha, ← ha]
  refine congrArg₂ Ideal.div (congrArg _ (funext fun b => Fin.ext ?_)) (congrArg _ (funext fun b => Fin.ext ?_))
  · match b with
    | ⟨0, _⟩ => exact eh.symm
    | ⟨1, _⟩ => exact ed.symm
    | ⟨2, _⟩ => rfl
  · match b with
    | ⟨0, _⟩ => exact eh.symm
    | ⟨1, _⟩ => rfl
    | ⟨2, _⟩ => rfl

end Cert.KernelIdeal.Attn
-- ==== Proof.Passes.lean ====
/- What one trip of each of the attention call's two loops writes, read through the memrefs: the passes of `Model.lean`. -/
module

public import proofs.«01_k».proof.Proof.Model
public import proofs.«01_k».proof.Proof.Gen.KernelIdeal.Loops

@[expose] public section

set_option maxRecDepth 16384
set_option maxHeartbeats 4000000

noncomputable section

namespace Cert.KernelIdeal.Attn

open Idealize.ShloMosaic Idealize.ShloMosaic.TcCoe Idealize.SL.Sem
open Cert.KernelIdeal.Gen

variable {F : FTy → Type} [FloatOps F]

variable (𝒱 : Variants) (c : Dev nD) (bd : Option 𝒱.V) (i : grid0.Coords)
  (arg2 : Memref sig .tc .vmem S1x8x256x512 .fp8e4m3) (harg2 : arg2.IsWhole)
  (arg3 : Memref sig .tc .vmem S1x2x8448x256 .fp8e4m3) (harg3 : arg3.IsWhole)
  (arg4 : Memref sig .tc .vmem S1x11x2x80x768 .bf16) (harg4 : arg4.IsWhole)
  (arg5 : Memref sig .tc .vmem S1x512x512 .bf16) (harg5 : arg5.IsWhole)
  (arg6 : Memref sig .tc .vmem S8x1x512 .f32) (harg6 : arg6.IsWhole)
  (arg7 : Memref sig .tc .vmem S8x80x512 .f32) (harg7 : arg7.IsWhole) (v71 : FVec F S128x256 .fp8e4m3)
  (X2 : BufTy.Contents (Elt F) arg2.view.ty) (X3 : BufTy.Contents (Elt F) arg3.view.ty)
  (X4 : BufTy.Contents (Elt F) arg4.view.ty)

/-- The maxima a lagged trip leaves. -/
theorem lag_readM (k : Fin k0_t1_loop.trips) (j : FVec F S1x512 .f32) (f6 : BufTy.Contents (Elt F) arg6.view.ty)
    (f7 : BufTy.Contents (Elt F) arg7.view.ty) :
    arg6.view.read (Elt F) (arg6.view.writes (Elt F) f6 (tripL_k0_t1 (F := F) 𝒱 c bd i arg2 harg2 arg3 harg3 arg4 harg4
        arg5 harg5 arg6 harg6 arg7 harg7 v71 X2 X3 X4 k j f6 f7).1)
      = uM k (arg2.view.read (Elt F) X2) (arg3.view.read (Elt F) X3) (arg6.view.read (Elt F) f6) := by
  unfold tripL_k0_t1 trip_k0_t1
  exact View.read_writes_eq_canon _ _ _ (coverM _ _ _ _ _ _ _ _)

/-- The sums a lagged trip leaves. -/
theorem lag_readA (k : Fin k0_t1_loop.trips) (j : FVec F S1x512 .f32) (f6 : BufTy.Contents (Elt F) arg6.view.ty)
    (f7 : BufTy.Contents (Elt F) arg7.view.ty) :
    arg7.view.read (Elt F) (arg7.view.writes (Elt F) f7 (tripL_k0_t1 (F := F) 𝒱 c bd i arg2 harg2 arg3 harg3 arg4 harg4
        arg5 harg5 arg6 harg6 arg7 harg7 v71 X2 X3 X4 k j f6 f7).2)
      = uA k (arg2.view.read (Elt F) X2) (arg3.view.read (Elt F) X3) (arg4.view.read (Elt F) X4)
        (arg6.view.read (Elt F) f6) (arg7.view.read (Elt F) f7) := by
  unfold tripL_k0_t1 trip_k0_t1
  exact View.read_writes_eq_canon _ _ _ (coverA _ _ _ _ _ _ _ _)

/-- The rise a lagged trip yields. -/
theorem lag_readJ (k : Fin k0_t1_loop.trips) (j : FVec F S1x512 .f32) (f6 : BufTy.Contents (Elt F) arg6.view.ty)
    (f7 : BufTy.Contents (Elt F) arg7.view.ty) :
    tripR_k0_t1 (F := F) 𝒱 c bd i arg2 harg2 arg3 harg3 arg4 harg4
        arg5 harg5 arg6 harg6 arg7 harg7 v71 X2 X3 X4 k j f6 f7
      = uJ k (arg2.view.read (Elt F) X2) (arg3.view.read (Elt F) X3) (arg6.view.read (Elt F) f6) j := by
  unfold tripR_k0_t1 trip_k0_t1
  rfl

/-- The maxima an exact trip leaves. -/
theorem exact_readM (k : Fin k0_t2_loop.trips) (f6 : BufTy.Contents (Elt F) arg6.view.ty)
    (f7 : BufTy.Contents (Elt F) arg7.view.ty) :
    arg6.view.read (Elt F) (arg6.view.writes (Elt F) f6 (tripL_k0_t2 (F := F) 𝒱 c bd i arg2 harg2 arg3 harg3 arg4 harg4
        arg5 harg5 arg6 harg6 arg7 harg7 v71 X2 X3 X4 k f6 f7).1)
      = wM k (arg2.view.read (Elt F) X2) (arg3.view.read (Elt F) X3) (arg6.view.read (Elt F) f6) := by
  unfold tripL_k0_t2 trip_k0_t2
  exact View.read_writes_eq_canon _ _ _ (coverM _ _ _ _ _ _ _ _)

/-- The sums an exact trip leaves. -/
theorem exact_readA (k : Fin k0_t2_loop.trips) (f6 : BufTy.Contents (Elt F) arg6.view.ty)
    (f7 : BufTy.Contents (Elt F) arg7.view.ty) :
    arg7.view.read (Elt F) (arg7.view.writes (Elt F) f7 (tripL_k0_t2 (F := F) 𝒱 c bd i arg2 harg2 arg3 harg3 arg4 harg4
        arg5 harg5 arg6 harg6 arg7 harg7 v71 X2 X3 X4 k f6 f7).2)
      = wA k (arg2.view.read (Elt F) X2) (arg3.view.read (Elt F) X3) (arg4.view.read (Elt F) X4)
        (arg6.view.read (Elt F) f6) (arg7.view.read (Elt F) f7) := by
  unfold tripL_k0_t2 trip_k0_t2
  exact View.read_writes_eq_canon _ _ _ (coverA _ _ _ _ _ _ _ _)

end Cert.KernelIdeal.Attn
-- ==== Proof.States.lean ====
/- The state of each of the attention call's two loops, read through the memrefs: the passes of `Model.lean` composed. -/
module

public import proofs.«01_k».proof.Proof.Passes

@[expose] public section

set_option maxRecDepth 16384
set_option maxHeartbeats 4000000

noncomputable section

namespace Cert.KernelIdeal.Attn

open Idealize.ShloMosaic Idealize.ShloMosaic.TcCoe Idealize.SL.Sem
open Cert.KernelIdeal.Gen

variable {F : FTy → Type} [FloatOps F]

variable (𝒱 : Variants) (c : Dev nD) (bd : Option 𝒱.V) (i : grid0.Coords)
  (arg2 : Memref sig .tc .vmem S1x8x256x512 .fp8e4m3) (harg2 : arg2.IsWhole)
  (arg3 : Memref sig .tc .vmem S1x2x8448x256 .fp8e4m3) (harg3 : arg3.IsWhole)
  (arg4 : Memref sig .tc .vmem S1x11x2x80x768 .bf16) (harg4 : arg4.IsWhole)
  (arg5 : Memref sig .tc .vmem S1x512x512 .bf16) (harg5 : arg5.IsWhole)
  (arg6 : Memref sig .tc .vmem S8x1x512 .f32) (harg6 : arg6.IsWhole)
  (arg7 : Memref sig .tc .vmem S8x80x512 .f32) (harg7 : arg7.IsWhole) (v71 : FVec F S128x256 .fp8e4m3)
  (X2 : BufTy.Contents (Elt F) arg2.view.ty) (X3 : BufTy.Contents (Elt F) arg3.view.ty)
  (X4 : BufTy.Contents (Elt F) arg4.view.ty)

variable (G6 : BufTy.Contents (Elt F) arg6.view.ty) (G7 : BufTy.Contents (Elt F) arg7.view.ty)

/-- The lagged loop's state before trip `k`, read: the passes composed. -/
theorem lag_state (x0 : Q F) (x1 : K F) (x2 : W F) (h2 : arg2.view.read (Elt F) X2 = x0)
    (h3 : arg3.view.read (Elt F) X3 = x1) (h4 : arg4.view.read (Elt F) X4 = x2)
    (h6 : arg6.view.read (Elt F) G6 = initM x0 x1) (h7 : arg7.view.read (Elt F) G7 = k0_pay124) (k : ℕ)
    (hk : k ≤ k0_t1_loop.trips) :
    (st_k0_t1 (F := F) 𝒱 c bd i arg2 harg2 arg3 harg3 arg4 harg4
        arg5 harg5 arg6 harg6 arg7 harg7 v71 X2 X3 X4 G6 G7 k0_pay125 k).1 = (lag x0 x1 x2 k).1
    ∧ arg6.view.read (Elt F) (arg6.view.writes (Elt F) G6 (st_k0_t1 (F := F) 𝒱 c bd i arg2 harg2 arg3 harg3 arg4 harg4
        arg5 harg5 arg6 harg6 arg7 harg7 v71 X2 X3 X4 G6 G7 k0_pay125 k).2.1) = (lag x0 x1 x2 k).2.1
    ∧ arg7.view.read (Elt F) (arg7.view.writes (Elt F) G7 (st_k0_t1 (F := F) 𝒱 c bd i arg2 harg2 arg3 harg3 arg4 harg4
        arg5 harg5 arg6 harg6 arg7 harg7 v71 X2 X3 X4 G6 G7 k0_pay125 k).2.2) = (lag x0 x1 x2 k).2.2 := by
  induction k with
  | zero => exact ⟨rfl, h6, h7⟩
  | succ k ih =>
    obtain ⟨i1, i2, i3⟩ := ih (Nat.le_of_succ_le hk)
    have e := st_k0_t1_succ (F := F) 𝒱 c bd i arg2 harg2 arg3 harg3 arg4 harg4 arg5 harg5 arg6 harg6 arg7 harg7 v71 X2 X3 X4 G6 G7 k0_pay125 ⟨k, hk⟩
    dsimp only at e
    rw [e, lag, dif_pos (show k < _ from hk)]
    dsimp only
    refine ⟨?_, ?_, ?_⟩
    · refine (lag_readJ ..).trans ?_
      rw [h2, h3, i1, i2]
    · rw [View.writes_append]
      refine (lag_readM ..).trans ?_
      rw [h2, h3, i2]
    · rw [View.writes_append]
      refine (lag_readA ..).trans ?_
      rw [h2, h3, h4, i2, i3]

/-- The exact loop's state before trip `k`, read: the passes composed. -/
theorem exact_state (x0 : Q F) (x1 : K F) (x2 : W F) (h2 : arg2.view.read (Elt F) X2 = x0)
    (h3 : arg3.view.read (Elt F) X3 = x1) (h4 : arg4.view.read (Elt F) X4 = x2)
    (h6 : arg6.view.read (Elt F) G6 = k0_pay132) (h7 : arg7.view.read (Elt F) G7 = k0_pay133) (k : ℕ)
    (hk : k ≤ k0_t2_loop.trips) :
    arg6.view.read (Elt F) (arg6.view.writes (Elt F) G6 (pb_k0_t2 (F := F) 𝒱 c bd i arg2 harg2 arg3 harg3 arg4 harg4
        arg5 harg5 arg6 harg6 arg7 harg7 v71 X2 X3 X4 G6 G7 k).1) = (exact x0 x1 x2 k).1
    ∧ arg7.view.read (Elt F) (arg7.view.writes (Elt F) G7 (pb_k0_t2 (F := F) 𝒱 c bd i arg2 harg2 arg3 harg3 arg4 harg4
        arg5 harg5 arg6 harg6 arg7 harg7 v71 X2 X3 X4 G6 G7 k).2) = (exact x0 x1 x2 k).2 := by
  induction k with
  | zero => exact ⟨h6, h7⟩
  | succ k ih =>
    obtain ⟨i2, i3⟩ := ih (Nat.le_of_succ_le hk)
    have e := pb_k0_t2_succ (F := F) 𝒱 c bd i arg2 harg2 arg3 harg3 arg4 harg4 arg5 harg5 arg6 harg6 arg7 harg7 v71 X2 X3 X4 G6 G7 ⟨k, hk⟩
    dsimp only at e
    rw [e, exact, dif_pos (show k < _ from hk)]
    dsimp only
    refine ⟨?_, ?_⟩
    · rw [View.writes_append]
      refine (exact_readM ..).trans ?_
      rw [h2, h3, i2]
    · rw [View.writes_append]
      refine (exact_readA ..).trans ?_
      rw [h2, h3, h4, i2, i3]

end Cert.KernelIdeal.Attn
-- ==== Proof.Body.lean ====
/- The body of the attention call at one grid point: from the blocks of queries, keys and values to the block of the
   result, whatever the two accumulators held before. -/
module

public import proofs.«01_k».proof.Proof.States
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body does at a grid point: from the staged blocks and any result block it ends with the result block the passes give, the inputs untouched. -/
theorem body (c : Dev nD) (E : Set ℕ) (i : grid0.Coords)
    (arg2 : Memref sig .tc .vmem S1x8x256x512 .fp8e4m3) (harg2 : arg2.IsWhole)
    (arg3 : Memref sig .tc .vmem S1x2x8448x256 .fp8e4m3) (harg3 : arg3.IsWhole)
    (arg4 : Memref sig .tc .vmem S1x11x2x80x768 .bf16) (harg4 : arg4.IsWhole)
    (arg5 : Memref sig .tc .vmem S1x512x512 .bf16) (harg5 : arg5.IsWhole)
    (arg6 : Memref sig .tc .vmem S8x1x512 .f32) (harg6 : arg6.IsWhole)
    (arg7 : Memref sig .tc .vmem S8x80x512 .f32) (harg7 : arg7.IsWhole)
    (x0 : Q F) (x1 : K F) (x2 : W F) (Kont : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
          ∗ owns (c : Thread nD τ) arg4 fullShare x2 ∗ owns (c : Thread nD τ) arg5 fullShare (out x0 x1 x2)
          ∗ (∃ d, owns (c : Thread nD τ) arg6 fullShare d) ∗ (∃ d, owns (c : Thread nD τ) arg7 fullShare d)) -∗ Kont ⟨⟩))
      ⊢ wp frame (wpE (defs₀ (F := F)) Variants.none c none) E
        (cc0_attn i arg2 harg2 arg3 harg3 arg4 harg4 arg5 harg5 arg6 harg6 arg7 harg7) Kont := by
  simp only [cc0_attn_eq_skeleton]; unfold cc0_attn_skel
  simp only [k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, Hk⟩
  sl_exec
  rw [View.writes_append, View.writes_append]
  have h6 : arg6.view.read (Elt F) (arg6.view.writes (Elt F) arg6.view.junk (body.sl.H6_8 c arg2 arg3 f0 f1)) = initM x0 x1 := by
    subst hf0 hf1
    exact View.read_writes_eq_canon _ _ _ (coverM _ _ _ _ _ _ _ _)
  have h7 : arg7.view.read (Elt F) (arg7.view.writes (Elt F) arg7.view.junk (body.sl.H7_1 (F := F))) = k0_pay124 := by
    exact View.read_writes_full _ _ _ _ _
  have hs := lag_state Variants.none c none i arg2 harg2 arg3 harg3 arg4 harg4 arg5 harg5 arg6 harg6 arg7 harg7 (body.sl.r_2 c arg3 f1) f0 f1 f2 _ _ x0 x1 x2 hf0 hf1 hf2 h6 h7
    k0_t1_loop.trips le_rfl
  have hv : body.sl.v94 c i arg2 harg2 arg3 harg3 arg4 harg4 arg5 harg5 arg6 harg6 arg7 harg7 f0 f1 f2 = redo (lag x0 x1 x2 k0_t1_loop.trips).1 := congrArg redo hs.1
  rw [hv]
  obtain ⟨-, hM, hA⟩ := hs
  generalize arg6.view.writes (Elt F) (arg6.view.writes (Elt F) arg6.view.junk _) _ = g6 at hM ⊢
  generalize arg7.view.writes (Elt F) (arg7.view.writes (Elt F) arg7.view.junk _) _ = g7 at hA ⊢
  by_cases hc : redo (lag x0 x1 x2 k0_t1_loop.trips).1 = 1#1
  · rw [if_pos hc]
    sl_exec
    rw [View.writes_append, View.writes_append]
    have e6 : arg6.view.read (Elt F) (arg6.view.writes (Elt F) arg6.view.junk (body.sl.H6_1 (F := F))) = k0_pay132 :=
      View.read_writes_full _ _ _ _ _
    have e7 : arg7.view.read (Elt F) (arg7.view.writes (Elt F) arg7.view.junk (body.sl.H7_1_1 (F := F))) = k0_pay133 :=
      View.read_writes_full _ _ _ _ _
    have es := exact_state Variants.none c none i arg2 harg2 arg3 harg3 arg4 harg4 arg5 harg5 arg6 harg6 arg7 harg7 (body.sl.r_2 c arg3 f1) f0 f1 f2 _ _ x0 x1 x2 hf0 hf1 hf2 e6 e7
      k0_t2_loop.trips le_rfl
    rw [← View.writes_append, ← View.writes_append] at es
    have HO := (show out x0 x1 x2 = outOf (exact x0 x1 x2 k0_t2_loop.trips).2 by rw [out, final, if_pos hc]).trans
      (congrArg outOf es.2.symm)
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H5]
    · iexists _; isplitr
      swap; · iexact H5
      ipureintro
      rw [HO]
      exact View.read_writes_eq_canon _ _ _ (coverO _ _ _ _)
    isplitl [H6]
    · iexists _; iexists _; isplitr
      swap; · iexact H6
      ipureintro; rfl
    iexists _; iexists _; isplitr
    swap; · iexact H7
    ipureintro; rfl
  · have HO : out x0 x1 x2 = outOf (arg7.view.read (Elt F) g7) := by rw [out, final, if_neg hc, hA]
    rw [if_neg hc]
    sl_exec
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H5]
    · iexists _; isplitr
      swap; · iexact H5
      ipureintro
      rw [HO]
      exact View.read_writes_eq_canon _ _ _ (coverO _ _ _ _)
    isplitl [H6]
    · iexists _; iexists _; isplitr
      swap; · iexact H6
      ipureintro; rfl
    iexists _; iexists _; isplitr
    swap; · iexact H7
    ipureintro; rfl

end Cert.KernelIdeal.Attn
-- ==== Proof.Run.lean ====
/- The run of the attention call's program over any float values: the body at every grid point, the launch, and what
   the final states hold. -/
module

public import proofs.«01_k».proof.Proof.Body
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel keeps between points: its two accumulators at anything, and the generator's register. -/
theorem kept_eq (c : Dev nD) : (Pipeline.ΦA spec0 c : sProp 𝕄)
    = iprop(((∃ d, owns (c : Thread nD τ) (Memref.whole cc0_scratch0) fullShare d)
      ∗ (∃ d, owns (c : Thread nD τ) (Memref.whole cc0_scratch1) fullShare d)) ∗ ∃ r, prngReg c r) := by
  unfold Pipeline.ΦA
  rw [scopedRest0_eq]
  simp only [owns_whole]

/-- The pipeline's data on core `c`: each input window keeps its block, the output window is left at the attention of
    the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

/-- The queries are left as staged. -/
theorem after0 (c : Dev nD) (t : Fin cfg0.N) : (dats m 0 c).after 0 t = iblk m c 0 t := by dsimp only [dats]
/-- The keys are left as staged. -/
theorem after1 (c : Dev nD) (t : Fin cfg0.N) : (dats m 0 c).after 1 t = iblk m c 1 t := by dsimp only [dats]
/-- The values are left as staged. -/
theorem after2 (c : Dev nD) (t : Fin cfg0.N) : (dats m 0 c).after 2 t = iblk m c 2 t := by dsimp only [dats]
/-- The result block is what the body leaves. -/
theorem after3 (c : Dev nD) (t : Fin cfg0.N) :
    (dats m 0 c).after 3 t = out (iblk m c 0 t) (iblk m c 1 t) (iblk m c 2 t) := by dsimp only [dats]

/-- Each input window holds its block when the body is called. -/
theorem before0 (c : Dev nD) (t : Fin cfg0.N) (d) : (dats m 0 c).before 0 t d = iblk m c 0 t :=
  before0_0_of m (dats m 0 c) (A_eq m c 0) (after0 m c) t d
/-- The body finds the keys staged. -/
theorem before1 (c : Dev nD) (t : Fin cfg0.N) (d) : (dats m 0 c).before 1 t d = iblk m c 1 t :=
  before0_1_of m (dats m 0 c) (A_eq m c 1) (after1 m c) t d
/-- The body finds the values staged. -/
theorem before2 (c : Dev nD) (t : Fin cfg0.N) (d) : (dats m 0 c).before 2 t d = iblk m c 2 t :=
  before0_2_of m (dats m 0 c) (A_eq m c 2) (after2 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem point (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0, after1, after2, after3, kept_eq]
  iintro ⟨⟨⟨HS0, HS1⟩, Hr⟩, Ho, ⟨%d0, H0⟩, ⟨%d1, H1⟩, ⟨%d2, H2⟩, ⟨%d3, H3⟩⟩
  iapply (body c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hr]
  · isplitl [HS0 HS1]
    · isplitl [HS0]; · iexact HS0
      iexact HS1
    iexact Hr
  isplitl [Ho]; · iexact Ho
  isplitl [H0]; · iexact H0
  isplitl [H1]; · iexact H1
  isplitl [H2]; · iexact H2
  iexact H3

/-- The body table's row is the body. -/
theorem row_eq (t : Fin cfg0.N) : defs₀ (F := F) .tc cfg0.body (cfg0.bodyArgs t (cfg0.slots t)) = bodyAt0 t := by
  unfold defs₀; rw [Defs.onTc_tc]

/-- The pipeline's obligation for its body. -/
theorem obligation (c : Dev nD) : BodyObligation (dats (F := F) m 0 c) (defs₀ (F := F)) Variants.none () Set.univ := fun t => by
  rw [bigSep_W0, bigSep_W0, row_eq]
  exact triple_restated (point m c t) rfl .rfl fun _ => .rfl

set_option backward.isDefEq.respectTransparency.types false in
set_option maxHeartbeats 800000 in
/-- Every run ends with the arrays at what the pipeline computes, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every run ends with the arrays at what the pipeline computes. -/
theorem run : θ_run defs (onTc (τ := τ) (main (F := F))) (s₀ m ρ) (Pipeline.FramePost cfgs (dats m) 0 (V m)) :=
  (θ_run defs _ _).mono (fun _ h => h.1) (run_quiet m ρ)

/-- The frame: every run ends with the arguments as they were and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiet m ρ))

end Cert.KernelIdeal.Attn
-- ==== Proof.Prep.lean ====
/- The three operands the host code prepares for the attention call, read at an index over the idealized numbers. -/
module

public import proofs.«01_k».proof.Proof.Block
public import proofs.«01_k».proof.Proof.Run

@[expose] public section

set_option maxRecDepth 16384

noncomputable section

namespace Cert.KernelIdeal.Attn

open Idealize.ShloMosaic Idealize.ShloMosaic.TcCoe Idealize.SL.Sem
open Cert.KernelIdeal.Gen Cert.Online

variable (m : (ℓ : Loc nD τ sig) → Buf (Elt Ideal) ℓ) (c : Dev nD)

/-- The queries. -/
abbrev a0 : FVec Ideal S8x8192x8x64 .f32 := m ((c : Thread nD τ).loc main_arg0)
/-- The keys. -/
abbrev a1 : FVec Ideal S8x8448x2x64 .f32 := m ((c : Thread nD τ).loc main_arg1)
/-- The values. -/
abbrev a2 : FVec Ideal S8x8448x2x64 .f32 := m ((c : Thread nD τ).loc main_arg2)
/-- The rounded high part of the queries. -/
abbrev a3 : FVec Ideal S8x8192x8x64 .f32 := m ((c : Thread nD τ).loc main_arg3)
/-- The rounded high part of the keys. -/
abbrev a4 : FVec Ideal S8x8448x2x64 .f32 := m ((c : Thread nD τ).loc main_arg4)

/-- The low part of the scaled queries. -/
def lowQ (q qh : FVec Ideal S8x8192x8x64 .f32) : FVec Ideal S8x8192x8x64 .f32 :=
  subf (mulf q (broadcastInDim S8x8192x8x64 ![] bcast_S_S8x8192x8x64 (Host.divf (constant S_ .f32 0x3E000000#32) (Host.log (constant S_ .f32 0x40000000#32))))) qh

/-- The queries' operand. -/
def arrQ (q qh : FVec Ideal S8x8192x8x64 .f32) : FVec Ideal S8x8x256x8192 .fp8e4m3 :=
  Host.convertf .fp8e4m3 (concatenate S8x8x256x8192 2
    [⟨S8x8x64x8192, transpose S8x8x64x8192 [0, 2, 3, 1] qh transposes_S8x8192x8x64_S8x8x64x8192_0_2_3_1⟩,
     ⟨S8x8x64x8192, transpose S8x8x64x8192 [0, 2, 3, 1] (lowQ q qh) transposes_S8x8192x8x64_S8x8x64x8192_0_2_3_1⟩,
     ⟨S8x8x64x8192, transpose S8x8x64x8192 [0, 2, 3, 1] qh transposes_S8x8192x8x64_S8x8x64x8192_0_2_3_1⟩,
     ⟨S8x8x64x8192, transpose S8x8x64x8192 [0, 2, 3, 1] (lowQ q qh) transposes_S8x8192x8x64_S8x8x64x8192_0_2_3_1⟩]
    concatenates_S8x8x64x8192_S8x8x64x8192_S8x8x64x8192_S8x8x64x8192_S8x8x256x8192_d2)

/-- The region finds the queries' operand in its first array. -/
theorem V_q : V m c main_v8 = arrQ (a0 m c) (a3 m c) := by
  show StableHlo.after hostOps0 _ (Proc.devRef .tc main_v8) = _
  after_results <;> rfl

/-- The keys' operand. -/
def arrK (k kh : FVec Ideal S8x8448x2x64 .f32) : FVec Ideal S8x2x8448x256 .fp8e4m3 :=
  Host.convertf .fp8e4m3 (transpose S8x2x8448x256 [0, 2, 1, 3] (concatenate S8x8448x2x256 3
    [⟨S8x8448x2x64, kh⟩, ⟨S8x8448x2x64, kh⟩, ⟨S8x8448x2x64, subf k kh⟩, ⟨S8x8448x2x64, subf k kh⟩]
    concatenates_S8x8448x2x64_S8x8448x2x64_S8x8448x2x64_S8x8448x2x64_S8x8448x2x256_d3) transposes_S8x8448x2x256_S8x2x8448x256_0_2_1_3)

/-- The region finds the keys' operand in its second array. -/
theorem V_k : V m c main_v12 = arrK (a1 m c) (a4 m c) := by
  show StableHlo.after hostOps0 _ (Proc.devRef .tc main_v12) = _
  after_results <;> rfl

/-- The values' operand: the values, a row of ones, and zeros up to the sublane tile. -/
def arrV (v : FVec Ideal S8x8448x2x64 .f32) : FVec Ideal S8x11x2x80x768 .bf16 :=
  transpose S8x11x2x80x768 [0, 3, 1, 2, 4] (shapeCast S8x2x80x11x768 (truncf .bf16 (concatenate S8x2x80x8448 2
    [⟨S8x2x64x8448, transpose S8x2x64x8448 [0, 2, 3, 1] v transposes_S8x8448x2x64_S8x2x64x8448_0_2_3_1⟩,
     ⟨S8x2x1x8448, broadcastInDim S8x2x1x8448 ![] bcast_S_S8x2x1x8448 (constant S_ .f32 0x3F800000#32)⟩,
     ⟨S8x2x15x8448, broadcastInDim S8x2x15x8448 ![] bcast_S_S8x2x15x8448 (constant S_ .f32 0x00000000#32)⟩]
    concatenates_S8x2x64x8448_S8x2x1x8448_S8x2x15x8448_S8x2x80x8448_d2) bitsLt_bf16_f32)
    shapeCasts_S8x2x80x8448_S8x2x80x11x768) transposes_S8x2x80x11x768_S8x11x2x80x768_0_3_1_2_4

/-- The region finds the values' operand in its third array. -/
theorem V_v : V m c main_v19 = arrV (a2 m c) := by
  show StableHlo.after hostOps0 _ (Proc.devRef .tc main_v19) = _
  after_results <;> rfl

/-- The factor the queries are scaled by: an eighth, for a sum of 64 products, over the logarithm of two, for powers of two. -/
def sc : ℝ := 1 / 8 / Real.log 2

/-- The literal 1/8. -/
theorem eighth : Ideal.ofBits .f32 0x3E000000#32 = ((1 / 8 : ℝ) : EReal) := by
  simp [Ideal.ofBits, Ideal.ieee]; rw [← EReal.coe_mul]; norm_num
/-- The literal 2. -/
theorem two : Ideal.ofBits .f32 0x40000000#32 = ((2 : ℝ) : EReal) := by
  simp [Ideal.ofBits, Ideal.ieee]; rw [← EReal.coe_mul]; norm_num

/-- The factor as the host code works it out. -/
theorem sc_eq : Ideal.div (Ideal.ofBits .f32 0x3E000000#32) (Ideal.log (Ideal.ofBits .f32 0x40000000#32)) = (sc : EReal) := by
  rw [eighth, two, Ideal.log_coe, if_neg (by norm_num)]
  exact div_real _ _ (Real.log_pos one_lt_two).ne'

variable (A0 A3 : S8x8192x8x64.Idx → ℝ) (A1 A4 A2 : S8x8448x2x64.Idx → ℝ)

/-- Entry `d` of four rows of 64 stacked. -/
def stack {α : Type} (f0 f1 f2 f3 : Fin 64 → α) (d : Fin 256) : α :=
  if d.val / 64 = 0 then f0 ⟨d.val % 64, by omega⟩ else if d.val / 64 = 1 then f1 ⟨d.val % 64, by omega⟩
  else if d.val / 64 = 2 then f2 ⟨d.val % 64, by omega⟩ else f3 ⟨d.val % 64, by omega⟩

/-- The same, the row found by subtracting the lengths before it. -/
theorem stack_eq {α : Type} (f0 f1 f2 f3 : Fin 64 → α) (d : Fin 256) :
    (if h : d.val < 64 then f0 ⟨d.val, h⟩ else if h : d.val - 64 < 64 then f1 ⟨d.val - 64, h⟩
      else if h : d.val - 64 - 64 < 64 then f2 ⟨d.val - 64 - 64, h⟩ else f3 ⟨d.val - 64 - 64 - 64, by omega⟩) = stack f0 f1 f2 f3 d := by
  have hd := d.isLt
  unfold stack
  by_cases h0 : d.val < 64
  · rw [dif_pos h0, if_pos (by omega)]; exact congrArg f0 (Fin.ext (by dsimp only; omega))
  by_cases h1 : d.val - 64 < 64
  · rw [dif_neg h0, dif_pos h1, if_neg (by omega), if_pos (by omega)]; exact congrArg f1 (Fin.ext (by dsimp only; omega))
  by_cases h2 : d.val - 64 - 64 < 64
  · rw [dif_neg h0, dif_neg h1, dif_pos h2, if_neg (by omega), if_neg (by omega), if_pos (by omega)]
    exact congrArg f2 (Fin.ext (by dsimp only; omega))
  · rw [dif_neg h0, dif_neg h1, dif_neg h2, if_neg (by omega), if_neg (by omega), if_neg (by omega)]
    exact congrArg f3 (Fin.ext (by dsimp only; omega))

/-- Four real columns one above the other are real. -/
theorem stack_coe (f0 f1 f2 f3 : Fin 64 → ℝ) (d : Fin 256) :
    stack (fun e => ((f0 e : ℝ) : EReal)) (fun e => ((f1 e : ℝ) : EReal)) (fun e => ((f2 e : ℝ) : EReal)) (fun e => ((f3 e : ℝ) : EReal)) d
      = ((stack f0 f1 f2 f3 d : ℝ) : EReal) := by
  unfold stack; split_ifs <;> rfl

/-- The queries' operand of real queries. -/
def QR (b h : Fin 8) (s : Fin 8192) (d : Fin 256) : ℝ :=
  stack (fun e => A3 (ix4 b s h e)) (fun e => A0 (ix4 b s h e) * sc - A3 (ix4 b s h e))
    (fun e => A3 (ix4 b s h e)) (fun e => A0 (ix4 b s h e) * sc - A3 (ix4 b s h e)) d

/-- The keys' operand of real keys. -/
def KR (b : Fin 8) (g : Fin 2) (s : Fin 8448) (d : Fin 256) : ℝ :=
  stack (fun e => A4 (ix4 b s g e)) (fun e => A4 (ix4 b s g e))
    (fun e => A1 (ix4 b s g e) - A4 (ix4 b s g e)) (fun e => A1 (ix4 b s g e) - A4 (ix4 b s g e)) d

/-- The values' operand of real values. -/
def VR (b : Fin 8) (k : Fin 11) (g : Fin 2) (e : Fin 80) (r : Fin 768) : ℝ :=
  if h : e.val < 64 then A2 (ix4 b (key k r) g ⟨e.val, h⟩) else if e.val = 64 then 1 else 0

/-- The low part of the queries: what the high part leaves of the scaled query. -/
theorem lowQ_apply (q qh : FVec Ideal S8x8192x8x64 .f32) (hq : ∀ i, q i = ((A0 i : ℝ) : EReal)) (hh : ∀ i, qh i = ((A3 i : ℝ) : EReal))
    (i : S8x8192x8x64.Idx) : lowQ q qh i = ((A0 i * sc - A3 i : ℝ) : EReal) := by
  unfold lowQ; pointwise
  rw [sc_eq, hq, hh, EReal.coe_sub, EReal.coe_mul]

/-- The queries' operand of real queries is real. -/
theorem arrQ_apply (q qh : FVec Ideal S8x8192x8x64 .f32) (hq : ∀ i, q i = ((A0 i : ℝ) : EReal)) (hh : ∀ i, qh i = ((A3 i : ℝ) : EReal))
    (b h : Fin 8) (s : Fin 8192) (d : Fin 256) : arrQ q qh (ix4 b h d s) = ((QR A0 A3 b h s d : ℝ) : EReal) := by
  unfold arrQ; pointwise
  refine (stack_eq (fun e => qh (ix4 b s h e)) (fun e => lowQ q qh (ix4 b s h e)) (fun e => qh (ix4 b s h e)) (fun e => lowQ q qh (ix4 b s h e)) d).trans ?_
  simp only [lowQ_apply A0 A3 q qh hq hh, hh]
  exact stack_coe _ _ _ _ d

/-- The keys' operand of real keys is real. -/
theorem arrK_apply (k kh : FVec Ideal S8x8448x2x64 .f32) (hk : ∀ i, k i = ((A1 i : ℝ) : EReal)) (hh : ∀ i, kh i = ((A4 i : ℝ) : EReal))
    (b : Fin 8) (g : Fin 2) (s : Fin 8448) (d : Fin 256) : arrK k kh (ix4 b g s d) = ((KR A1 A4 b g s d : ℝ) : EReal) := by
  unfold arrK; pointwise
  refine (stack_eq (fun e => kh (ix4 b s g e)) (fun e => kh (ix4 b s g e)) (fun e => k (ix4 b s g e) - kh (ix4 b s g e))
    (fun e => k (ix4 b s g e) - kh (ix4 b s g e)) d).trans ?_
  simp only [hk, hh, ← EReal.coe_sub]
  exact stack_coe _ _ _ _ d

/-- The values' operand of real values is real. -/
theorem arrV_apply (v : FVec Ideal S8x8448x2x64 .f32) (hv : ∀ i, v i = ((A2 i : ℝ) : EReal))
    (b : Fin 8) (g : Fin 2) (k : Fin 11) (e : Fin 80) (r : Fin 768) : arrV v (ix5 b k g e r) = ((VR A2 b k g e r : ℝ) : EReal) := by
  unfold arrV; pointwise
  unfold VR
  split_ifs <;> first
    | omega
    | exact EReal.coe_one.symm
    | exact EReal.coe_zero.symm
    | (rw [hv]; simp only [key, Nat.mul_comm k.val])

/-- A sum over the 256 rows is one over 64, of the four stacked parts. -/
theorem sum_four (f : Fin 256 → ℝ) : ∑ d, f d = ∑ d : Fin 64, (f ⟨64 * 0 + d.val, by omega⟩ + f ⟨64 * 1 + d.val, by omega⟩
    + f ⟨64 * 2 + d.val, by omega⟩ + f ⟨64 * 3 + d.val, by omega⟩) := by
  rw [← (finProdFinEquiv : Fin 4 × Fin 64 ≃ Fin 256).sum_comp, Fintype.sum_prod_type, Fin.sum_univ_four]
  simp only [Finset.sum_add_distrib]
  refine congrArg₂ _ (congrArg₂ _ (congrArg₂ _ ?_ ?_) ?_) ?_ <;>
    exact Finset.sum_congr rfl fun d _ => congrArg f (Fin.ext (by simp [finProdFinEquiv] <;> omega))

/-- The four stacked products make the product of the sums: the score is that of the scaled query with the key. -/
theorem dot_four (b h : Fin 8) (g : Fin 2) (s : Fin 8192) (t : Fin 8448) :
    ∑ d : Fin 256, KR A1 A4 b g t d * QR A0 A3 b h s d = (∑ d : Fin 64, A0 (ix4 b s h d) * A1 (ix4 b t g d)) * sc := by
  rw [sum_four, Finset.sum_mul]
  refine Finset.sum_congr rfl fun d _ => ?_
  have hd := d.isLt
  have e (j : ℕ) : (64 * j + d.val) % 64 = d.val := by omega
  have e' (j : ℕ) : (64 * j + d.val) / 64 = j := by omega
  simp only [KR, QR, stack, e, e', Fin.eta]
  norm_num
  ring

end Cert.KernelIdeal.Attn
-- ==== Proof.RefAttn.lean ====
/- What the attention's reference computes of real operands: the mean of the values weighted by the exponentials of the
   scores. -/
module

public import proofs.«01_k».proof.Proof.Gen.ReferenceIdeal.Run
public import proofs.«01_k».proof.Proof.Gen.ReferenceIdeal.Read
public import proofs.«01_k».proof.Proof.Online
public import Idealize.ShloMosaic.Lib.Pointwise
public import Idealize.ShloMosaic.Lib.IdealHost

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.Online

/-- The host's maximum along an axis, from minus infinity, is real when the operand's entries are. -/
theorem host_max_real {s t u : Shape} {a : Fin s.rank} (y : FVec Ideal s .f32) (w : FVec Ideal u .f32) (h' : s.ReducesTo [a] t)
    (h : s.Reduces [a] t) (hu : 0 < u.numel) (hn : 0 < s.size a) (hw : ∀ i, w i = (⊥ : EReal)) (hy : ∀ i, ∃ r : ℝ, y i = (r : EReal)) (j : t.Idx) :
    ∃ r : ℝ, Host.reduce FloatOps.maximumf y w h' hu j = (r : EReal) := by
  have : Nonempty (Fin (s.size a)) := ⟨⟨0, hn⟩⟩
  choose Y hY using hy
  obtain ⟨r, hr⟩ := fold_max fun k : Fin (s.size a) => Y (h.lift j k)
  refine ⟨r, ?_⟩
  rw [Host.reduce_eq_fold_single FloatOps.maximumf y w h' h hu j, hw, ← hr]
  exact congrArg (fun f => Finset.univ.fold max (⊥ : EReal) f) (funext fun k => hY _)

/-- The mean of `v` weighted by the exponentials of `σ`. -/
def mean {ι : Type} [Fintype ι] (σ v : ι → ℝ) : ℝ := (∑ t, v t * Real.exp (σ t)) / ∑ t, Real.exp (σ t)

/-- The weights may be taken against any number. -/
theorem mean_shift {ι : Type} [Fintype ι] (σ v : ι → ℝ) (μ : ℝ) :
    ∑ t, v t * (Real.exp (σ t - μ) / ∑ t', Real.exp (σ t' - μ)) = mean σ v := by
  have e (t : ι) : Real.exp (σ t - μ) = Real.exp (-μ) * Real.exp (σ t) := by rw [← Real.exp_add]; congr 1; ring
  simp only [e, ← Finset.mul_sum, mul_div_mul_left _ _ (Real.exp_pos (-μ)).ne']
  rw [mean, Finset.sum_div]
  exact Finset.sum_congr rfl fun t _ => (mul_div_assoc _ _ _).symm

/-- The scores' last axis is dropped. -/
theorem red : S8x2x4x8192x8448.Reduces [4] S8x2x4x8192 := by decide

variable (x0 : FVec Ideal S8x8192x8x64 .f32) (x1 x2 : FVec Ideal S8x8448x2x64 .f32)
  (A0 : S8x8192x8x64.Idx → ℝ) (A1 A2 : S8x8448x2x64.Idx → ℝ)
  (h0 : ∀ i, x0 i = ((A0 i : ℝ) : EReal)) (h1 : ∀ i, x1 i = ((A1 i : ℝ) : EReal)) (h2 : ∀ i, x2 i = ((A2 i : ℝ) : EReal))

/-- A query's score with a key. -/
def logit (b : Fin 8) (s : Fin 8192) (h : Fin 8) (g : Fin 2) (t : Fin 8448) : ℝ :=
  (∑ d : Fin 64, A0 (ix4 b s h d) * A1 (ix4 b t g d)) * (1 / 8)

/-- The query head of a group and a place in it. -/
def head (g : Fin 2) (j : Fin 4) : Fin 8 := ⟨g.val * 4 + j.val, by omega⟩

/-- The literal 1/8. -/
theorem eighth : Ideal.ofBits .f32 0x3E000000#32 = ((1 / 8 : ℝ) : EReal) := by
  simp [Ideal.ofBits, Ideal.ieee]; rw [← EReal.coe_mul]; norm_num

/-- The literal for the least value. -/
theorem neg_inf : Ideal.ofBits .f32 0xFF800000#32 = (⊥ : EReal) := by simp [Ideal.ofBits, Ideal.ieee]

include h0 h1

/-- The reference's score of a query and a key. -/
theorem v4_apply (b : Fin 8) (g : Fin 2) (j : Fin 4) (s : Fin 8192) (t : Fin 8448) :
    val_main_v4 (F := Ideal) x0 x1 (ix5 b g j s t) = ((logit A0 A1 b s (head g j) g t : ℝ) : EReal) := by
  unfold val_main_v4 val_main_v3 val_main_cst val_main_v2 val_main_v1 val_main_v0
  pointwise
  rw [eighth, logit, EReal.coe_mul, ← coe_sum]
  exact congrArg (· * _) (Finset.sum_congr rfl fun d _ => by rw [h0, h1, ← EReal.coe_mul, mul_comm (A0 _)]; rfl)

/-- The reference's scores are real numbers. -/
theorem v4_real (i : S8x2x4x8192x8448.Idx) : ∃ r : ℝ, val_main_v4 (F := Ideal) x0 x1 i = (r : EReal) := by
  refine ⟨_, (congrArg (val_main_v4 (F := Ideal) x0 x1) (eq_ix5 i)).trans (v4_apply x0 x1 A0 A1 h0 h1 (i 0) (i 1) (i 2) (i 3) (i 4))⟩

/-- A maximum from minus infinity is real when its entries are. -/
theorem v5_real (i : S8x2x4x8192.Idx) : ∃ r : ℝ, val_main_v5 (F := Ideal) x0 x1 i = (r : EReal) := by
  have hy := v4_real x0 x1 A0 A1 h0 h1
  unfold val_main_v5
  generalize val_main_v4 (F := Ideal) x0 x1 = y at hy ⊢
  exact host_max_real y _ _ red _ (Nat.zero_lt_succ _) (fun _ => neg_inf) hy i

/-- The largest logit is real. -/
theorem v7_real (b : Fin 8) (g : Fin 2) (j : Fin 4) (s : Fin 8192) :
    ∃ r : ℝ, val_main_v7 (F := Ideal) x0 x1 (ix4 b g j s) = (r : EReal) := by
  obtain ⟨r, hr⟩ := v5_real x0 x1 A0 A1 h0 h1 (ix4 b g j s)
  refine ⟨r, ?_⟩
  rw [val_main_v7_apply, Ideal.maximumf_eq_max, hr]
  have e6 : val_main_v6 (F := Ideal) (ix4 b g j s) = (⊥ : EReal) := by
    unfold val_main_v6 val_main_cst_1; pointwise; exact neg_inf
  rw [e6]
  exact max_eq_right bot_le

/-- The weights the reference forms. -/
theorem v15_apply (b : Fin 8) (g : Fin 2) (j : Fin 4) (s : Fin 8192) : ∃ μ : ℝ, ∀ t : Fin 8448,
    val_main_v15 (F := Ideal) x0 x1 (ix5 b g j s t) = ((Real.exp (logit A0 A1 b s (head g j) g t - μ)
      / ∑ t', Real.exp (logit A0 A1 b s (head g j) g t' - μ) : ℝ) : EReal) := by
  obtain ⟨μ, hμ⟩ := v7_real x0 x1 A0 A1 h0 h1 b g j s
  have e : ∀ t, val_main_v11 (F := Ideal) x0 x1 (ix5 b g j s t) = ((Real.exp (logit A0 A1 b s (head g j) g t - μ) : ℝ) : EReal) := fun t => by
    unfold val_main_v11 val_main_v10 val_main_v9 val_main_v8
    pointwise
    rw [v4_apply x0 x1 A0 A1 h0 h1, hμ, ← EReal.coe_sub, Ideal.exp_coe]
  refine ⟨μ, fun t => ?_⟩
  unfold val_main_v15 val_main_v14 val_main_v13 val_main_v12 val_main_cst_2
  pointwise
  simp only [e]
  rw [coe_sum]
  exact div_real _ _ (Finset.sum_pos (fun _ _ => Real.exp_pos _) ⟨0, Finset.mem_univ _⟩).ne'

include h2

/-- The reference's result. -/
theorem v19_apply (b : Fin 8) (s : Fin 8192) (c : Fin 512) (g : Fin 2) (j : Fin 4) (d : Fin 64)
    (eg : g.val = c.val / 256) (ej : j.val = c.val / 64 % 4) (ed : d.val = c.val % 64) :
    val_main_v19 (F := Ideal) x0 x1 x2 (ix3 b s c)
      = ((mean (logit A0 A1 b s (head g j) g) (fun t => A2 (ix4 b t g d)) : ℝ) : EReal) := by
  obtain ⟨μ, hμ⟩ := v15_apply x0 x1 A0 A1 h0 h1 b g j s
  unfold val_main_v19 val_main_v18 val_main_v17 val_main_v16
  pointwise
  have eg' : (⟨c.val / 256, by omega⟩ : Fin 2) = g := Fin.ext eg.symm
  have ej' : (⟨c.val / 64 % 4, by omega⟩ : Fin 4) = j := Fin.ext ej.symm
  have ed' : (⟨c.val % 64, by omega⟩ : Fin 64) = d := Fin.ext ed.symm
  simp only [eg', ej', ed', hμ, h2]
  rw [← mean_shift _ _ μ, ← coe_sum]
  exact Finset.sum_congr rfl fun t _ => (EReal.coe_mul _ _).symm

end Cert.ReferenceIdeal.Attn
-- ==== Proof.AttnValue.lean ====
/- The attention call's result array is the reference's, where the arguments are finite. -/
module

public import proofs.«01_k».proof.Proof.Prep
public import proofs.«01_k».proof.Proof.RefAttn
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal.Gen Cert.Online
open Cert.ReferenceIdeal.Attn (mean logit head)

/-- A power of two of a score scaled for it is the exponential of the score. -/
theorem pow_sc (x : ℝ) : (2 : ℝ) ^ (x * sc - 0) = Real.exp (x * (1 / 8)) := by
  rw [Real.rpow_def_of_pos two_pos, sub_zero, sc]
  have := (Real.log_pos one_lt_two).ne'
  congr 1; field_simp

/-- The sums over the eleven tiles are sums over the keys. -/
theorem acc_keys (s v : ℕ → Fin 768 → ℝ) (σ V : Fin 8448 → ℝ) (hs : ∀ (k : Fin 11) r, s k.val r = σ (key k r) * 8 * sc)
    (hv : ∀ (k : Fin 11) r, v k.val r = V (key k r)) : acc s v 11 0 = ∑ t, V t * Real.exp (σ t) := by
  unfold acc
  rw [Finset.sum_range, ← (finProdFinEquiv : Fin 11 × Fin 768 ≃ Fin 8448).sum_comp, Fintype.sum_prod_type]
  refine Finset.sum_congr rfl fun k _ => Finset.sum_congr rfl fun r _ => ?_
  have e : (finProdFinEquiv (k, r) : Fin 8448) = key k r := Fin.ext (by simp [finProdFinEquiv, key]; omega)
  rw [hs, hv, pow_sc, e]
  congr 2; ring

variable (A0 A3 : S8x8192x8x64.Idx → ℝ) (A1 A4 A2 : S8x8448x2x64.Idx → ℝ)
  (q qh : FVec Ideal S8x8192x8x64 .f32) (k kh v : FVec Ideal S8x8448x2x64 .f32)
  (h0 : ∀ i, q i = ((A0 i : ℝ) : EReal)) (h1 : ∀ i, k i = ((A1 i : ℝ) : EReal)) (h2 : ∀ i, v i = ((A2 i : ℝ) : EReal))
  (h3 : ∀ i, qh i = ((A3 i : ℝ) : EReal)) (h4 : ∀ i, kh i = ((A4 i : ℝ) : EReal))

include h0 h1 h2 h3 h4

/-- A block of the result, from blocks of the prepared operands: the weighted means of the values. -/
theorem out_mean (x0 : Q Ideal) (x1 : K Ideal) (x2 : W Ideal) (b : Fin 8) (w : Fin 16)
    (e0 : ∀ h d s, x0 (ix4 0 h d s) = arrQ q qh (ix4 b h d ⟨w.val * 512 + s.val, by omega⟩))
    (e1 : ∀ g t d, x1 (ix4 0 g t d) = arrK k kh (ix4 b g t d))
    (e2 : ∀ j g e r, x2 (ix5 0 j g e r) = arrV v (ix5 b j g e r))
    (s : Fin 512) (c : Fin 512) (h : Fin 8) (d : Fin 64) (eh : h.val = c.val / 64) (ed : d.val = c.val % 64) :
    out x0 x1 x2 (ix3 0 s c)
      = ((mean (logit A0 A1 b ⟨w.val * 512 + s.val, by omega⟩ h (grp h)) (fun t => A2 (ix4 b t (grp h) d)) : ℝ) : EReal) := by
  set σ := logit A0 A1 b ⟨w.val * 512 + s.val, by omega⟩ h (grp h) with hσ
  let X0 : S1x8x256x512.Idx → ℝ := fun i => QR A0 A3 b (i 1) ⟨w.val * 512 + (i 3).val, by have : (i 3).val < 512 := (i 3).isLt; omega⟩ (i 2)
  let X1 : S1x2x8448x256.Idx → ℝ := fun i => KR A1 A4 b (i 1) (i 2) (i 3)
  let X2 : S1x11x2x80x768.Idx → ℝ := fun i => VR A2 b (i 1) (i 2) (i 3) (i 4)
  have hx0 : ∀ i, x0 i = ((X0 i : ℝ) : EReal) := fun i => by
    have ei : i = ix4 0 (i 1) (i 2) (i 3) := (eq_ix4 i).trans (congrArg (fun z => ix4 z (i 1) (i 2) (i 3)) (Subsingleton.elim (α := Fin 1) _ _))
    exact (congrArg x0 ei).trans ((e0 _ _ _).trans (arrQ_apply A0 A3 q qh h0 h3 _ _ _ _))
  have hx1 : ∀ i, x1 i = ((X1 i : ℝ) : EReal) := fun i => by
    have ei : i = ix4 0 (i 1) (i 2) (i 3) := (eq_ix4 i).trans (congrArg (fun z => ix4 z (i 1) (i 2) (i 3)) (Subsingleton.elim (α := Fin 1) _ _))
    exact (congrArg x1 ei).trans ((e1 _ _ _).trans (arrK_apply A1 A4 k kh h1 h4 _ _ _ _))
  have hx2 : ∀ i, x2 i = ((X2 i : ℝ) : EReal) := fun i => by
    have ei : i = ix5 0 (i 1) (i 2) (i 3) (i 4) := (eq_ix5 i).trans (congrArg (fun z => ix5 z (i 1) (i 2) (i 3) (i 4)) (Subsingleton.elim (α := Fin 1) _ _))
    exact (congrArg x2 ei).trans ((e2 _ _ _ _).trans (arrV_apply A2 v h2 _ _ _ _ _))
  have hs : ∀ (j : Fin 11) r, sF X0 X1 h s j.val r = σ (key j r) * 8 * sc := fun j r => by
    rw [sF_of]
    refine (dot_four A0 A3 A1 A4 b h (grp h) ⟨w.val * 512 + s.val, by omega⟩ (key j r)).trans ?_
    rw [hσ, logit]; ring
  have one (j : Fin 11) (g : Fin 2) (r : Fin 768) : X2 (ix5 0 j g 64 r) = 1 := by
    show VR A2 b j g 64 r = 1
    unfold VR; rw [dif_neg (by decide), if_pos (by decide)]
  rw [out_real X0 X1 X2 x0 x1 x2 hx0 hx1 hx2 one s c h ⟨d.val, by omega⟩ eh ed,
    acc_keys _ _ σ (fun t => A2 (ix4 b t (grp h) d)) hs fun j r => ?_, acc_keys _ _ σ (fun _ => 1) hs fun j r => ?_]
  · simp only [mean, one_mul]
  · rw [vF_of, one]
  · rw [vF_of]
    show VR A2 b j (grp h) ⟨d.val, _⟩ r = _
    unfold VR; rw [dif_pos d.isLt]

end Cert.KernelIdeal.Attn
-- ==== Proof.AttnFinal.lean ====
/- From the blocks to the whole result array of the attention call, and the call's value claim. -/
module

public import proofs.«01_k».proof.Proof.AttnValue

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal.Gen Cert.Online
open Cert.ReferenceIdeal.Attn (mean logit head)

/-- Which block each window stages at a grid point. -/
theorem idx : ∀ t : Fin cfg0.N, win0_0.index t = ![t.val / 16, 0, 0, t.val % 16] ∧ win0_1.index t = ![t.val / 16, 0, 0, 0]
    ∧ win0_2.index t = ![t.val / 16, 0, 0, 0, 0] ∧ win0_3.index t = ![t.val / 16, t.val % 16, 0] :=
  (by decide +kernel : ∀ t : Fin grid0.N, win0_0.index t = ![t.val / 16, 0, 0, t.val % 16] ∧ win0_1.index t = ![t.val / 16, 0, 0, 0]
    ∧ win0_2.index t = ![t.val / 16, 0, 0, 0, 0] ∧ win0_3.index t = ![t.val / 16, t.val % 16, 0])

variable (m : (ℓ : Loc nD τ sig) → Buf (Elt Ideal) ℓ) (c : Dev nD)

/-- The grid has 128 points. -/
theorem pts (t : Fin cfg0.N) : t.val < 128 := t.isLt

/-- The batch element of a grid point, and its block of queries. -/
def bat (t : Fin cfg0.N) : Fin 8 := ⟨t.val / 16, by have := pts t; omega⟩
/-- Which block of 512 queries a grid point handles. -/
def qry (t : Fin cfg0.N) : Fin 16 := ⟨t.val % 16, by omega⟩

/-- The queries staged at a grid point, by head, column and query. -/
theorem blk_q (t : Fin cfg0.N) (h : Fin 8) (d : Fin 256) (s : Fin 512) :
    (iblk m c 0 t : Q Ideal) (ix4 0 h d s) = arrQ (a0 m c) (a3 m c) (ix4 (bat t) h d ⟨(qry t).val * 512 + s.val, by omega⟩) := by
  rw [← V_q]
  blk_ext [iblk, idx t, bat, qry]

/-- The keys staged at a grid point, by key head, key and column. -/
theorem blk_k (t : Fin cfg0.N) (g : Fin 2) (s : Fin 8448) (d : Fin 256) :
    (iblk m c 1 t : K Ideal) (ix4 0 g s d) = arrK (a1 m c) (a4 m c) (ix4 (bat t) g s d) := by
  rw [← V_k]
  blk_ext [iblk, idx t, bat, qry]

/-- The values staged at a grid point, by block of keys, key head, row and key. -/
theorem blk_v (t : Fin cfg0.N) (j : Fin 11) (g : Fin 2) (e : Fin 80) (r : Fin 768) :
    (iblk m c 2 t : W Ideal) (ix5 0 j g e r) = arrV (a2 m c) (ix5 (bat t) j g e r) := by
  rw [← V_v]
  blk_ext [iblk, idx t, bat, qry]

/-- What the reference makes of the arguments. -/
def ref (m : (ℓ : Loc nD τ sig) → Buf (Elt Ideal) ℓ) (c : Dev nD) : FVec Ideal S8x8192x512 .bf16 :=
  Cert.ReferenceIdeal.Read.val_main_v19 (F := Ideal) (a0 m c) (a1 m c) (a2 m c)

/-- The arguments' entries are real. -/
structure Real5 : Prop where
  r0 : ∀ i, ∃ r : ℝ, a0 m c i = (r : EReal)
  r1 : ∀ i, ∃ r : ℝ, a1 m c i = (r : EReal)
  r2 : ∀ i, ∃ r : ℝ, a2 m c i = (r : EReal)
  r3 : ∀ i, ∃ r : ℝ, a3 m c i = (r : EReal)
  r4 : ∀ i, ∃ r : ℝ, a4 m c i = (r : EReal)

/-- What a grid point writes back is the reference's result there. -/
theorem point_ref (hr : Real5 m c) (t : Fin cfg0.N) (s e : Fin 512) :
    out (iblk m c 0 t) (iblk m c 1 t) (iblk m c 2 t) (ix3 0 s e) = ref m c (ix3 (bat t) ⟨(qry t).val * 512 + s.val, by omega⟩ e) := by
  obtain ⟨r0, r1, r2, r3, r4⟩ := hr
  choose A0 h0 using r0
  choose A1 h1 using r1
  choose A2 h2 using r2
  choose A3 h3 using r3
  choose A4 h4 using r4
  have he : e.val < 512 := e.isLt
  have eg : grp ⟨e.val / 64, by omega⟩ = ⟨e.val / 256, by omega⟩ := Fin.ext (by simp only [grp]; omega)
  have eh : head ⟨e.val / 256, by omega⟩ ⟨e.val / 64 % 4, by omega⟩ = ⟨e.val / 64, by omega⟩ := Fin.ext (by simp only [head]; omega)
  refine (out_mean A0 A3 A1 A4 A2 (a0 m c) (a3 m c) (a1 m c) (a4 m c) (a2 m c) h0 h1 h2 h3 h4 (iblk m c 0 t) (iblk m c 1 t) (iblk m c 2 t)
      (bat t) (qry t) (blk_q m c t) (blk_k m c t) (blk_v m c t) s e ⟨e.val / 64, by omega⟩ ⟨e.val % 64, by omega⟩ rfl rfl).trans ?_
  unfold ref
  rw [Cert.ReferenceIdeal.Attn.v19_apply (a0 m c) (a1 m c) (a2 m c) A0 A1 A2 h0 h1 h2 (bat t) ⟨(qry t).val * 512 + s.val, by omega⟩ e
      ⟨e.val / 256, by omega⟩ ⟨e.val / 64 % 4, by omega⟩ ⟨e.val % 64, by omega⟩ rfl rfl rfl, eg, eh]

/-- The result array after the run is the reference's. -/
theorem final_arr (hr : Real5 m c) : (dats m 0 c).arrAt 3 cfg0.N = ref m c := by
  refine (dats m 0 c).arrAt_eq_of_covers 3 _ (by decide +kernel) fun t _ y => ?_
  blk_simp
  rw [after3]
  have ey : y = ix3 0 (y 1) (y 2) := (eq_ix3 y).trans (congrArg (fun z => ix3 z (y 1) (y 2)) (Subsingleton.elim (α := Fin 1) _ _))
  refine (congrArg (out (iblk m c 0 t) (iblk m c 1 t) (iblk m c 2 t)) ey).trans ((point_ref m c hr t (y 1) (y 2)).trans (congrArg (ref m c) ?_))
  blk_ext [idx t, bat, qry]

end Cert.KernelIdeal.Attn
-- ==== Proof.Finite.lean ====
/- The attention call's precondition: all five arguments are finite, so their entries are real numbers. -/
module

public import proofs.«01_k».proof.Defs
public import proofs.«01_k».proof.Proof.AttnFinal
public import Idealize.ShloMosaic.Lib.Pointwise
public import Idealize.ShloMosaic.Lib.ReduceAll
public import Idealize.ShloMosaic.Lib.Affine

@[expose] public section

noncomputable section

namespace Cert.Pre_finite

open Idealize.ShloMosaic

/-- The shape relations the precondition's operations take. -/
instance facts : Facts where
  bcast_S_S8x8192x8x64 := by decide
  reducesTo_S8x8192x8x64_S_d0_1_2_3 := by decide
  h_S_ := by decide
  bcast_S_S8x8448x2x64 := by decide
  reducesTo_S8x8448x2x64_S_d0_1_2_3 := by decide

/-- A scalar shape has one index. -/
instance one_index : Subsingleton S_.Idx := ⟨fun a b => funext fun i => i.elim0⟩

/-- An extended real whose absolute value compares below infinity is a real number. -/
theorem real_of_lt (x : EReal)
    (h : (FloatOps.cmpf .olt (FloatOps.absf (F := Ideal) (φ := .f32) x) (FloatOps.ofBits (F := Ideal) .f32 0x7F800000#32) : BitVec 1) = 1#1) :
    ∃ r : ℝ, x = (r : EReal) := by
  have ht : FloatOps.ofBits (F := Ideal) .f32 0x7F800000#32 = (⊤ : EReal) := by simp [Ideal.ofBits, Ideal.ieee]
  rw [ht] at h
  induction x with
  | bot => simp [FloatOps.cmpf, FloatOps.absf, Ideal.cmp] at h
  | top => simp [FloatOps.cmpf, FloatOps.absf, Ideal.cmp] at h
  | coe r => exact ⟨r, rfl⟩

/-- A conjunction of two truth values at the one index. -/
theorem and_one (a b : IVec S_ 1) (j : S_.Idx) (h : andi a b j = 1#1) : a j = 1#1 ∧ b j = 1#1 :=
  IntOp.andi_eq_one.1 h

/-- Every entry of an array all of whose absolute values compare below infinity is real. -/
theorem real_of_all {s : Shape} {axes : List (Fin s.rank)} (x : FVec Ideal s .f32) (v : IVec S_ 1) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) v hr hu j = 1#1) (i : s.Idx) :
    ∃ r : ℝ, x i = (r : EReal) :=
  real_of_lt _ (Host.reduce_andi_all _ _ _ _ j h i)

end Cert.Pre_finite

namespace Cert.KernelIdeal.Attn

open Idealize.ShloMosaic Idealize.ShloMosaic.TcCoe Idealize.SL.Sem
open Cert.Pre_finite

/-- Under the precondition the entries of the five arguments are real. -/
theorem real5 (m : (ℓ : Loc nD τ sig) → Buf (Elt Ideal) ℓ) (h : Cert.Pre_KernelIdeal_finite m) (c : Dev nD) : Real5 m c := by
  have e := congrFun (h c) (Shape.Idx.first (s := Cert.Pre_finite.S_) (by decide))
  unfold Cert.Pre_finite.fn Cert.Pre_finite.fn_part1 at e
  obtain ⟨e, e4⟩ := and_one _ _ _ e
  obtain ⟨e, e3⟩ := and_one _ _ _ e
  obtain ⟨e, e2⟩ := and_one _ _ _ e
  obtain ⟨e0, e1⟩ := and_one _ _ _ e
  exact ⟨real_of_all _ _ _ _ _ _ e0, real_of_all _ _ _ _ _ _ e1, real_of_all _ _ _ _ _ _ e2, real_of_all _ _ _ _ _ _ e3, real_of_all _ _ _ _ _ _ e4⟩

end Cert.KernelIdeal.Attn

end
-- ==== Proof.ClaimAttn.lean ====
/- The attention call's claims. -/
module

public import proofs.«01_k».proof.Proof.Finite
public import proofs.«01_k».proof.Proof.Run
public import proofs.«01_k».proof.Proof.Gen.ReferenceIdeal.Run
public import proofs.«01_k».proof.Proof.Gen.ReferenceIdeal.Read
public import proofs.«01_k».proof.Proof.Gen.Kernel
public import Idealize.ShloMosaic.Lib.Claim

@[expose] public section

noncomputable section

namespace Cert.Proof

open Idealize.ShloMosaic Idealize.ShloMosaic.TcCoe Idealize.SL.Sem

/-- The idealized attention call leaves its arguments unchanged and every counter at zero. -/
theorem frame_KernelIdeal : Cert.quiescent_KernelIdeal := fun m g _ => Cert.KernelIdeal.Attn.frame_any (F := Ideal) m g

/-- The same, of the runs whose arguments meet the precondition. -/
theorem frame_KernelIdeal_finite : Cert.quiescent_KernelIdeal_pre_finite := fun m g _ => Cert.KernelIdeal.Attn.frame_any (F := Ideal) m g

/-- The kernels' body table of the printed program is the idealized program's. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))

/-- So is its whole body table. -/
theorem table_eq : @Cert.Kernel.defs Bits _ _ = @Cert.KernelIdeal.defs Bits _ _ :=
  congrArg (Pipeline.defs (Cert.KernelIdeal.pcfgs (F := Bits))) bodies_eq

/-- The attention call leaves its arguments unchanged and every counter at zero: its text is the idealized program's. -/
theorem frame_Kernel : Cert.quiescent_Kernel := fun m g _ => by
  rw [table_eq]
  exact (θ_run Cert.KernelIdeal.defs _ _).mono (fun _ h => h) (Cert.KernelIdeal.Attn.frame_any (F := Bits) m g)

/-- The attention reference leaves its arguments unchanged and every counter at zero. -/
theorem frame_ReferenceIdeal : Cert.quiescent_ReferenceIdeal := by
  intro m g _
  refine (θ_run _ _ _).mono (fun r h => ⟨fun c => (h c).2, ?_⟩) (Cert.ReferenceIdeal.Value.run (F := Ideal) m g)
  exact sem_eq_zero_of_no_sems rfl _

/-- The same, of the runs whose arguments meet the precondition. -/
theorem frame_ReferenceIdeal_finite : Cert.quiescent_ReferenceIdeal_pre_finite := fun m g _ => frame_ReferenceIdeal m g trivial

/-- On real arguments the attention call and its reference end with equal results. -/
theorem algebraic_attn : Cert.algebraic_KernelIdeal_ReferenceIdeal_pre_finite := by
  intro m g m' g' hpre hagree
  refine ⟨Cert.KernelIdeal.Attn.ref m, ?_, ?_⟩
  · refine (θ_run _ _ _).mono (fun r h c => ?_) (θ_run_and (Cert.KernelIdeal.Attn.run m g) (Cert.KernelIdeal.Attn.frame_any (F := Ideal) m g))
    exact ⟨((h.1 c).1 3).trans (Cert.KernelIdeal.Attn.final_arr m c (Cert.KernelIdeal.Attn.real5 m hpre c)), h.2.1 c⟩
  · refine (θ_run _ _ _).mono (fun r h c => ?_) (Cert.ReferenceIdeal.Value.run (F := Ideal) m' g')
    obtain ⟨e, k⟩ := h c
    refine ⟨e.trans ?_, k⟩
    obtain ⟨h0, h1, h2, h3, h4⟩ := hagree c
    rw [h0, h1, h2]
    exact (Cert.ReferenceIdeal.Read.val_main_v19_eq _ _ _).symm

end Cert.Proof

end
-- ==== Proof.Rows.lean ====
/- A row of the layer's dense calls, over the extended reals: the norm, its modulation, a projection, the gated
   feed-forward half, the gated merge. Every call's block and every reference is read a row at a time as one of these. -/
module

public import Idealize.ShloMosaic.PureOps.Ideal
public import Idealize.ShloMosaic.Lib.Pointwise

@[expose] public section

noncomputable section

namespace Cert.Rows

open Idealize.ShloMosaic

/-- Zero less a number is its negation. -/
theorem zero_less (x : EReal) : (0 : EReal) - x = -x := by rw [sub_eq_add_neg, zero_add]

/-- A row divided by the root of its mean square (plus the small number of the layer's norm). -/
def rms (x : Fin 1024 → EReal) (d : Fin 1024) : EReal :=
  x d * Ideal.rsqrt (Ideal.div (∑ k, x k * x k) (Ideal.ofBits .f32 1149239296#32) + Ideal.ofBits .f32 897988541#32)

/-- The normed row under its weight, scaled and shifted. -/
def modu (x nw sc sh : Fin 1024 → EReal) (d : Fin 1024) : EReal := rms x d * nw d * (1 + sc d) + sh d

/-- A row times a matrix. -/
def proj {n k : ℕ} (x : Fin n → EReal) (w : Fin n → Fin k → EReal) (j : Fin k) : EReal := ∑ i, x i * w i j

/-- The logistic function. -/
def logi (g : EReal) : EReal := Ideal.div 1 (1 + Ideal.exp (-g))

/-- A row of the feed-forward half under the final norm. -/
def ffn (x sh sc gr nw : Fin 1024 → EReal) (wg wu : Fin 1024 → Fin 2816 → EReal) (wd : Fin 2816 → Fin 1024 → EReal) (fw : Fin 1024 → EReal)
    (d : Fin 1024) : EReal :=
  rms (fun e => x e + gr e * proj (fun j => proj (modu x nw sc sh) wg j * logi (proj (modu x nw sc sh) wg j) * proj (modu x nw sc sh) wu j) wd e) d
    * fw d

/-- A branch under its gate: the gate's logistic times the branch's projection. -/
def gated {n : ℕ} (h : Fin 1024 → EReal) (g : Fin 1024 → Fin 1024 → EReal) (br : Fin n → EReal) (w : Fin n → Fin 1024 → EReal) (d : Fin 1024) : EReal :=
  logi (proj h g d) * proj br w d

/-- The four gated branches of a row added up. -/
def branches (h : Fin 1024 → EReal) (at' : Fin 512 → EReal) (hy po gm : Fin 256 → EReal) (g0 g1 g2 g3 : Fin 1024 → Fin 1024 → EReal)
    (wa : Fin 512 → Fin 1024 → EReal) (wh wp wg : Fin 256 → Fin 1024 → EReal) (d : Fin 1024) : EReal :=
  gated h g0 at' wa d + gated h g1 hy wh d + gated h g2 po wp d + gated h g3 gm wg d

/-- A row of the merge: the gated branches through the output matrix, under the residual's gate, on top of the row. -/
def merge (at' : Fin 512 → EReal) (hy po gm : Fin 256 → EReal) (x sh sc gr nw : Fin 1024 → EReal) (g0 g1 g2 g3 : Fin 1024 → Fin 1024 → EReal)
    (wa : Fin 512 → Fin 1024 → EReal) (wh wp wg : Fin 256 → Fin 1024 → EReal) (wo : Fin 1024 → Fin 1024 → EReal) (d : Fin 1024) : EReal :=
  x d + gr d * proj (branches (modu x nw sc sh) at' hy po gm g0 g1 g2 g3 wa wh wp wg) wo d

end Cert.Rows

end
-- ==== Proof.FfnRows.lean ====
/- The feed-forward half: its reference and each tile its body stores, a row at a time. -/
module

public import proofs.«01_k».proof.Proof.Rows
public import proofs.«01_k».proof.Proof.Gen.FfnRefIdeal.Read
public import proofs.«01_k».proof.Proof.Gen.FfnIdeal.Frame
public import Idealize.ShloMosaic.Lib.Pipeline.ValueKit

@[expose] public section

set_option maxRecDepth 16384

noncomputable section

open Idealize.ShloMosaic Idealize.ShloMosaic.TcCoe Cert.Rows

namespace Cert.FfnRefIdeal.Rows

open Cert.FfnRefIdeal Cert.FfnRefIdeal.Gen Cert.FfnRefIdeal.Read

variable (x0 : FVec Ideal S8x8192x1024 .f32) (x1 x2 x3 : FVec Ideal S8x1x1024 .f32) (x4 : FVec Ideal S1024 .f32)
  (x5 x6 : FVec Ideal S1024x2816 .f32) (x7 : FVec Ideal S2816x1024 .f32) (x8 : FVec Ideal S1024 .f32) (b : Fin 8) (n : Fin 8192)

/-- The reference's modulated norm. -/
theorem v18 (d : Fin 1024) : val_main_v18 (F := Ideal) x0 x1 x2 x4 (ix3 b n d)
    = modu (fun k => x0 (ix3 b n k)) (fun k => x4 (ix1 k)) (fun k => x2 (ix3 b 0 k)) (fun k => x1 (ix3 b 0 k)) d := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's gated product of the two projections. -/
theorem v22 (j : Fin 2816) : val_main_v22 (F := Ideal) x0 x1 x2 x4 x5 x6 (ix3 b n j)
    = (fun h : Fin 1024 → EReal => proj h (fun k j => x5 (ix2 k j)) j * logi (proj h (fun k j => x5 (ix2 k j)) j) * proj h (fun k j => x6 (ix2 k j)) j)
      (modu (fun k => x0 (ix3 b n k)) (fun k => x4 (ix1 k)) (fun k => x2 (ix3 b 0 k)) (fun k => x1 (ix3 b 0 k))) := by
  pointwise [val_main_v22, val_main_v21, val_main_v20, val_main_call0_v5, val_main_call0_v4, val_main_call0_cst_0, val_main_call0_v3, val_main_call0_v2, val_main_call0_cst, val_main_call0_v1, val_main_call0_v0, val_main_v19]
  simp only [v18]
  rfl

/-- The reference's row before the final norm. -/
theorem v26 (d : Fin 1024) : val_main_v26 (F := Ideal) x0 x1 x2 x3 x4 x5 x6 x7 (ix3 b n d)
    = x0 (ix3 b n d) + x3 (ix3 b 0 d) * proj (fun j => val_main_v22 (F := Ideal) x0 x1 x2 x4 x5 x6 (ix3 b n j)) (fun k j => x7 (ix2 k j)) d := by
  pointwise [val_main_v26, val_main_v25, val_main_v24, val_main_v23]
  rfl

/-- The reference, a row at a time. -/
theorem v39 (d : Fin 1024) : val_main_v39 (F := Ideal) x0 x1 x2 x3 x4 x5 x6 x7 x8 (ix3 b n d)
    = ffn (fun k => x0 (ix3 b n k)) (fun k => x1 (ix3 b 0 k)) (fun k => x2 (ix3 b 0 k)) (fun k => x3 (ix3 b 0 k)) (fun k => x4 (ix1 k))
      (fun k j => x5 (ix2 k j)) (fun k j => x6 (ix2 k j)) (fun k j => x7 (ix2 k j)) (fun k => x8 (ix1 k)) d := by
  pointwise [val_main_v39, val_main_v38, val_main_v37, val_main_v36, val_main_v35, val_main_v34, val_main_v33, val_main_v32, val_main_cst_5, val_main_v31, val_main_v30, val_main_cst_4, val_main_v29, val_main_v28, val_main_cst_3, val_main_v27]
  simp only [v26, v22]
  rfl

end Cert.FfnRefIdeal.Rows

namespace Cert.FfnIdeal.Rows

open Cert.FfnIdeal Cert.FfnIdeal.Gen

variable (x : FVec Ideal S1x256x1024 .f32) (sh sc gr : FVec Ideal S1x1x1024 .f32) (nw fw : FVec Ideal S1x1024 .f32)
  (wg wu : FVec Ideal S1024x2816 .bf16) (wd : FVec Ideal S2816x1024 .bf16) (i : Fin 256) (d : Fin 1024)

/-- The row a tile of 256 rows holds of the result. -/
abbrev tile : EReal := ffn (fun k => x (ix3 0 i k)) (fun k => sh (ix3 0 0 k)) (fun k => sc (ix3 0 0 k)) (fun k => gr (ix3 0 0 k)) (fun k => nw (ix2 0 k))
      (fun k j => wg (ix2 k j)) (fun k j => wu (ix2 k j)) (fun k j => wd (ix2 k j)) (fun k => fw (ix2 0 k)) d

/-- The first tile's payload. -/
theorem tile0 : k0_pay6 (F := Ideal) (k0_pay2 x) (k0_pay3 x nw sc sh) (k0_pay4 x nw sc sh wg) (k0_pay5 x nw sc sh wg) wu gr wd fw (ix3 0 i d)
    = tile x sh sc gr nw fw wg wu wd i d := by
  pointwise [k0_pay6, k0_pay5, k0_pay4, k0_pay3, k0_pay2]
  simp only [zero_less]
  rfl

/-- The second tile's payload. -/
theorem tile1 : k0_pay11 (F := Ideal) (k0_pay7 x) (k0_pay9 (k0_pay7 x) (k0_pay8 nw) sc sh wg wu) (k0_pay10 gr) wd fw (ix3 0 i d)
    = tile x sh sc gr nw fw wg wu wd i d := by
  pointwise [k0_pay11, k0_pay10, k0_pay9, k0_pay8, k0_pay7]
  simp only [zero_less]
  rfl

/-- The third tile's payload. -/
theorem tile2 : k0_pay19 (F := Ideal) (k0_pay17 (k0_pay12 x) (k0_pay13 nw) (k0_pay14 sc) (k0_pay15 sh) (k0_pay16 x) (Scalar.ofBits .f32 0x44800000#32) wg wu gr wd)
      (k0_pay18 (k0_pay12 x) (k0_pay13 nw) (k0_pay14 sc) (k0_pay15 sh) (k0_pay16 x) (Scalar.ofBits .f32 0x44800000#32) wg wu gr wd) fw (ix3 0 i d)
    = tile x sh sc gr nw fw wg wu wd i d := by
  pointwise [k0_pay19, k0_pay18, k0_pay17, k0_pay16, k0_pay15, k0_pay14, k0_pay13, k0_pay12]
  simp only [zero_less]
  rfl

/-- The fourth tile's payload. -/
theorem tile3 : k0_pay1 (F := Ideal) (k0_pay24 (k0_pay20 x) (k0_pay21 sh) (k0_pay22 x nw) (k0_pay23 sc) wg wu gr wd) fw (ix3 0 i d)
    = tile x sh sc gr nw fw wg wu wd i d := by
  pointwise [k0_pay1, k0_pay24, k0_pay23, k0_pay22, k0_pay21, k0_pay20]
  simp only [zero_less]
  rfl

end Cert.FfnIdeal.Rows

end
-- ==== Proof.FfnFinal.lean ====
/- The feed-forward half: from the tiles to a grid point's block, and from the blocks to the whole result. -/
module

public import proofs.«01_k».proof.Proof.FfnRows

@[expose] public section

set_option maxRecDepth 16384

noncomputable section

namespace Cert.FfnIdeal.Rows

open Idealize.ShloMosaic Idealize.ShloMosaic.TcCoe Cert.Rows Idealize.SL.Sem
open Idealize.ShloMosaic.Pipeline (Dat)
open Cert.FfnIdeal Cert.FfnIdeal.Gen

variable (x0 : FVec Ideal S1x1024x1024 .f32) (x1 x2 : FVec Ideal S1x1x1024 .f32) (x3 : FVec Ideal S1x1024 .f32) (x4 : FVec Ideal S1x1x1024 .f32)
    (x5 x6 : FVec Ideal S1024x2816 .bf16) (x7 : FVec Ideal S2816x1024 .bf16) (x8 : FVec Ideal S1x1024 .f32)

/-- A block's row of the result. -/
abbrev row (s d : Fin 1024) : EReal :=
  ffn (fun k => x0 (ix3 0 s k)) (fun k => x1 (ix3 0 0 k)) (fun k => x2 (ix3 0 0 k)) (fun k => x4 (ix3 0 0 k)) (fun k => x3 (ix2 0 k))
        (fun k j => x5 (ix2 k j)) (fun k j => x6 (ix2 k j)) (fun k j => x7 (ix2 k j)) (fun k => x8 (ix2 0 k)) d

/-- A tile of 256 rows, loaded from the blocks, at the row of the block it was loaded from. -/
theorem tile_ld (v : FVec Ideal S1x256x1024 .f32) (i : Fin 256) (s d : Fin 1024) (hv : ∀ k, v (ix3 0 i k) = x0 (ix3 0 s k)) :
    tile v (View.ld (Val := Elt Ideal) (e' := .f32) x1 r0_2) (View.ld (Val := Elt Ideal) (e' := .f32) x2 r0_2) (View.ld (Val := Elt Ideal) (e' := .f32) x4 r0_2) (View.ld (Val := Elt Ideal) (e' := .f32) x3 r0_1)
      (View.ld (Val := Elt Ideal) (e' := .f32) x8 r0_1) (View.ld (Val := Elt Ideal) (e' := .bf16) x5 r0_3) (View.ld (Val := Elt Ideal) (e' := .bf16) x6 r0_3) (View.ld (Val := Elt Ideal) (e' := .bf16) x7 r0_4) i d
      = row x0 x1 x2 x3 x4 x5 x6 x7 x8 s d := by
  unfold tile row
  congr 1
  · exact funext hv
  all_goals first
    | (funext k j; pointwise; blk_ext; done)
    | (funext k; pointwise; blk_ext)

/-- A grid point's block, a row at a time. -/
theorem out_at (y : S1x1024x1024.Idx) : out0_9 (F := Ideal) x0 x1 x2 x3 x4 x5 x6 x7 x8 y = row x0 x1 x2 x3 x4 x5 x6 x7 x8 (y 1) (y 2) := by
  unfold out0_9 k0_pay30 k0_pay29 k0_pay28 k0_pay27 k0_pay26 k0_pay25
  canon_tiles x h
  all_goals
    have e : x = ix3 0 (x 1) (y 2) := (eq_ix3 x).trans (by
      refine congr (congrArg (fun z => ix3 z (x 1)) (Subsingleton.elim (α := Fin 1) _ _)) (Fin.ext h2.symm))
    rw [e]
  · refine (tile3 ..).trans (tile_ld x0 x1 x2 x3 x4 x5 x6 x7 x8 _ _ _ _ fun k => ?_)
    pointwise; blk_ext
  · refine (tile2 ..).trans (tile_ld x0 x1 x2 x3 x4 x5 x6 x7 x8 _ _ _ _ fun k => ?_)
    pointwise; blk_ext
  · refine (tile1 ..).trans (tile_ld x0 x1 x2 x3 x4 x5 x6 x7 x8 _ _ _ _ fun k => ?_)
    pointwise; blk_ext
  · refine (tile0 ..).trans (tile_ld x0 x1 x2 x3 x4 x5 x6 x7 x8 _ _ _ _ fun k => ?_)
    pointwise; blk_ext

/-- Which block each window stages at a grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![t.val / 8, 0, 0]
    ∧ win0_5.index t = ![0, 0] ∧ win0_6.index t = ![0, 0] ∧ win0_7.index t = ![0, 0] ∧ win0_8.index t = ![0, 0]
    ∧ win0_9.index t = ![t.val / 8, t.val % 8, 0] :=
  (by decide +kernel : ∀ t : Fin grid0.N, win0_0.index t = ![t.val / 8, t.val % 8, 0] ∧ win0_1.index t = ![t.val / 8, 0, 0]
    ∧ win0_2.index t = ![t.val / 8, 0, 0] ∧ win0_3.index t = ![0, 0] ∧ win0_4.index t = ![t.val / 8, 0, 0]
    ∧ win0_5.index t = ![0, 0] ∧ win0_6.index t = ![0, 0] ∧ win0_7.index t = ![0, 0] ∧ win0_8.index t = ![0, 0]
    ∧ win0_9.index t = ![t.val / 8, t.val % 8, 0])

variable (m : (ℓ : Loc nD τ sig) → Buf (Elt Ideal) ℓ) (c : Dev nD)

/-- What the reference makes of the call's arguments. -/
def ref : FVec Ideal S8x8192x1024 .f32 :=
  Cert.FfnRefIdeal.Read.val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- What a grid point leaves in its block is the reference's result there. -/
theorem point (t : Fin cfg0.N) (y : S1x1024x1024.Idx) (b : Fin 8) (n : Fin 8192) (hb : b.val = t.val / 8) (hn : n.val = t.val % 8 * 1024 + (y 1).val) :
    row (iblk m c 0 t) (iblk m c 1 t) (iblk m c 2 t) (iblk m c 3 t) (iblk m c 4 t) (iblk m c 5 t) (iblk m c 6 t) (iblk m c 7 t) (iblk m c 8 t) (y 1) (y 2)
      = ref m c (ix3 b n (y 2)) := by
  unfold ref
  refine Eq.trans ?_ (Cert.FfnRefIdeal.Rows.v39 _ _ _ _ _ _ _ _ _ b n (y 2)).symm
  unfold row
  congr 1
  all_goals first
    | (funext k j; blk_point [iblk, V, idx t]; done)
    | (funext k; blk_point [iblk, V, idx t])

/-- The result array after the run is the reference's. -/
theorem final : (dats m 0 c).arrAt 9 cfg0.N = ref m c := by
  refine (dats m 0 c).arrAt_eq_of_covers 9 _ (by decide +kernel) fun t _ y => ?_
  blk_simp
  rw [after0_9]
  have ht : t.val < 64 := t.isLt
  have h1 : (y 1).val < 1024 := (y 1).isLt
  refine (out_at _ _ _ _ _ _ _ _ _ y).trans ((point m c t y ⟨t.val / 8, by omega⟩ ⟨t.val % 8 * 1024 + (y 1).val, by omega⟩ rfl rfl).trans (congrArg (ref m c) ?_))
  blk_ext [idx t]

end Cert.FfnIdeal.Rows

end
-- ==== Proof.ClaimFfn.lean ====
/- The claims of the feed-forward half. -/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.FfnIdeal.Value
public import proofs.«01_k».proof.Proof.FfnFinal
public import Idealize.ShloMosaic.Lib.Claim

@[expose] public section

noncomputable section

namespace Cert.Proof

open Idealize.ShloMosaic Idealize.ShloMosaic.TcCoe Idealize.SL.Sem

/-- The feed-forward half leaves its arguments unchanged and every counter at zero. -/
theorem frame_Ffn : Cert.quiescent_Ffn := fun m g _ => Cert.Ffn.Gen.frame m g

/-- The idealized feed-forward half leaves its arguments unchanged and every counter at zero. -/
theorem frame_FfnIdeal : Cert.quiescent_FfnIdeal := fun m g _ => Cert.FfnIdeal.Gen.frame m g

/-- The feed-forward half's reference leaves its arguments unchanged and every counter at zero. -/
theorem frame_FfnRefIdeal : Cert.quiescent_FfnRefIdeal := by
  intro m g _
  refine (θ_run _ _ _).mono (fun r h => ⟨fun c => (h c).2, ?_⟩) (Cert.FfnRefIdeal.Value.run (F := Ideal) m g)
  exact sem_eq_zero_of_no_sems rfl _

/-- The feed-forward half and its reference end with equal results. -/
theorem algebraic_Ffn : Cert.algebraic_FfnIdeal_FfnRefIdeal := by
  intro m g m' g' _ hagree
  refine ⟨Cert.FfnIdeal.Rows.ref m, ?_, ?_⟩
  · exact (θ_run _ _ _).mono (fun r h c => ⟨(h c).1.trans (Cert.FfnIdeal.Rows.final m c), (h c).2⟩) (Cert.FfnIdeal.Value.run_blocks (F := Ideal) m g)
  · refine (θ_run _ _ _).mono (fun r h c => ⟨(h c).1.trans ((Cert.FfnRefIdeal.Read.val_main_v39_eq m' c).trans ?_), (h c).2⟩)
      (Cert.FfnRefIdeal.Value.run (F := Ideal) m' g')
    obtain ⟨h0, h1, h2, h3, h4, h5, h6, h7, h8⟩ := hagree c
    rw [h0, h1, h2, h3, h4, h5, h6, h7, h8]
    rfl

end Cert.Proof

end
-- ==== Proof.MergeRows.lean ====
/- The merge: its reference and each tile its body stores, a row at a time. -/
module

public import proofs.«01_k».proof.Proof.Rows
public import proofs.«01_k».proof.Proof.Gen.MergeRefIdeal.Read
public import proofs.«01_k».proof.Proof.Gen.MergeIdeal.Frame
public import Idealize.ShloMosaic.Lib.Pipeline.ValueKit

@[expose] public section

set_option maxRecDepth 16384

noncomputable section

open Idealize.ShloMosaic Idealize.ShloMosaic.TcCoe Cert.Rows

namespace Cert.MergeRefIdeal.Rows

open Cert.MergeRefIdeal Cert.MergeRefIdeal.Gen Cert.MergeRefIdeal.Read

variable (x0 : FVec Ideal S8x8192x512 .f32) (x1 x2 x3 : FVec Ideal S8x8192x256 .f32) (x4 : FVec Ideal S8x8192x1024 .f32)
  (x5 x6 x7 : FVec Ideal S8x1x1024 .f32) (x8 : FVec Ideal S1024 .f32) (x9 : FVec Ideal S1024x4096 .f32) (x10 : FVec Ideal S512x1024 .f32)
  (x11 x12 x13 : FVec Ideal S256x1024 .f32) (x14 : FVec Ideal S1024x1024 .f32) (b : Fin 8) (n : Fin 8192)

/-- The reference's modulated norm. -/
theorem v18 (d : Fin 1024) : val_main_v18 (F := Ideal) x4 x5 x6 x8 (ix3 b n d)
    = modu (fun k => x4 (ix3 b n k)) (fun k => x8 (ix1 k)) (fun k => x6 (ix3 b 0 k)) (fun k => x5 (ix3 b 0 k)) d := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The first gate of the reference. -/
theorem v28 (d : Fin 1024) : val_main_v28 (F := Ideal) x4 x5 x6 x8 x9 (ix3 b n d)
    = logi (proj (fun k => val_main_v18 (F := Ideal) x4 x5 x6 x8 (ix3 b n k)) (fun k j => x9 (ix2 k ⟨j.val, by omega⟩)) d) := by
  pointwise [val_main_v28, val_main_v27, val_main_v26, val_main_v25, val_main_cst_4, val_main_v24, val_main_v23, val_main_cst_3, val_main_v22, val_main_v21, val_main_v20, val_main_v19]
  rfl

/-- The second gate of the reference. -/
theorem v32 (d : Fin 1024) : val_main_v32 (F := Ideal) x4 x5 x6 x8 x9 (ix3 b n d)
    = logi (proj (fun k => val_main_v18 (F := Ideal) x4 x5 x6 x8 (ix3 b n k)) (fun k j => x9 (ix2 k ⟨1024 + j.val, by omega⟩)) d) := by
  pointwise [val_main_v32, val_main_v31, val_main_v26, val_main_v25, val_main_cst_4, val_main_v24, val_main_v23, val_main_cst_3, val_main_v22, val_main_v21, val_main_v20, val_main_v19]
  rfl

/-- The third gate of the reference. -/
theorem v37 (d : Fin 1024) : val_main_v37 (F := Ideal) x4 x5 x6 x8 x9 (ix3 b n d)
    = logi (proj (fun k => val_main_v18 (F := Ideal) x4 x5 x6 x8 (ix3 b n k)) (fun k j => x9 (ix2 k ⟨2048 + j.val, by omega⟩)) d) := by
  pointwise [val_main_v37, val_main_v36, val_main_v26, val_main_v25, val_main_cst_4, val_main_v24, val_main_v23, val_main_cst_3, val_main_v22, val_main_v21, val_main_v20, val_main_v19]
  rfl

/-- The fourth gate of the reference. -/
theorem v42 (d : Fin 1024) : val_main_v42 (F := Ideal) x4 x5 x6 x8 x9 (ix3 b n d)
    = logi (proj (fun k => val_main_v18 (F := Ideal) x4 x5 x6 x8 (ix3 b n k)) (fun k j => x9 (ix2 k ⟨3072 + j.val, by omega⟩)) d) := by
  pointwise [val_main_v42, val_main_v41, val_main_v26, val_main_v25, val_main_cst_4, val_main_v24, val_main_v23, val_main_cst_3, val_main_v22, val_main_v21, val_main_v20, val_main_v19]
  rfl

/-- The reference's four gated branches added up. -/
theorem v45 (d : Fin 1024) : val_main_v45 (F := Ideal) x0 x1 x2 x3 x4 x5 x6 x8 x9 x10 x11 x12 x13 (ix3 b n d)
    = branches (modu (fun k => x4 (ix3 b n k)) (fun k => x8 (ix1 k)) (fun k => x6 (ix3 b 0 k)) (fun k => x5 (ix3 b 0 k)))
      (fun k => x0 (ix3 b n k)) (fun k => x1 (ix3 b n k)) (fun k => x2 (ix3 b n k)) (fun k => x3 (ix3 b n k))
      (fun k j => x9 (ix2 k ⟨j.val, by omega⟩)) (fun k j => x9 (ix2 k ⟨1024 + j.val, by omega⟩))
      (fun k j => x9 (ix2 k ⟨2048 + j.val, by omega⟩)) (fun k j => x9 (ix2 k ⟨3072 + j.val, by omega⟩))
      (fun k j => x10 (ix2 k j)) (fun k j => x11 (ix2 k j)) (fun k j => x12 (ix2 k j)) (fun k j => x13 (ix2 k j)) d := by
  pointwise [val_main_v45, val_main_v44, val_main_v43, val_main_v40, val_main_v39, val_main_v38, val_main_v35, val_main_v34, val_main_v33, val_main_v30, val_main_v29]
  simp only [v28, v32, v37, v42, v18]
  rfl

/-- The reference, a row at a time. -/
theorem v49 (d : Fin 1024) : val_main_v49 (F := Ideal) x0 x1 x2 x3 x4 x5 x6 x7 x8 x9 x10 x11 x12 x13 x14 (ix3 b n d)
    = merge (fun k => x0 (ix3 b n k)) (fun k => x1 (ix3 b n k)) (fun k => x2 (ix3 b n k)) (fun k => x3 (ix3 b n k)) (fun k => x4 (ix3 b n k))
      (fun k => x5 (ix3 b 0 k)) (fun k => x6 (ix3 b 0 k)) (fun k => x7 (ix3 b 0 k)) (fun k => x8 (ix1 k))
      (fun k j => x9 (ix2 k ⟨j.val, by omega⟩)) (fun k j => x9 (ix2 k ⟨1024 + j.val, by omega⟩))
      (fun k j => x9 (ix2 k ⟨2048 + j.val, by omega⟩)) (fun k j => x9 (ix2 k ⟨3072 + j.val, by omega⟩))
      (fun k j => x10 (ix2 k j)) (fun k j => x11 (ix2 k j)) (fun k j => x12 (ix2 k j)) (fun k j => x13 (ix2 k j)) (fun k j => x14 (ix2 k j)) d := by
  pointwise [val_main_v49, val_main_v48, val_main_v47, val_main_v46]
  simp only [v45]
  rfl

end Cert.MergeRefIdeal.Rows

namespace Cert.MergeIdeal.Rows

open Cert.MergeIdeal Cert.MergeIdeal.Gen

variable (at' : FVec Ideal S1x256x512 .bf16) (u v : FVec Ideal S1x1x1x256x128 .f32) (po gm : FVec Ideal S1x256x256 .bf16)
  (x : FVec Ideal S1x256x1024 .f32) (sh sc gr : FVec Ideal S1x1x1024 .f32) (nw : FVec Ideal S1x1024 .f32)
  (g0 g1 g2 g3 : FVec Ideal S1024x1024 .bf16) (wa : FVec Ideal S512x1024 .bf16) (wh wp wg : FVec Ideal S256x1024 .bf16)
  (wo : FVec Ideal S1024x1024 .bf16) (i : Fin 256) (d : Fin 1024) (hy : Fin 256 → EReal)
  (hu : ∀ k : Fin 128, u (ix5 0 0 0 i k) = hy (Fin.castAdd 128 k)) (hv : ∀ k : Fin 128, v (ix5 0 0 0 i k) = hy (Fin.natAdd 128 k))

/-- The second branch's projection, its 256 columns added up in two halves. -/
theorem hy_dot (hy : Fin 256 → EReal) (w : FVec Ideal S256x1024 .bf16) (d : Fin 1024) :
    ∑ x : Fin 128, hy (Fin.castAdd 128 x) * w (ix2 ⟨x.val, by omega⟩ d) + ∑ x : Fin 128, hy (Fin.natAdd 128 x) * w (ix2 ⟨128 + x.val, by omega⟩ d)
      = proj hy (fun k j => w (ix2 k j)) d :=
  (Fin.sum_univ_add (a := 128) (b := 128) fun k => hy k * w (ix2 k d)).symm

/-- The row a tile of 256 rows holds of the result. -/
abbrev tile : EReal := merge (fun k => at' (ix3 0 i k))
  hy (fun k => po (ix3 0 i k)) (fun k => gm (ix3 0 i k)) (fun k => x (ix3 0 i k)) (fun k => sh (ix3 0 0 k)) (fun k => sc (ix3 0 0 k))
  (fun k => gr (ix3 0 0 k)) (fun k => nw (ix2 0 k)) (fun k j => g0 (ix2 k j)) (fun k j => g1 (ix2 k j)) (fun k j => g2 (ix2 k j)) (fun k j => g3 (ix2 k j))
  (fun k j => wa (ix2 k j)) (fun k j => wh (ix2 k j)) (fun k j => wp (ix2 k j)) (fun k j => wg (ix2 k j)) (fun k j => wo (ix2 k j)) d

include hu hv in
/-- The first tile's payload. -/
theorem tile0 : k0_pay13 (F := Ideal) (k0_pay2 x) (k0_pay10 gr) (k0_pay11 (k0_pay3 x nw sc sh) (k0_pay5 po) (k0_pay6 gm)
      (k0_pay7 (k0_pay3 x nw sc sh) at' g0 wa) (k0_pay8 (k0_pay3 x nw sc sh) g1) (k0_pay9 (k0_pay4 u v) wh) g2 wp g3 wg) (k0_pay12 wo) (ix3 0 i d)
    = tile at' po gm x sh sc gr nw g0 g1 g2 g3 wa wh wp wg wo i d hy := by
  pointwise [k0_pay13, k0_pay12, k0_pay11, k0_pay10, k0_pay9, k0_pay8, k0_pay7, k0_pay6, k0_pay5, k0_pay4, k0_pay3, k0_pay2]
  simp only [zero_less, hu, hv, hy_dot]
  rfl

include hu hv in
/-- The second tile's payload. -/
theorem tile1 : k0_pay23 (F := Ideal) (k0_pay14 x) (k0_pay22 (k0_pay15 x nw sc sh) (k0_pay16 u v) (k0_pay17 po) (k0_pay18 gm)
      (k0_pay19 (k0_pay15 x nw sc sh) at' g0 wa) (k0_pay20 (k0_pay15 x nw sc sh) g1) (k0_pay21 (F := Ideal)) wh g2 wp g3 wg) gr wo (ix3 0 i d)
    = tile at' po gm x sh sc gr nw g0 g1 g2 g3 wa wh wp wg wo i d hy := by
  pointwise [k0_pay23, k0_pay22, k0_pay21, k0_pay20, k0_pay19, k0_pay18, k0_pay17, k0_pay16, k0_pay15, k0_pay14]
  simp only [zero_less, hu, hv, hy_dot]
  rfl

include hu hv in
/-- The third tile's payload. -/
theorem tile2 : k0_pay35 (F := Ideal) (k0_pay24 x) (k0_pay31 gm)
      (k0_pay33 (k0_pay28 (k0_pay25 sh) (k0_pay26 x nw) (k0_pay27 sc)) (k0_pay29 u v) (k0_pay30 po)
        (k0_pay32 (k0_pay25 sh) (k0_pay26 x nw) (k0_pay27 sc) at' g0 wa) g1 wh g2 wp)
      (k0_pay34 (k0_pay28 (k0_pay25 sh) (k0_pay26 x nw) (k0_pay27 sc)) g3) (Scalar.ofBits .f32 0x3F800000#32) wg gr wo (ix3 0 i d)
    = tile at' po gm x sh sc gr nw g0 g1 g2 g3 wa wh wp wg wo i d hy := by
  pointwise [k0_pay35, k0_pay34, k0_pay33, k0_pay32, k0_pay31, k0_pay30, k0_pay29, k0_pay28, k0_pay27, k0_pay26, k0_pay25, k0_pay24]
  simp only [zero_less, hu, hv, hy_dot]
  rfl

include hu hv in
/-- The fourth tile's payload. -/
theorem tile3 : k0_pay1 (F := Ideal) (k0_pay36 x) (k0_pay42 (k0_pay36 x) (k0_pay37 nw) (k0_pay38 sc) (k0_pay39 sh) (k0_pay40 x) (k0_pay41 (F := Ideal)))
      (k0_pay46 gm)
      (k0_pay49 (k0_pay42 (k0_pay36 x) (k0_pay37 nw) (k0_pay38 sc) (k0_pay39 sh) (k0_pay40 x) (k0_pay41 (F := Ideal))) (k0_pay43 u v) (k0_pay44 at') (k0_pay45 po)
        (k0_pay47 (k0_pay36 x) (k0_pay37 nw) (k0_pay38 sc) (k0_pay39 sh) (k0_pay40 x) (k0_pay41 (F := Ideal)) g0) (k0_pay48 (F := Ideal)) wa g1 wh g2 wp)
      (k0_pay50 g3) wg gr wo (ix3 0 i d)
    = tile at' po gm x sh sc gr nw g0 g1 g2 g3 wa wh wp wg wo i d hy := by
  pointwise [k0_pay1, k0_pay50, k0_pay49, k0_pay48, k0_pay47, k0_pay46, k0_pay45, k0_pay44, k0_pay43, k0_pay42, k0_pay41, k0_pay40, k0_pay39, k0_pay38, k0_pay37, k0_pay36]
  simp only [zero_less, hu, hv, hy_dot]
  rfl

end Cert.MergeIdeal.Rows

end
-- ==== Proof.MergeFinal.lean ====
/- The merge: from the tiles to a grid point's block, and from the blocks to the whole result. -/
module

public import proofs.«01_k».proof.Proof.MergeRows

@[expose] public section

set_option maxRecDepth 16384

noncomputable section

namespace Cert.MergeIdeal.Rows

open Idealize.ShloMosaic Idealize.ShloMosaic.TcCoe Cert.Rows Idealize.SL.Sem
open Idealize.ShloMosaic.Pipeline (Dat)
open Cert.MergeIdeal Cert.MergeIdeal.Gen

variable (x0 : FVec Ideal S1x1024x512 .bf16) (x1 : FVec Ideal S1x2x1x1024x128 .f32) (x2 x3 : FVec Ideal S1x1024x256 .bf16)
  (x4 : FVec Ideal S1x1024x1024 .f32) (x5 x6 : FVec Ideal S1x1x1024 .f32) (x7 : FVec Ideal S1x1024 .f32) (x8 : FVec Ideal S1x1x1024 .f32)
  (x9 : FVec Ideal S1024x4096 .bf16) (x10 : FVec Ideal S512x1024 .bf16) (x11 x12 x13 : FVec Ideal S256x1024 .bf16) (x14 : FVec Ideal S1024x1024 .bf16)

/-- The second branch's row: column `k` of 256 lies in half `k / 128`. -/
def halves (s : Fin 1024) (k : Fin 256) : EReal := x1 (ix5 0 ⟨k.val / 128, by omega⟩ 0 s ⟨k.val % 128, by omega⟩)

/-- The first half's columns of the row. -/
theorem halves_lo (s : Fin 1024) (k : Fin 128) : halves x1 s (Fin.castAdd 128 k) = x1 (ix5 0 0 0 s k) := by
  have e0 : k.val / 128 = 0 := by omega
  have e1 : k.val % 128 = k.val := by omega
  exact congrArg₂ (fun a b => x1 (ix5 0 a 0 s b)) (Fin.ext e0) (Fin.ext e1)

/-- The second half's columns of the row. -/
theorem halves_hi (s : Fin 1024) (k : Fin 128) : halves x1 s (Fin.natAdd 128 k) = x1 (ix5 0 1 0 s k) := by
  have e0 : (128 + k.val) / 128 = 1 := by omega
  have e1 : (128 + k.val) % 128 = k.val := by omega
  exact congrArg₂ (fun a b => x1 (ix5 0 a 0 s b)) (Fin.ext e0) (Fin.ext e1)

/-- A block's row of the result. -/
abbrev row (s d : Fin 1024) : EReal :=
  merge (fun k => x0 (ix3 0 s k)) (halves x1 s) (fun k => x2 (ix3 0 s k)) (fun k => x3 (ix3 0 s k)) (fun k => x4 (ix3 0 s k))
    (fun k => x5 (ix3 0 0 k)) (fun k => x6 (ix3 0 0 k)) (fun k => x8 (ix3 0 0 k)) (fun k => x7 (ix2 0 k))
    (fun k j => x9 (ix2 k ⟨j.val, by omega⟩)) (fun k j => x9 (ix2 k ⟨1024 + j.val, by omega⟩))
    (fun k j => x9 (ix2 k ⟨2048 + j.val, by omega⟩)) (fun k j => x9 (ix2 k ⟨3072 + j.val, by omega⟩))
    (fun k j => x10 (ix2 k j)) (fun k j => x11 (ix2 k j)) (fun k j => x12 (ix2 k j)) (fun k j => x13 (ix2 k j)) (fun k j => x14 (ix2 k j)) d

/-- A tile of 256 rows, loaded from the blocks, at the row of the block it was loaded from. -/
theorem tile_ld (a : FVec Ideal S1x256x512 .bf16) (p g : FVec Ideal S1x256x256 .bf16) (v : FVec Ideal S1x256x1024 .f32) (i : Fin 256) (s d : Fin 1024)
    (ha : ∀ k, a (ix3 0 i k) = x0 (ix3 0 s k)) (hp : ∀ k, p (ix3 0 i k) = x2 (ix3 0 s k)) (hg : ∀ k, g (ix3 0 i k) = x3 (ix3 0 s k))
    (hv : ∀ k, v (ix3 0 i k) = x4 (ix3 0 s k)) :
    tile a p g v (View.ld (Val := Elt Ideal) (e' := .f32) x5 r0_2) (View.ld (Val := Elt Ideal) (e' := .f32) x6 r0_2)
      (View.ld (Val := Elt Ideal) (e' := .f32) x8 r0_2) (View.ld (Val := Elt Ideal) (e' := .f32) x7 r0_1)
      (View.ld (Val := Elt Ideal) (e' := .bf16) x9 r0_7) (View.ld (Val := Elt Ideal) (e' := .bf16) x9 r0_9) (View.ld (Val := Elt Ideal) (e' := .bf16) x9 r0_11)
      (View.ld (Val := Elt Ideal) (e' := .bf16) x9 r0_12) (View.ld (Val := Elt Ideal) (e' := .bf16) x10 r0_8) (View.ld (Val := Elt Ideal) (e' := .bf16) x11 r0_10)
      (View.ld (Val := Elt Ideal) (e' := .bf16) x12 r0_10) (View.ld (Val := Elt Ideal) (e' := .bf16) x13 r0_10) (View.ld (Val := Elt Ideal) (e' := .bf16) x14 r0_13)
      i d (halves x1 s)
      = row x0 x1 x2 x3 x4 x5 x6 x7 x8 x9 x10 x11 x12 x13 x14 s d := by
  unfold tile row
  congr 1
  all_goals first
    | exact funext ha
    | exact funext hp
    | exact funext hg
    | exact funext hv
    | (funext k j; pointwise; blk_ext; done)
    | (funext k; pointwise; blk_ext)

/-- A grid point's block, a row at a time. -/
theorem out_at (y : S1x1024x1024.Idx) : out0_15 (F := Ideal) x0 x1 x2 x3 x4 x5 x6 x7 x8 x9 x10 x11 x12 x13 x14 y
    = row x0 x1 x2 x3 x4 x5 x6 x7 x8 x9 x10 x11 x12 x13 x14 (y 1) (y 2) := by
  unfold out0_15 k0_pay63 k0_pay62 k0_pay61 k0_pay60 k0_pay59 k0_pay58 k0_pay57 k0_pay56 k0_pay55 k0_pay54 k0_pay53 k0_pay52 k0_pay51
  canon_tiles x h
  all_goals
    have e : x = ix3 0 (x 1) (y 2) := (eq_ix3 x).trans (by
      refine congr (congrArg (fun z => ix3 z (x 1)) (Subsingleton.elim (α := Fin 1) _ _)) (Fin.ext h2.symm))
    rw [e]
  · refine (tile3 (hy := halves x1 (y 1)) (hu := fun k => ?_) (hv := fun k => ?_) ..).trans (tile_ld x0 x1 x2 x3 x4 x5 x6 x7 x8 x9 x10 x11 x12 x13 x14 _ _ _ _ _ _ _ (fun k => ?_) (fun k => ?_) (fun k => ?_) fun k => ?_)
    all_goals (first | refine Eq.trans ?_ (halves_lo x1 (y 1) k).symm | refine Eq.trans ?_ (halves_hi x1 (y 1) k).symm | skip); pointwise; blk_ext
  · refine (tile2 (hy := halves x1 (y 1)) (hu := fun k => ?_) (hv := fun k => ?_) ..).trans (tile_ld x0 x1 x2 x3 x4 x5 x6 x7 x8 x9 x10 x11 x12 x13 x14 _ _ _ _ _ _ _ (fun k => ?_) (fun k => ?_) (fun k => ?_) fun k => ?_)
    all_goals (first | refine Eq.trans ?_ (halves_lo x1 (y 1) k).symm | refine Eq.trans ?_ (halves_hi x1 (y 1) k).symm | skip); pointwise; blk_ext
  · refine (tile1 (hy := halves x1 (y 1)) (hu := fun k => ?_) (hv := fun k => ?_) ..).trans (tile_ld x0 x1 x2 x3 x4 x5 x6 x7 x8 x9 x10 x11 x12 x13 x14 _ _ _ _ _ _ _ (fun k => ?_) (fun k => ?_) (fun k => ?_) fun k => ?_)
    all_goals (first | refine Eq.trans ?_ (halves_lo x1 (y 1) k).symm | refine Eq.trans ?_ (halves_hi x1 (y 1) k).symm | skip); pointwise; blk_ext
  · refine (tile0 (hy := halves x1 (y 1)) (hu := fun k => ?_) (hv := fun k => ?_) ..).trans (tile_ld x0 x1 x2 x3 x4 x5 x6 x7 x8 x9 x10 x11 x12 x13 x14 _ _ _ _ _ _ _ (fun k => ?_) (fun k => ?_) (fun k => ?_) fun k => ?_)
    all_goals (first | refine Eq.trans ?_ (halves_lo x1 (y 1) k).symm | refine Eq.trans ?_ (halves_hi x1 (y 1) k).symm | skip); pointwise; blk_ext

/-- Which block each window stages at a grid point. -/
theorem idx : ∀ t : Fin cfg0.N, win0_0.index t = ![t.val / 8, t.val % 8, 0]
    ∧ win0_1.index t = ![t.val / 8 / 2, 0, t.val / 8 % 2, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, 0, 0]
    ∧ win0_6.index t = ![t.val / 8, 0, 0]
    ∧ win0_7.index t = ![0, 0]
    ∧ win0_8.index t = ![t.val / 8, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val / 8, t.val % 8, 0] :=
  (by decide +kernel : ∀ t : Fin grid0.N, win0_0.index t = ![t.val / 8, t.val % 8, 0]
    ∧ win0_1.index t = ![t.val / 8 / 2, 0, t.val / 8 % 2, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, 0, 0]
    ∧ win0_6.index t = ![t.val / 8, 0, 0]
    ∧ win0_7.index t = ![0, 0]
    ∧ win0_8.index t = ![t.val / 8, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val / 8, t.val % 8, 0])

variable (m : (ℓ : Loc nD τ sig) → Buf (Elt Ideal) ℓ) (c : Dev nD)

/-- What the reference makes of the call's arguments. -/
def ref : FVec Ideal S8x8192x1024 .f32 :=
  Cert.MergeRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What a grid point leaves in its block is the reference's result there. -/
theorem point (t : Fin cfg0.N) (y : S1x1024x1024.Idx) (b : Fin 8) (n : Fin 8192) (hb : b.val = t.val / 8) (hn : n.val = t.val % 8 * 1024 + (y 1).val) :
    row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (y 1) (y 2)
      = ref m c (ix3 b n (y 2)) := by
  unfold ref
  refine Eq.trans ?_ (Cert.MergeRefIdeal.Rows.v49 _ _ _ _ _ _ _ _ _ _ _ _ _ _ _ b n (y 2)).symm
  unfold row
  congr 1
  all_goals first
    | (funext k j; blk_point [iblk, V, idx t]; done)
    | (funext k; blk_point [iblk, V, idx t]; done)
    | (funext k; unfold halves; blk_point [iblk, V, idx t])

/-- The result array after the run is the reference's. -/
theorem final : (dats m 0 c).arrAt 15 cfg0.N = ref m c := by
  refine (dats m 0 c).arrAt_eq_of_covers 15 _ (by decide +kernel) fun t _ y => ?_
  blk_simp
  rw [after0_15]
  have ht : t.val < 64 := t.isLt
  have h1 : (y 1).val < 1024 := (y 1).isLt
  refine (out_at _ _ _ _ _ _ _ _ _ _ _ _ _ _ _ y).trans ((point m c t y ⟨t.val / 8, by omega⟩ ⟨t.val % 8 * 1024 + (y 1).val, by omega⟩ rfl rfl).trans (congrArg (ref m c) ?_))
  blk_ext [idx t]

end Cert.MergeIdeal.Rows

end
-- ==== Proof.ClaimMerge.lean ====
/- The claims of the merge. -/
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.Gen.MergeIdeal.Value
public import proofs.«01_k».proof.Proof.MergeFinal
public import Idealize.ShloMosaic.Lib.Claim

@[expose] public section

noncomputable section

namespace Cert.Proof

open Idealize.ShloMosaic Idealize.ShloMosaic.TcCoe Idealize.SL.Sem

/-- The merge leaves its arguments unchanged and every counter at zero. -/
theorem frame_Merge : Cert.quiescent_Merge := fun m g _ => Cert.Merge.Gen.frame m g

/-- The idealized merge leaves its arguments unchanged and every counter at zero. -/
theorem frame_MergeIdeal : Cert.quiescent_MergeIdeal := fun m g _ => Cert.MergeIdeal.Gen.frame m g

/-- The merge's reference leaves its arguments unchanged and every counter at zero. -/
theorem frame_MergeRefIdeal : Cert.quiescent_MergeRefIdeal := by
  intro m g _
  refine (θ_run _ _ _).mono (fun r h => ⟨fun c => (h c).2, ?_⟩) (Cert.MergeRefIdeal.Value.run (F := Ideal) m g)
  exact sem_eq_zero_of_no_sems rfl _

/-- The merge computes its reference's result: at every grid point the block is the reference's rows, and the blocks cover the result. -/
theorem algebraic_Merge : Cert.algebraic_MergeIdeal_MergeRefIdeal := by
  intro m g m' g' _ hagree
  refine ⟨Cert.MergeIdeal.Rows.ref m, ?_, ?_⟩
  · exact (θ_run _ _ _).mono (fun r h c => ⟨(h c).1.trans (Cert.MergeIdeal.Rows.final m c), (h c).2⟩) (Cert.MergeIdeal.Value.run_blocks (F := Ideal) m g)
  · refine (θ_run _ _ _).mono (fun r h c => ⟨(h c).1.trans ((Cert.MergeRefIdeal.Read.val_main_v49_eq m' c).trans ?_), (h c).2⟩)
      (Cert.MergeRefIdeal.Value.run (F := Ideal) m' g')
    obtain ⟨h0, h1, h2, h3, h4, h5, h6, h7, h8, h9, h10, h11, h12, h13, h14⟩ := hagree c
    rw [h0, h1, h2, h3, h4, h5, h6, h7, h8, h9, h10, h11, h12, h13, h14]
    rfl

end Cert.Proof

end
-- ==== Proof.InprojRows.lean ====
/- The input projection: its reference and each tile its body stores, a row at a time. -/
module

public import proofs.«01_k».proof.Proof.Rows
public import proofs.«01_k».proof.Proof.Gen.InprojRefIdeal.Read
public import proofs.«01_k».proof.Proof.Gen.InprojIdeal.Frame
public import Idealize.ShloMosaic.Lib.Pipeline.ValueKit

@[expose] public section

set_option maxRecDepth 16384

noncomputable section

open Idealize.ShloMosaic Idealize.ShloMosaic.TcCoe Cert.Rows

namespace Cert.InprojRefIdeal.Rows

open Cert.InprojRefIdeal Cert.InprojRefIdeal.Gen Cert.InprojRefIdeal.Read

variable (x0 : FVec Ideal S8x8192x1024 .f32) (x1 x2 : FVec Ideal S8x1x1024 .f32) (x3 : FVec Ideal S1024 .f32) (x4 : FVec Ideal S1024x6400 .f32)
  (b : Fin 8) (n : Fin 8192)

/-- The reference's modulated norm. -/
theorem v18 (d : Fin 1024) : val_main_v18 (F := Ideal) x0 x1 x2 x3 (ix3 b n d)
    = modu (fun k => x0 (ix3 b n k)) (fun k => x3 (ix1 k)) (fun k => x2 (ix3 b 0 k)) (fun k => x1 (ix3 b 0 k)) d := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- Which column of the input matrix a column of the result is the projection on: the queries, keys and values first, then the two local
    branches, then the long convolution's. -/
def col (j : Fin 2304) : Fin 6400 :=
  ⟨if j.val < 768 then j.val else if j.val < 1536 then j.val + 768 else j.val - 768, by split_ifs <;> omega⟩

/-- The reference, a row at a time. -/
theorem v23 (j : Fin 2304) : val_main_v23 (F := Ideal) x0 x1 x2 x3 x4 (ix3 b n j)
    = proj (modu (fun k => x0 (ix3 b n k)) (fun k => x3 (ix1 k)) (fun k => x2 (ix3 b 0 k)) (fun k => x1 (ix3 b 0 k))) (fun k j => x4 (ix2 k (col j))) j := by
  pointwise [val_main_v23, val_main_v22, val_main_v21, val_main_v20, val_main_v19]
  simp only [v18]
  unfold proj
  split_ifs with h h'
  all_goals
    refine Finset.sum_congr rfl fun k _ => congrArg (fun z => _ * x4 (ix2 k z)) (Fin.ext ?_)
    unfold col
    dsimp only
    split_ifs <;> omega

end Cert.InprojRefIdeal.Rows

namespace Cert.InprojIdeal.Rows

open Cert.InprojIdeal Cert.InprojIdeal.Gen

variable (x : FVec Ideal S1x256x1024 .f32) (sh sc : FVec Ideal S1x1x1024 .f32) (nw : FVec Ideal S1x1024 .f32)
  (w : FVec Ideal S1024x2304 .bf16) (i : Fin 256) (j : Fin 2304)

/-- The row a tile of 256 rows holds of the result. -/
abbrev tile : EReal := proj (modu (fun k => x (ix3 0 i k)) (fun k => nw (ix2 0 k)) (fun k => sc (ix3 0 0 k)) (fun k => sh (ix3 0 0 k)))
  (fun k j => w (ix2 k j)) j

/-- The first tile's payload. -/
theorem tile0 : k0_pay2 (F := Ideal) x nw sc sh w (ix3 0 i j) = tile x sh sc nw w i j := by
  pointwise [k0_pay2]
  rfl

/-- The second tile's payload. -/
theorem tile1 : k0_pay3 (F := Ideal) x nw sc sh w (ix3 0 i j) = tile x sh sc nw w i j := by
  pointwise [k0_pay3]
  rfl

/-- The third tile's payload. -/
theorem tile2 : k0_pay5 (F := Ideal) (k0_pay4 x) nw sc sh w (ix3 0 i j) = tile x sh sc nw w i j := by
  pointwise [k0_pay5, k0_pay4]
  rfl

/-- The fourth tile's payload. -/
theorem tile3 : k0_pay1 (F := Ideal) (k0_pay6 x) (k0_pay7 nw) sc sh w (ix3 0 i j) = tile x sh sc nw w i j := by
  pointwise [k0_pay1, k0_pay6, k0_pay7]
  rfl

end Cert.InprojIdeal.Rows

end
-- ==== Proof.InprojFinal.lean ====
/- The input projection: from the tiles to a grid point's block, and from the blocks to the whole result. -/
module

public import proofs.«01_k».proof.Proof.InprojRows

@[expose] public section

set_option maxRecDepth 16384

noncomputable section

namespace Cert.InprojIdeal.Rows

open Idealize.ShloMosaic Idealize.ShloMosaic.TcCoe Cert.Rows Idealize.SL.Sem
open Idealize.ShloMosaic.Pipeline (Dat)
open Cert.InprojIdeal Cert.InprojIdeal.Gen

variable (x0 : FVec Ideal S1x1024x1024 .f32) (x1 x2 : FVec Ideal S1x1x1024 .f32) (x3 : FVec Ideal S1x1024 .f32) (x4 : FVec Ideal S1024x2304 .bf16)

/-- A block's row of the result. -/
abbrev row (s : Fin 1024) (j : Fin 2304) : EReal :=
  proj (modu (fun k => x0 (ix3 0 s k)) (fun k => x3 (ix2 0 k)) (fun k => x2 (ix3 0 0 k)) (fun k => x1 (ix3 0 0 k))) (fun k j => x4 (ix2 k j)) j

/-- A tile of 256 rows, loaded from the blocks, at the row of the block it was loaded from. -/
theorem tile_ld (v : FVec Ideal S1x256x1024 .f32) (i : Fin 256) (s : Fin 1024) (j : Fin 2304) (hv : ∀ k, v (ix3 0 i k) = x0 (ix3 0 s k)) :
    tile v (View.ld (Val := Elt Ideal) (e' := .f32) x1 r0_2) (View.ld (Val := Elt Ideal) (e' := .f32) x2 r0_2)
      (View.ld (Val := Elt Ideal) (e' := .f32) x3 r0_1) (View.ld (Val := Elt Ideal) (e' := .bf16) x4 r0_3) i j
      = row x0 x1 x2 x3 x4 s j := by
  unfold tile row
  congr 2
  · exact funext hv
  all_goals first
    | (funext k j; pointwise; blk_ext; done)
    | (funext k; pointwise; blk_ext)

/-- A grid point's block, a row at a time. -/
theorem out_at (y : S1x1024x2304.Idx) : out0_5 (F := Ideal) x0 x1 x2 x3 x4 y = row x0 x1 x2 x3 x4 (y 1) (y 2) := by
  unfold out0_5
  canon_tiles x h
  all_goals
    have e : x = ix3 0 (x 1) (y 2) := (eq_ix3 x).trans (by
      refine congr (congrArg (fun z => ix3 z (x 1)) (Subsingleton.elim (α := Fin 1) _ _)) (Fin.ext h2.symm))
    rw [e]
  · refine (tile3 ..).trans (tile_ld x0 x1 x2 x3 x4 _ _ _ _ fun k => ?_)
    pointwise; blk_ext
  · refine (tile2 ..).trans (tile_ld x0 x1 x2 x3 x4 _ _ _ _ fun k => ?_)
    pointwise; blk_ext
  · refine (tile1 ..).trans (tile_ld x0 x1 x2 x3 x4 _ _ _ _ fun k => ?_)
    pointwise; blk_ext
  · refine (tile0 ..).trans (tile_ld x0 x1 x2 x3 x4 _ _ _ _ fun k => ?_)
    pointwise; blk_ext

/-- Which block each window stages at a grid point. -/
theorem idx : ∀ t : Fin cfg0.N, win0_0.index t = ![t.val / 8, t.val % 8, 0]
    ∧ win0_1.index t = ![t.val / 8, 0, 0]
    ∧ win0_2.index t = ![t.val / 8, 0, 0]
    ∧ win0_3.index t = ![0, 0]
    ∧ win0_4.index t = ![0, 0]
    ∧ win0_5.index t = ![t.val / 8, t.val % 8, 0] :=
  (by decide +kernel : ∀ t : Fin grid0.N, win0_0.index t = ![t.val / 8, t.val % 8, 0]
    ∧ win0_1.index t = ![t.val / 8, 0, 0]
    ∧ win0_2.index t = ![t.val / 8, 0, 0]
    ∧ win0_3.index t = ![0, 0]
    ∧ win0_4.index t = ![0, 0]
    ∧ win0_5.index t = ![t.val / 8, t.val % 8, 0])

variable (m : (ℓ : Loc nD τ sig) → Buf (Elt Ideal) ℓ) (c : Dev nD)

/-- What the reference makes of the call's arguments. -/
def ref : FVec Ideal S8x8192x2304 .f32 :=
  Cert.InprojRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Five column blocks side by side. -/
def beside (u : FVec Ideal S1024x512 .f32) (v w : FVec Ideal S1024x256 .f32) (x : FVec Ideal S1024x512 .f32) (y : FVec Ideal S1024x768 .f32) :
    FVec Ideal S1024x2304 .bf16 :=
  truncf .bf16 (concatenate S1024x2304 1 [⟨S1024x512, u⟩, ⟨S1024x256, v⟩, ⟨S1024x256, w⟩, ⟨S1024x512, x⟩, ⟨S1024x768, y⟩]
    concatenates_S1024x512_S1024x256_S1024x256_S1024x512_S1024x768_S1024x2304_d1) bitsLt_bf16_f32

/-- The permuted weights: five column ranges of the input matrix side by side. -/
def perm (w : FVec Ideal S1024x6400 .f32) : FVec Ideal S1024x2304 .bf16 :=
  beside (extractStridedSlice S1024x512 ![0, 0] w slices_S1024x6400_S1024x512_0_0)
    (extractStridedSlice S1024x256 ![0, 512] w slices_S1024x6400_S1024x256_0_512)
    (extractStridedSlice S1024x256 ![0, 1536] w slices_S1024x6400_S1024x256_0_1536)
    (extractStridedSlice S1024x512 ![0, 1792] w slices_S1024x6400_S1024x512_0_1792)
    (extractStridedSlice S1024x768 ![0, 768] w slices_S1024x6400_S1024x768_0_768)

/-- Column `j` of the permuted weights is column `col j` of the input matrix. -/
theorem perm_apply (w : FVec Ideal S1024x6400 .f32) (k : Fin 1024) (j : Fin 2304) : perm w (ix2 k j) = w (ix2 k (Cert.InprojRefIdeal.Rows.col j)) := by
  pointwise [perm, beside]
  split_ifs
  all_goals
    refine congrArg (fun z => w (ix2 k z)) (Fin.ext ?_)
    unfold Cert.InprojRefIdeal.Rows.col
    dsimp only
    split_ifs <;> omega

/-- The buffers after the five slices are taken. -/
abbrev sliced := StableHlo.after (hostOps0.take 5) fun b => m (c, b)

/-- What the five slices are. -/
theorem slices : sliced m c (Proc.devRef .tc main_v0) = extractStridedSlice S1024x512 ![0, 0] (m ((c : Thread nD τ).loc main_arg4)) slices_S1024x6400_S1024x512_0_0
    ∧ sliced m c (Proc.devRef .tc main_v1) = extractStridedSlice S1024x256 ![0, 512] (m ((c : Thread nD τ).loc main_arg4)) slices_S1024x6400_S1024x256_0_512
    ∧ sliced m c (Proc.devRef .tc main_v2) = extractStridedSlice S1024x256 ![0, 1536] (m ((c : Thread nD τ).loc main_arg4)) slices_S1024x6400_S1024x256_0_1536
    ∧ sliced m c (Proc.devRef .tc main_v3) = extractStridedSlice S1024x512 ![0, 1792] (m ((c : Thread nD τ).loc main_arg4)) slices_S1024x6400_S1024x512_0_1792
    ∧ sliced m c (Proc.devRef .tc main_v4) = extractStridedSlice S1024x768 ![0, 768] (m ((c : Thread nD τ).loc main_arg4)) slices_S1024x6400_S1024x768_0_768 := by
  refine ⟨?_, ?_, ?_, ?_, ?_⟩
  all_goals
    unfold sliced
    simp only [List.take, StableHlo.after_cons, StableHlo.after_nil]
    repeat first
      | rw [StableHlo.unary_result]
      | (rw [StableHlo.unary_result_ne]; rotate_left; decide)

/-- The weights' array when the grid runs. -/
theorem host : V m c main_v6 = perm (m ((c : Thread nD τ).loc main_arg4)) := by
  obtain ⟨e0, e1, e2, e3, e4⟩ := slices m c
  unfold V
  simp only [StableHlo.after_cons, StableHlo.after_nil]
  rw [StableHlo.reshape_result_ne]; rotate_left; decide
  rw [StableHlo.unary_result, StableHlo.nary_result]
  have e := congr (congr (congr (congr (congrArg beside e0) e1) e2) e3) e4
  exact e

/-- The weights a grid point stages. -/
theorem weights (t : Fin cfg0.N) (k : Fin 1024) (j : Fin 2304) :
    iblk m c 4 t (ix2 k j) = m ((c : Thread nD τ).loc main_arg4) (ix2 k (Cert.InprojRefIdeal.Rows.col j)) := by
  refine Eq.trans ?_ (perm_apply _ k j)
  refine Eq.trans ?_ (congrFun (host m c) (ix2 k j))
  unfold iblk
  generalize V m c main_v6 = w
  blk_ext [idx t]

/-- What a grid point leaves in its block is the reference's result there. -/
theorem point (t : Fin cfg0.N) (y : S1x1024x2304.Idx) (b : Fin 8) (n : Fin 8192) (hb : b.val = t.val / 8) (hn : n.val = t.val % 8 * 1024 + (y 1).val) :
    row (iblk m c 0 t) (iblk m c 1 t) (iblk m c 2 t) (iblk m c 3 t) (iblk m c 4 t) (y 1) (y 2) = ref m c (ix3 b n (y 2)) := by
  unfold ref
  refine Eq.trans ?_ (Cert.InprojRefIdeal.Rows.v23 _ _ _ _ _ b n (y 2)).symm
  unfold row
  congr 2
  all_goals first
    | (funext k j; exact weights m c t k j)
    | (funext k; blk_point [iblk, V, idx t])

/-- The result array after the run is the reference's. -/
theorem final : (dats m 0 c).arrAt 5 cfg0.N = ref m c := by
  refine (dats m 0 c).arrAt_eq_of_covers 5 _ (by decide +kernel) fun t _ y => ?_
  blk_simp
  rw [after0_5]
  have ht : t.val < 64 := t.isLt
  have h1 : (y 1).val < 1024 := (y 1).isLt
  refine (out_at _ _ _ _ _ y).trans ((point m c t y ⟨t.val / 8, by omega⟩ ⟨t.val % 8 * 1024 + (y 1).val, by omega⟩ rfl rfl).trans (congrArg (ref m c) ?_))
  blk_ext [idx t]

end Cert.InprojIdeal.Rows

end
-- ==== Proof.ClaimInproj.lean ====
/- The claims of the input projection. -/
module

public import proofs.«01_k».proof.Defs
public import proofs.«01_k».proof.Proof.Gen.Inproj.Frame
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.InprojIdeal.Value
public import proofs.«01_k».proof.Proof.InprojFinal
public import Idealize.ShloMosaic.Lib.Claim

@[expose] public section

noncomputable section

namespace Cert.Proof

open Idealize.ShloMosaic Idealize.ShloMosaic.TcCoe Idealize.SL.Sem

/-- The input projection leaves its arguments unchanged and every counter at zero. -/
theorem frame_Inproj : Cert.quiescent_Inproj := fun m g _ => Cert.Inproj.Gen.frame m g

/-- The idealized input projection leaves its arguments unchanged and every counter at zero. -/
theorem frame_InprojIdeal : Cert.quiescent_InprojIdeal := fun m g _ => Cert.InprojIdeal.Gen.frame m g

/-- The input projection's reference leaves its arguments unchanged and every counter at zero. -/
theorem frame_InprojRefIdeal : Cert.quiescent_InprojRefIdeal := by
  intro m g _
  refine (θ_run _ _ _).mono (fun r h => ⟨fun c => (h c).2, ?_⟩) (Cert.InprojRefIdeal.Value.run (F := Ideal) m g)
  exact sem_eq_zero_of_no_sems rfl _

/-- The input projection computes its reference's result: at every grid point the block is the reference's rows, and the blocks cover the result. -/
theorem algebraic_Inproj : Cert.algebraic_InprojIdeal_InprojRefIdeal := by
  intro m g m' g' _ hagree
  refine ⟨Cert.InprojIdeal.Rows.ref m, ?_, ?_⟩
  · exact (θ_run _ _ _).mono (fun r h c => ⟨(h c).1.trans (Cert.InprojIdeal.Rows.final m c), (h c).2⟩) (Cert.InprojIdeal.Value.run_blocks (F := Ideal) m g)
  · refine (θ_run _ _ _).mono (fun r h c => ⟨(h c).1.trans ((Cert.InprojRefIdeal.Read.val_main_v23_eq m' c).trans ?_), (h c).2⟩)
      (Cert.InprojRefIdeal.Value.run (F := Ideal) m' g')
    obtain ⟨h0, h1, h2, h3, h4⟩ := hagree c
    rw [h0, h1, h2, h3, h4]
    rfl

end Cert.Proof

end
-- ==== Proof.ModRows.lean ====
/- The modulation vectors: the reference and the body, an entry at a time, and the whole result. -/
module

public import proofs.«01_k».proof.Proof.Rows
public import proofs.«01_k».proof.Proof.Gen.ModRefIdeal.Read
public import proofs.«01_k».proof.Proof.Gen.ModIdeal.Frame
public import Idealize.ShloMosaic.Lib.Pipeline.ValueKit

@[expose] public section

set_option maxRecDepth 16384

noncomputable section

namespace Cert.ModIdeal.Rows

open Idealize.ShloMosaic Idealize.ShloMosaic.TcCoe Cert.Rows Idealize.SL.Sem
open Idealize.ShloMosaic.Pipeline (Dat)
open Cert.ModIdeal Cert.ModIdeal.Gen

/-- The gated conditioning vector: each entry times its logistic. -/
abbrev act (c : Fin 1024 → EReal) (k : Fin 1024) : EReal := c k * logi (c k)

section Reference

open Cert.ModRefIdeal.Gen Cert.ModRefIdeal.Read

/-- An entry of the reference's result. -/
theorem v5 (x0 : FVec Ideal Cert.ModRefIdeal.S16x1024 .f32) (x1 : FVec Ideal Cert.ModRefIdeal.S2x1024x6144 .f32) (x2 : FVec Ideal Cert.ModRefIdeal.S2x6144 .f32)
    (l : Fin 2) (r : Fin 16) (j : Fin 6144) :
    val_main_v5 (F := Ideal) x0 x1 x2 (ix3 l r j) = proj (act fun k => x0 (ix2 r k)) (fun k j => x1 (ix3 l k j)) j + x2 (ix2 l j) := by
  rw [val_main_v5_apply, val_main_v2_apply, val_main_v1_apply]
  refine congrArg₂ (fun a b : EReal => a + b) (Finset.sum_congr rfl fun k _ => ?_) ?_
  · rw [mul_comm]
    refine congrArg₂ (fun a b : EReal => a * b) ?_ (congrArg x1 (eq_ix3 _))
    pointwise [val_main_v0, val_main_call0_v5, val_main_call0_v4, val_main_call0_v3, val_main_call0_v2, val_main_call0_v1, val_main_call0_v0, val_main_call0_cst, val_main_call0_cst_0]
    exact congrArg (fun z => x0 z * logi (x0 z)) (eq_ix2 _)
  · pointwise [val_main_v4, val_main_v3]

end Reference

variable (x0 : FVec Ideal S16x1024 .f32) (x1 : FVec Ideal S1x1024x1024 .f32) (x2 : FVec Ideal S1x1x1024 .f32)

/-- An entry of a grid point's block. -/
abbrev row (r : Fin 16) (j : Fin 1024) : EReal := proj (act fun k => x0 (ix2 r k)) (fun k j => x1 (ix3 0 k j)) j + x2 (ix3 0 0 j)

/-- The body's payload. -/
theorem tile (r : Fin 16) (j : Fin 1024) : k0_pay1 (F := Ideal) x0 x1 x2 (ix3 0 r j) = row x0 x1 x2 r j := by
  pointwise [k0_pay1]
  simp only [zero_less]
  rfl

/-- A grid point's block, an entry at a time. -/
theorem out_at (y : S1x16x1024.Idx) : out0_3 (F := Ideal) x0 x1 x2 y = row x0 x1 x2 (y 1) (y 2) := by
  unfold out0_3
  canon_tiles x h
  have e : x = ix3 0 (y 1) (y 2) := (eq_ix3 x).trans (congr (congr (congrArg ix3 (Subsingleton.elim (α := Fin 1) _ _)) (Fin.ext h1.symm)) (Fin.ext h2.symm))
  rw [e]
  refine (tile ..).trans ?_
  unfold row
  refine congrArg₂ (fun a b : EReal => a + b) (congrArg₂ (fun a b => proj a b (y 2)) (congrArg act (funext fun k => ?_)) (funext fun k => funext fun j => ?_)) ?_
  all_goals pointwise; blk_ext

/-- Which block each window stages at a grid point. -/
theorem idx : ∀ t : Fin cfg0.N, win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, win0_0.index t = ![0, 0]
    ∧ win0_1.index t = ![t.val / 6, 0, t.val % 6]
    ∧ win0_2.index t = ![t.val / 6, 0, t.val % 6]
    ∧ win0_3.index t = ![t.val / 6, 0, t.val % 6])

variable (m : (ℓ : Loc nD τ sig) → Buf (Elt Ideal) ℓ) (c : Dev nD)

/-- What the reference makes of the call's arguments. -/
def ref : FVec Ideal S2x16x6144 .f32 :=
  Cert.ModRefIdeal.Read.val_main_v5 (F := Ideal) (m ((c : Thread nD τ).loc main_arg0)) (m ((c : Thread nD τ).loc main_arg1)) (m ((c : Thread nD τ).loc main_arg2))

/-- What a grid point leaves in its block is the reference's result there. -/
theorem point (t : Fin cfg0.N) (y : S1x16x1024.Idx) (l : Fin 2) (j : Fin 6144) (hl : l.val = t.val / 6) (hj : j.val = t.val % 6 * 1024 + (y 2).val) :
    row (iblk m c 0 t) (iblk m c 1 t) (iblk m c 2 t) (y 1) (y 2) = ref m c (ix3 l (y 1) j) := by
  unfold ref
  refine Eq.trans ?_ (v5 _ _ _ l (y 1) j).symm
  unfold row
  refine congrArg₂ (fun a b : EReal => a + b) (Finset.sum_congr rfl fun k _ => congrArg₂ (fun a b : EReal => a * b) (congrArg (fun f => act f k) (funext fun k => ?_)) ?_) ?_
  all_goals blk_point [iblk, V, idx t]

/-- The result array after the run is the reference's. -/
theorem final : (dats m 0 c).arrAt 3 cfg0.N = ref m c := by
  refine (dats m 0 c).arrAt_eq_of_covers 3 _ (by decide +kernel) fun t _ y => ?_
  blk_simp
  rw [after0_3]
  have ht : t.val < 12 := t.isLt
  have h2 : (y 2).val < 1024 := (y 2).isLt
  refine (out_at _ _ _ y).trans ((point m c t y ⟨t.val / 6, by omega⟩ ⟨t.val % 6 * 1024 + (y 2).val, by omega⟩ rfl rfl).trans (congrArg (ref m c) ?_))
  blk_ext [idx t]

end Cert.ModIdeal.Rows

end
-- ==== Proof.ClaimMod.lean ====
/- The claims of the call of the modulation vectors. -/
module

public import proofs.«01_k».proof.Defs
public import proofs.«01_k».proof.Proof.Gen.Mod.Frame
public import proofs.«01_k».proof.Proof.Gen.ModIdeal.Frame
public import proofs.«01_k».proof.Proof.Gen.ModRefIdeal.Run
public import proofs.«01_k».proof.Proof.Gen.ModRefIdeal.Read
public import proofs.«01_k».proof.Proof.Gen.ModIdeal.Value
public import proofs.«01_k».proof.Proof.ModRows
public import Idealize.ShloMosaic.Lib.Claim

@[expose] public section

noncomputable section

namespace Cert.Proof

open Idealize.ShloMosaic Idealize.ShloMosaic.TcCoe Idealize.SL.Sem

/-- The call of the modulation vectors leaves its arguments unchanged and every counter at zero. -/
theorem frame_Mod : Cert.quiescent_Mod := fun m g _ => Cert.Mod.Gen.frame m g

/-- The idealized call of the modulation vectors leaves its arguments unchanged and every counter at zero. -/
theorem frame_ModIdeal : Cert.quiescent_ModIdeal := fun m g _ => Cert.ModIdeal.Gen.frame m g

/-- The call of the modulation vectors's reference leaves its arguments unchanged and every counter at zero. -/
theorem frame_ModRefIdeal : Cert.quiescent_ModRefIdeal := by
  intro m g _
  refine (θ_run _ _ _).mono (fun r h => ⟨fun c => (h c).2, ?_⟩) (Cert.ModRefIdeal.Value.run (F := Ideal) m g)
  exact sem_eq_zero_of_no_sems rfl _

/-- The call of the modulation vectors computes its reference's result: at every grid point the block is the reference's entries, and the blocks cover the result. -/
theorem algebraic_Mod : Cert.algebraic_ModIdeal_ModRefIdeal := by
  intro m g m' g' _ hagree
  refine ⟨Cert.ModIdeal.Rows.ref m, ?_, ?_⟩
  · exact (θ_run _ _ _).mono (fun r h c => ⟨(h c).1.trans (Cert.ModIdeal.Rows.final m c), (h c).2⟩) (Cert.ModIdeal.Value.run_blocks (F := Ideal) m g)
  · refine (θ_run _ _ _).mono (fun r h c => ⟨(h c).1.trans ((Cert.ModRefIdeal.Read.val_main_v5_eq _ _ _).trans ?_), (h c).2⟩)
      (Cert.ModRefIdeal.Value.run (F := Ideal) m' g')
    obtain ⟨h0, h1, h2⟩ := hagree c
    rw [h0, h1, h2]
    rfl

end Cert.Proof

end
-- ==== Proof.LocalRef.lean ====
/- The local mixers' reference, an entry at a time: the short convolution, the pooling and the gated chunks. -/
module

public import proofs.«01_k».proof.Proof.Rows
public import proofs.«01_k».proof.Proof.Gen.LocalRefIdeal.Read
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows

namespace Cert.Rows

/-- A sequence of rows with eight zeros before it and nothing but zeros after it. -/
def padded (f : Fin 8192 → EReal) (k : ℕ) : EReal := if h : 8 ≤ k ∧ k < 8200 then f ⟨k - 8, by omega⟩ else 0

/-- Sums of two, four, eight and sixteen neighbours, each from two of the sums before it. -/
def near0 (z : ℕ → EReal) (k : ℕ) : EReal := z (k + 1) + z k

@[inherit_doc near0] def near1 (z : ℕ → EReal) (k : ℕ) : EReal := near0 z (k + 2) + near0 z k

@[inherit_doc near0] def near2 (z : ℕ → EReal) (k : ℕ) : EReal := near1 z (k + 4) + near1 z k

@[inherit_doc near0] def near3 (z : ℕ → EReal) (k : ℕ) : EReal := near2 z (k + 8) + near2 z k

/-- The window's sum around row `n` in group `g`, of half width 1, 2, 4 or 8. -/
def tot (g : Fin 4) (z : ℕ → EReal) (n : ℕ) : EReal :=
  match g with
  | 0 => near0 z (n + 7)
  | 1 => near1 z (n + 6)
  | 2 => near2 z (n + 4)
  | 3 => near3 z n

/-- A group's half width. -/
def half (g : Fin 4) : BitVec 32 :=
  match g with
  | 0 => 1#32
  | 1 => 2#32
  | 2 => 4#32
  | 3 => 8#32

/-- How many rows a window of half width `h` around row `n` holds. -/
def cnt (n : ℕ) (h : BitVec 32) : EReal :=
  FloatOps.sitofp (F := Ideal) .f32 (IntOp.subi (IntOp.minsi (IntOp.addi (BitVec.ofNat 32 n) h) 8192#32) (IntOp.maxsi (IntOp.subi (BitVec.ofNat 32 n) h) 0#32))

/-- The window's mean less the row itself. -/
def mix (g : Fin 4) (f : Fin 8192 → EReal) (n : Fin 8192) : EReal := Ideal.div (tot g (padded f) n) (cnt n (half g)) - f n

/-- Three neighbours under the short convolution's weights, on top of its bias. -/
def conv (f : Fin 8192 → EReal) (w0 w1 w2 b : EReal) (n : ℕ) : EReal := padded f (n + 7) * w0 + padded f (n + 8) * w1 + padded f (n + 9) * w2 + b

/-- The gated branch's norm, mean and deviation over the row. -/
def lnorm (v w : Fin 256 → EReal) (d : Fin 256) : EReal :=
  (v d - Ideal.div (∑ x, v x) (Ideal.ofBits .f32 1132462080#32))
    * Ideal.rsqrt (Ideal.div (∑ x, (v x - Ideal.div (∑ y, v y) (Ideal.ofBits .f32 1132462080#32)) * (v x - Ideal.div (∑ y, v y) (Ideal.ofBits .f32 1132462080#32)))
        (Ideal.ofBits .f32 1132462080#32) + Ideal.ofBits .f32 897988541#32)
    * w d

/-- A channel's column of the input. -/
def col (x : FVec Ideal ⟨3, ![8, 8192, 2304]⟩ .f32) (b : Fin 8) (c : Fin 2304) : Fin 8192 → EReal := fun n => x (ix3 b n c)

/-- Channel `x` of the pooling's group `g`. -/
def chan (g : Fin 4) (x : Fin 64) : Fin 2304 := ⟨768 + (64 * g.val + x.val), by omega⟩

theorem add_congr {a b c d : EReal} (h : a = c) (k : b = d) : a + b = c + d := by rw [h, k]

theorem mix_congr (g : Fin 4) (f : Fin 8192 → EReal) (n : Fin 8192) {s c u : EReal} (hc : c = cnt n.val (half g)) (hu : u = f n) (hs : s = tot g (padded f) n.val) :
    Ideal.div s c - u = mix g f n := by
  subst hc hu hs
  rfl

theorem zero_word : FloatOps.sitofp (F := Ideal) .f32 (0#32) = (0 : EReal) := by simp [FloatOps.sitofp]

/-- A padded row read through the bounds of the padding. -/
theorem pad_read (f : Fin 8192 → EReal) (lo k q : ℕ) (hq : q + lo = k + 8) (p : lo ≤ k ∧ k - lo < 8192 → k - lo < 8192) (hlo : lo ≤ 8) :
    (if h : lo ≤ k ∧ k - lo < 8192 then f ⟨k - lo, p h⟩ else FloatOps.sitofp (F := Ideal) .f32 (0#32)) = padded f q := by
  unfold padded
  by_cases h : lo ≤ k ∧ k - lo < 8192
  · rw [dif_pos h, dif_pos (by omega)]
    exact congrArg f (Fin.ext (by dsimp only; omega))
  · rw [dif_neg h, dif_neg (by omega), zero_word]

theorem pad_mid (f : Fin 8192 → EReal) (n : Fin 8192) (k : ℕ) (h : k = n.val + 8) : f n = padded f k := by
  subst h
  unfold padded
  rw [dif_pos (by omega)]
  exact congrArg f (Fin.ext (by dsimp only; omega))

/-- Group 0's window, term after term. -/
theorem sum0 (z : ℕ → EReal) (n : ℕ) : z (n + 7) + z (n + 8) = tot 0 z n := by
  simp only [tot, near3, near2, near1, near0, Nat.add_assoc, Nat.reduceAdd, Nat.add_zero]
  ac_rfl

/-- Group 1's window, term after term. -/
theorem sum1 (z : ℕ → EReal) (n : ℕ) : z (n + 6) + z (n + 7) + z (n + 8) + z (n + 9) = tot 1 z n := by
  simp only [tot, near3, near2, near1, near0, Nat.add_assoc, Nat.reduceAdd, Nat.add_zero]
  ac_rfl

/-- Group 2's window, term after term. -/
theorem sum2 (z : ℕ → EReal) (n : ℕ) : z (n + 4) + z (n + 5) + z (n + 6) + z (n + 7) + z (n + 8) + z (n + 9) + z (n + 10) + z (n + 11) = tot 2 z n := by
  simp only [tot, near3, near2, near1, near0, Nat.add_assoc, Nat.reduceAdd, Nat.add_zero]
  ac_rfl

/-- Group 3's window, term after term. -/
theorem sum3 (z : ℕ → EReal) (n : ℕ) : z n + z (n + 1) + z (n + 2) + z (n + 3) + z (n + 4) + z (n + 5) + z (n + 6) + z (n + 7) + z (n + 8) + z (n + 9) + z (n + 10) + z (n + 11) + z (n + 12) + z (n + 13) + z (n + 14) + z (n + 15) = tot 3 z n := by
  simp only [tot, near3, near2, near1, near0, Nat.add_assoc, Nat.reduceAdd, Nat.add_zero]
  ac_rfl

end Cert.Rows

namespace Cert.LocalRefIdeal.Rows

open Cert.LocalRefIdeal Cert.LocalRefIdeal.Gen Cert.LocalRefIdeal.Read

variable (x0 : FVec Ideal S8x8192x2304 .f32) (x1 : FVec Ideal S3x768 .f32) (x2 : FVec Ideal S768 .f32) (x3 : FVec Ideal S4x64x64 .f32)
  (x4 x5 : FVec Ideal S256 .f32) (x6 : FVec Ideal S4x128x128 .f32) (x7 : FVec Ideal S4x128 .f32) (b : Fin 8) (n : Fin 8192)

/-- The short convolution. -/
theorem v24 (j : Fin 768) (c : Fin 2304) (hc : c.val = 1536 + j.val) :
    val_main_v24 (F := Ideal) x0 x1 x2 (ix3 b n j) = conv (col x0 b c) (x1 (ix2 0 j)) (x1 (ix2 1 j)) (x1 (ix2 2 j)) (x2 (ix1 j)) n := by
  obtain rfl : c = ⟨1536 + j.val, by clear hc; omega⟩ := Fin.ext hc
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_call0_v0, val_main_c, val_main_v0]
  unfold conv
  refine add_congr (add_congr (add_congr (congrArg (· * _) ?_) (congrArg (· * _) ?_)) (congrArg (· * _) ?_)) rfl
  · exact pad_read (col x0 b ⟨1536 + j.val, by omega⟩) 1 n.val (n.val + 7) (by omega) _ (by omega)
  · exact pad_mid (col x0 b ⟨1536 + j.val, by omega⟩) n _ rfl
  · exact pad_read (col x0 b ⟨1536 + j.val, by omega⟩) 1 (2 + n.val) (n.val + 9) (by omega) _ (by omega)

/-- Group 0's rows: the window's mean less the row. -/
theorem v48 (j : Fin 64) (c : Fin 2304) (hc : c.val = 768 + (64 * 0 + j.val)) :
    val_main_v48 (F := Ideal) x0 (ix3 b n j) = mix 0 (col x0 b c) n := by
  obtain rfl : c = ⟨768 + j.val, by clear hc; omega⟩ := Fin.ext (by dsimp only; omega)
  pointwise [val_main_v48, val_main_v47, val_main_v46, val_main_v45, val_main_v44, val_main_v43, val_main_v42, val_main_v41, val_main_c_4, val_main_v40, val_main_v39, val_main_c_3, val_main_v38, val_main_v37, val_main_c_2, val_main_v36, val_main_v35, val_main_c_1, val_main_v34, val_main_v33, val_main_v32, val_main_v31, val_main_call1_v0, val_main_c_0, val_main_v30, val_main_v29, val_main_v28]
  refine mix_congr 0 _ n rfl rfl ?_
  refine Eq.trans ?_ (sum0 _ _)
  repeat' refine add_congr ?_ ?_
  all_goals first
    | exact pad_read (col x0 b ⟨768 + j.val, by omega⟩) 1 _ _ (by omega) _ (by omega)
    | exact pad_mid (col x0 b ⟨768 + j.val, by omega⟩) n _ rfl

/-- Group 0's rows through its matrix. -/
theorem v51 (j : Fin 64) :
    val_main_v51 (F := Ideal) x0 x3 (ix3 b n j) = ∑ x : Fin 64, mix 0 (col x0 b (chan 0 x)) n * x3 (ix3 0 x j) := by
  pointwise [val_main_v51, val_main_v50, val_main_v49]
  exact Finset.sum_congr rfl fun x _ => congrArg (· * _) (v48 x0 b n x _ (by simp only [chan, Fin.val_ofNat]; norm_num))

/-- Group 1's rows: the window's mean less the row. -/
theorem v74 (j : Fin 64) (c : Fin 2304) (hc : c.val = 768 + (64 * 1 + j.val)) :
    val_main_v74 (F := Ideal) x0 (ix3 b n j) = mix 1 (col x0 b c) n := by
  obtain rfl : c = ⟨768 + (64 + j.val), by clear hc; omega⟩ := Fin.ext (by dsimp only; omega)
  pointwise [val_main_v74, val_main_v73, val_main_v72, val_main_v71, val_main_v70, val_main_v69, val_main_v68, val_main_v67, val_main_c_9, val_main_v66, val_main_v65, val_main_c_8, val_main_v64, val_main_v63, val_main_c_7, val_main_v62, val_main_v61, val_main_c_6, val_main_v60, val_main_v59, val_main_v58, val_main_v57, val_main_v56, val_main_v55, val_main_v54, val_main_v53, val_main_call2_v0, val_main_c_5, val_main_v52, val_main_v29, val_main_v28]
  refine mix_congr 1 _ n rfl rfl ?_
  refine Eq.trans ?_ (sum1 _ _)
  repeat' refine add_congr ?_ ?_
  all_goals first
    | exact pad_read (col x0 b ⟨768 + (64 + j.val), by omega⟩) 2 _ _ (by omega) _ (by omega)
    | exact pad_mid (col x0 b ⟨768 + (64 + j.val), by omega⟩) n _ rfl

/-- Group 1's rows through its matrix. -/
theorem v77 (j : Fin 64) :
    val_main_v77 (F := Ideal) x0 x3 (ix3 b n j) = ∑ x : Fin 64, mix 1 (col x0 b (chan 1 x)) n * x3 (ix3 1 x j) := by
  pointwise [val_main_v77, val_main_v76, val_main_v75]
  exact Finset.sum_congr rfl fun x _ => congrArg (· * _) (v74 x0 b n x _ (by simp only [chan, Fin.val_ofNat]; norm_num))

/-- Group 2's rows: the window's mean less the row. -/
theorem v108 (j : Fin 64) (c : Fin 2304) (hc : c.val = 768 + (64 * 2 + j.val)) :
    val_main_v108 (F := Ideal) x0 (ix3 b n j) = mix 2 (col x0 b c) n := by
  obtain rfl : c = ⟨768 + (128 + j.val), by clear hc; omega⟩ := Fin.ext (by dsimp only; omega)
  pointwise [val_main_v108, val_main_v107, val_main_v106, val_main_v105, val_main_v104, val_main_v103, val_main_v102, val_main_v101, val_main_c_14, val_main_v100, val_main_v99, val_main_c_13, val_main_v98, val_main_v97, val_main_c_12, val_main_v96, val_main_v95, val_main_c_11, val_main_v94, val_main_v93, val_main_v92, val_main_v91, val_main_v90, val_main_v89, val_main_v88, val_main_v87, val_main_v86, val_main_v85, val_main_v84, val_main_v83, val_main_v82, val_main_v81, val_main_v80, val_main_v79, val_main_call3_v0, val_main_c_10, val_main_v78, val_main_v29, val_main_v28]
  refine mix_congr 2 _ n rfl rfl ?_
  refine Eq.trans ?_ (sum2 _ _)
  repeat' refine add_congr ?_ ?_
  all_goals first
    | exact pad_read (col x0 b ⟨768 + (128 + j.val), by omega⟩) 4 _ _ (by omega) _ (by omega)
    | exact pad_mid (col x0 b ⟨768 + (128 + j.val), by omega⟩) n _ rfl

/-- Group 2's rows through its matrix. -/
theorem v111 (j : Fin 64) :
    val_main_v111 (F := Ideal) x0 x3 (ix3 b n j) = ∑ x : Fin 64, mix 2 (col x0 b (chan 2 x)) n * x3 (ix3 2 x j) := by
  pointwise [val_main_v111, val_main_v110, val_main_v109]
  exact Finset.sum_congr rfl fun x _ => congrArg (· * _) (v108 x0 b n x _ (by simp only [chan, Fin.val_ofNat]; norm_num))

/-- Group 3's rows: the window's mean less the row. -/
theorem v158 (j : Fin 64) (c : Fin 2304) (hc : c.val = 768 + (64 * 3 + j.val)) :
    val_main_v158 (F := Ideal) x0 (ix3 b n j) = mix 3 (col x0 b c) n := by
  obtain rfl : c = ⟨768 + (192 + j.val), by clear hc; omega⟩ := Fin.ext (by dsimp only; omega)
  pointwise [val_main_v158, val_main_v157, val_main_v156, val_main_v155, val_main_v154, val_main_v153, val_main_v152, val_main_v151, val_main_c_19, val_main_v150, val_main_v149, val_main_c_18, val_main_v148, val_main_v147, val_main_c_17, val_main_v146, val_main_v145, val_main_c_16, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_call4_v0, val_main_c_15, val_main_v112, val_main_v29, val_main_v28]
  refine mix_congr 3 _ n rfl rfl ?_
  refine Eq.trans ?_ (sum3 _ _)
  repeat' refine add_congr ?_ ?_
  all_goals first
    | exact pad_read (col x0 b ⟨768 + (192 + j.val), by omega⟩) 8 _ _ (by omega) _ (by omega)
    | exact pad_mid (col x0 b ⟨768 + (192 + j.val), by omega⟩) n _ rfl

/-- Group 3's rows through its matrix. -/
theorem v161 (j : Fin 64) :
    val_main_v161 (F := Ideal) x0 x3 (ix3 b n j) = ∑ x : Fin 64, mix 3 (col x0 b (chan 3 x)) n * x3 (ix3 3 x j) := by
  pointwise [val_main_v161, val_main_v160, val_main_v159]
  exact Finset.sum_congr rfl fun x _ => congrArg (· * _) (v158 x0 b n x _ (by simp only [chan, Fin.val_ofNat]; norm_num))

/-- The pooling. -/
theorem v166 (j : Fin 256) :
    val_main_v166 (F := Ideal) x0 x3 x4 (ix3 b n j)
      = (∑ x : Fin 64, mix ⟨j.val / 64, by omega⟩ (col x0 b (chan ⟨j.val / 64, by omega⟩ x)) n
          * x3 (ix3 ⟨j.val / 64, by omega⟩ x ⟨j.val % 64, by omega⟩)) * x4 (ix1 j) := by
  pointwise [val_main_v166, val_main_v165, val_main_v164, val_main_v163, val_main_v162]
  refine congrArg (· * _) ?_
  have key : ∀ (g : Fin 4) (y : Fin 64), j.val = 64 * g.val + y.val →
      (∑ x : Fin 64, mix g (col x0 b (chan g x)) n * x3 (ix3 g x y))
        = ∑ x : Fin 64, mix ⟨j.val / 64, by omega⟩ (col x0 b (chan ⟨j.val / 64, by omega⟩ x)) n * x3 (ix3 ⟨j.val / 64, by omega⟩ x ⟨j.val % 64, by omega⟩) := by
    intro g y h
    have hg : (⟨j.val / 64, by omega⟩ : Fin 4) = g := Fin.ext (by dsimp only; omega)
    have hy : (⟨j.val % 64, by omega⟩ : Fin 64) = y := Fin.ext (by dsimp only; omega)
    rw [hg, hy]
  have hj := j.isLt
  by_cases h0 : j.val < 64
  · exact (dif_pos h0).trans ((v51 x0 x3 b n ⟨j.val, h0⟩).trans (key 0 _ (by simp)))
  refine (dif_neg h0).trans ?_
  by_cases h1 : j.val - 64 < 64
  · exact (dif_pos h1).trans ((v77 x0 x3 b n ⟨j.val - 64, h1⟩).trans (key 1 _ (by simp; omega)))
  refine (dif_neg h1).trans ?_
  by_cases h2 : j.val - 64 - 64 < 64
  · exact (dif_pos h2).trans ((v111 x0 x3 b n ⟨j.val - 64 - 64, h2⟩).trans (key 2 _ (by simp; omega)))
  exact (dif_neg h2).trans ((v161 x0 x3 b n ⟨j.val - 64 - 64 - 64, by omega⟩).trans (key 3 _ (by simp; omega)))

/-- The norm of the gated branch. -/
theorem v187 (j : Fin 256) :
    val_main_v187 (F := Ideal) x0 x5 (ix3 b n j) = lnorm (fun d => col x0 b ⟨1280 + d.val, by omega⟩ n) (fun d => x5 (ix1 d)) j := by
  pointwise [val_main_v187, val_main_v186, val_main_v185, val_main_v184, val_main_v183, val_main_v182, val_main_v181, val_main_v180, val_main_cst_23, val_main_v179, val_main_v178, val_main_cst_22, val_main_v177, val_main_v176, val_main_cst_21, val_main_v175, val_main_v174, val_main_v173, val_main_v172, val_main_v171, val_main_cst_20, val_main_v170, val_main_v169, val_main_cst, val_main_v168]
  rfl

/-- The gated branch. -/
theorem v197 (j : Fin 256) :
    val_main_v197 (F := Ideal) x0 x5 x6 x7 (ix3 b n j)
      = x0 (ix3 b n ⟨1024 + j.val, by omega⟩)
        * (x7 (ix2 ⟨j.val / 64, by omega⟩ ⟨n.val % 128, by omega⟩)
          + ∑ x : Fin 128, x6 (ix3 ⟨j.val / 64, by omega⟩ ⟨n.val % 128, by omega⟩ x)
              * lnorm (fun d => col x0 b ⟨1280 + d.val, by omega⟩ ⟨n.val / 128 * 128 + x.val, by omega⟩) (fun d => x5 (ix1 d)) j) := by
  pointwise [val_main_v197, val_main_v196, val_main_v195, val_main_v194, val_main_v193, val_main_v192, val_main_v191, val_main_v190, val_main_v167, val_main_v189, val_main_v188]
  refine congrArg (_ * ·) ((add_comm _ _).trans (congrArg (_ + ·) (Finset.sum_congr rfl fun x _ => ?_)))
  refine (mul_comm _ _).trans (congrArg (_ * ·) (v187 x0 x5 b _ j))

/-- The convolution's three parts, in halves. -/
theorem v199 (q : Fin 4) (h p : Fin 2) (l : Fin 128) :
    val_main_v199 (F := Ideal) x0 x1 x2 (ix5 q h p n l) = val_main_v24 (F := Ideal) x0 x1 x2 (ix3 ⟨q.val * 2 + p.val, by omega⟩ n ⟨h.val * 128 + l.val, by omega⟩) := by
  pointwise [val_main_v199, val_main_v198, val_main_v25]

@[inherit_doc v199]
theorem v201 (q : Fin 4) (h p : Fin 2) (l : Fin 128) :
    val_main_v201 (F := Ideal) x0 x1 x2 (ix5 q h p n l) = val_main_v24 (F := Ideal) x0 x1 x2 (ix3 ⟨q.val * 2 + p.val, by omega⟩ n ⟨256 + (h.val * 128 + l.val), by omega⟩) := by
  pointwise [val_main_v201, val_main_v200, val_main_v26]

@[inherit_doc v199]
theorem v203 (q : Fin 4) (h p : Fin 2) (l : Fin 128) :
    val_main_v203 (F := Ideal) x0 x1 x2 (ix5 q h p n l) = val_main_v24 (F := Ideal) x0 x1 x2 (ix3 ⟨q.val * 2 + p.val, by omega⟩ n ⟨512 + (h.val * 128 + l.val), by omega⟩) := by
  pointwise [val_main_v203, val_main_v202, val_main_v27]

end Cert.LocalRefIdeal.Rows

end
-- ==== Proof.LocalTiles.lean ====
/- The local mixers' payloads, an entry at a time. -/
module

public import proofs.«01_k».proof.Proof.LocalRef
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows

namespace Cert.LocalIdeal.Rows

open Cert.LocalIdeal Cert.LocalIdeal.Gen

/-- A choice by a word's equality with a small number. -/
theorem pick (r k : ℕ) (hr : r < 2 ^ 32) (hk : k < 2 ^ 32) (a b : EReal) :
    Scalar.select (IntOp.cmpi CmpIPredicate.eq (BitVec.ofNat 32 r) (BitVec.ofNat 32 k)) a b = if r = k then a else b := by
  by_cases h : r = k
  · subst h
    rw [if_pos rfl]
    simp [Scalar.select, IntOp.cmpi]
  · rw [if_neg h]
    have e : ∀ q : ℕ, q < 2 ^ 32 → (BitVec.ofNat 32 q).toNat = q := fun q hq => by rw [BitVec.toNat_ofNat]; exact Nat.mod_eq_of_lt hq
    have : (BitVec.ofNat 32 r == BitVec.ofNat 32 k) = false :=
      beq_eq_false_iff_ne.2 fun h' => h ((e r hr).symm.trans ((congrArg BitVec.toNat h').trans (e k hk)))
    simp [Scalar.select, IntOp.cmpi, this]

theorem one_word : FloatOps.sitofp (F := Ideal) .f32 (1#32) = (1 : EReal) := by simp [FloatOps.sitofp]

/-- The mask of the rows before the tile: zero at the first tile. -/
theorem below (i : grid0.Coords) : k0_pay2 (F := Ideal) i = if (i 1).val = 0 then 0 else 1 := by
  unfold k0_pay2
  dsimp only
  generalize i 1 = j
  have e : ∀ j : Fin 8, Scalar.extui (Scalar.cmpi CmpIPredicate.sgt (BitVec.ofNat 32 j.val) 0#32) = if j.val = 0 then 0#32 else 1#32 := by decide +kernel
  rw [show Scalar.extui (Scalar.cmpi CmpIPredicate.sgt (BitVec.ofNat 32 j.val) 0#32) = _ from e j]
  split_ifs
  · exact Cert.Rows.zero_word
  · exact one_word

/-- The mask of the rows after the tile: zero at the last tile. -/
theorem above (i : grid0.Coords) : k0_pay3 (F := Ideal) i = if (i 1).val = 7 then 0 else 1 := by
  unfold k0_pay3
  dsimp only
  generalize i 1 = j
  have e : ∀ j : Fin 8, Scalar.extui (Scalar.cmpi CmpIPredicate.slt (BitVec.ofNat 32 j.val) 7#32) = if j.val = 7 then 0#32 else 1#32 := by decide +kernel
  rw [show Scalar.extui (Scalar.cmpi CmpIPredicate.slt (BitVec.ofNat 32 j.val) 7#32) = _ from e j]
  split_ifs
  · exact Cert.Rows.zero_word
  · exact one_word

/-- A lane's group, as a word. -/
theorem group (s : Fin 128) (c : Fin 256) : k0_pay31 (ix2 s c) = BitVec.ofNat 32 (c.val / 64) := by
  pointwise [k0_pay31]
  revert c
  decide +kernel

/-- A lane's group in the pooling, as a word. -/
theorem group' (s : Fin 1024) (c : Fin 256) : k0_pay26 (iota .tc S1024x256 32 [1] iota_S1024x256_d1_w32) (ix2 s c) = BitVec.ofNat 32 (c.val / 64) := by
  pointwise [k0_pay26]
  revert c
  decide +kernel

/-- A lane's half width. -/
theorem width (s : Fin 1024) (c : Fin 256) : k0_pay22 k0_pay18 k0_pay19 k0_pay20 k0_pay21 (ix2 s c) = half ⟨c.val / 64, by omega⟩ := by
  pointwise [k0_pay22, k0_pay18, k0_pay19, k0_pay20, k0_pay21]
  revert c
  decide +kernel

/-- A row's number, as a word. -/
theorem place (t : ℕ) (ht : t < 8) (s : Fin 1024) (c : Fin 256) : k0_pay17 (BitVec.ofNat 32 t) (ix2 s c) = BitVec.ofNat 32 (1024 * t + s.val) := by
  pointwise [k0_pay17]
  apply BitVec.eq_of_toNat_eq
  simp [IntOp.addi, Scalar.muli, IntOp.muli]
  omega

variable (e : FVec Ideal S1040x256 .f32) (z : ℕ → EReal) (b : ℕ) (c : Fin 256) (he : ∀ r : Fin 1040, e (ix2 r c) = z (b + r.val))
include he

/-- Two neighbours' sum. -/
theorem two (r : Fin 1040) (h : 1 ≤ r.val) : k0_pay23 (F := Ideal) e (ix2 r c) = near0 z (b + r.val - 1) := by
  pointwise [k0_pay23]
  refine add_congr ((he _).trans (congrArg z ?_)) ((he _).trans (congrArg z ?_)) <;> try dsimp only
  all_goals omega

/-- Four neighbours' sum. -/
theorem four (r : Fin 1040) (h : 2 ≤ r.val) (h' : r.val + 2 ≤ 1040) : k0_pay24 (F := Ideal) e (ix2 r c) = near1 z (b + r.val - 2) := by
  pointwise [k0_pay24]
  refine add_congr ((two e z b c he _ (by dsimp only; omega)).trans (congrArg (near0 z) ?_)) ((two e z b c he _ (by dsimp only; omega)).trans (congrArg (near0 z) ?_)) <;> dsimp only <;> omega

/-- Eight neighbours' sum. -/
theorem eight (r : Fin 1040) (h : 4 ≤ r.val) (h' : r.val + 4 ≤ 1040) : k0_pay25 (F := Ideal) e (ix2 r c) = near2 z (b + r.val - 4) := by
  pointwise [k0_pay25]
  refine add_congr ((four e z b c he _ (by dsimp only; omega) (by dsimp only; omega)).trans (congrArg (near1 z) ?_)) ((four e z b c he _ (by dsimp only; omega) (by dsimp only; omega)).trans (congrArg (near1 z) ?_)) <;> dsimp only <;> omega

/-- Sixteen neighbours' sum. -/
theorem sixteen (s : Fin 1024) : k0_pay27 (F := Ideal) e (ix2 s c) = near3 z (b + s.val) := by
  pointwise [k0_pay27]
  refine add_congr ((eight e z b c he _ (by dsimp only; omega) (by dsimp only; omega)).trans (congrArg (near2 z) ?_))
    ((eight e z b c he _ (by dsimp only; omega) (by dsimp only; omega)).trans (congrArg (near2 z) ?_)) <;> dsimp only <;> omega

omit he

/-- The tile's rows under the mask, with the rows before and after. -/
theorem extended (t : ℕ) (ht : t < 8) (u w : Ideal .f32) (f : Fin 8192 → EReal) (x : FVec Ideal S1x1024x256 .f32) (y v : FVec Ideal S1x8x256 .f32)
    (hx : ∀ s : Fin 1024, x (ix3 0 s c) = f ⟨1024 * t + s.val, by omega⟩)
    (hy : ∀ s : Fin 8, y (ix3 0 s c) * u = padded f (1024 * t + s.val)) (hv : ∀ s : Fin 8, v (ix3 0 s c) * w = padded f (1024 * t + 1032 + s.val)) (r : Fin 1040) :
    k0_pay16 (F := Ideal) u w x y v (ix2 r c) = padded f (1024 * t + r.val) := by
  pointwise [k0_pay16, k0_pay15]
  by_cases h0 : r.val < 8
  · exact (dif_pos h0).trans (hy ⟨r.val, h0⟩)
  refine (dif_neg h0).trans ?_
  by_cases h1 : r.val - 8 < 1024
  · exact (dif_pos h1).trans ((hx ⟨r.val - 8, h1⟩).trans (pad_mid f _ _ (by dsimp only; omega)))
  · exact (dif_neg h1).trans ((hv ⟨r.val - 8 - 1024, by omega⟩).trans (congrArg (padded f) (by dsimp only; omega)))

/-- A tile of the pooling. -/
theorem pool (t : ℕ) (ht : t < 8) (f : Fin 256 → Fin 8192 → EReal) (x : FVec Ideal S1x1024x256 .f32) (m : FVec Ideal S256x256 .bf16) (sc : FVec Ideal S1x256 .f32)
    (hx : ∀ (s : Fin 1024) (c : Fin 256), x (ix3 0 s c) = f c ⟨1024 * t + s.val, by omega⟩)
    (he : ∀ (r : Fin 1040) (c : Fin 256), e (ix2 r c) = padded (f c) (1024 * t + r.val)) (s : Fin 1024) :
    k0_pay28 (F := Ideal) (k0_pay15 x) (k0_pay17 (BitVec.ofNat 32 t)) (k0_pay22 k0_pay18 k0_pay19 k0_pay20 k0_pay21) (k0_pay23 e) (k0_pay24 e) (k0_pay25 e)
        (k0_pay26 (iota .tc S1024x256 32 [1] iota_S1024x256_d1_w32)) (k0_pay27 e) 2#32 m sc (ix3 0 s c)
      = (∑ d : Fin 256, mix ⟨d.val / 64, by omega⟩ (f d) ⟨1024 * t + s.val, by omega⟩ * m (ix2 d c)) * sc (ix2 0 c) := by
  pointwise [k0_pay28]
  refine congrArg (· * _) (Finset.sum_congr rfl fun d _ => congrArg (· * _) ?_)
  refine mix_congr _ _ ⟨1024 * t + s.val, by omega⟩ ?_ ?_ ?_
  · rw [place t ht, width]
    rfl
  · pointwise [k0_pay15]
    exact hx s d
  · rw [group', pick _ 0 (by omega) (by omega), pick _ 1 (by omega) (by omega), pick _ 2 (by omega) (by omega),
      two e (padded (f d)) (1024 * t) d (fun r => he r d) _ (by dsimp only; omega), four e (padded (f d)) (1024 * t) d (fun r => he r d) _ (by dsimp only; omega) (by dsimp only; omega),
      eight e (padded (f d)) (1024 * t) d (fun r => he r d) _ (by dsimp only; omega) (by dsimp only; omega), sixteen e (padded (f d)) (1024 * t) d (fun r => he r d)]
    have key : ∀ g : Fin 4, (if g.val = 0 then near0 (padded (f d)) (1024 * t + (8 + s.val) - 1) else if g.val = 1 then near1 (padded (f d)) (1024 * t + (8 + s.val) - 2)
        else if g.val = 2 then near2 (padded (f d)) (1024 * t + (8 + s.val) - 4) else near3 (padded (f d)) (1024 * t + s.val)) = tot g (padded (f d)) (1024 * t + s.val) := by
      intro g
      match g with
      | 0 => exact congrArg (near0 _) (by omega)
      | 1 => exact congrArg (near1 _) (by omega)
      | 2 => exact congrArg (near2 _) (by omega)
      | 3 => rfl
    exact key ⟨d.val / 64, by omega⟩

/-- A tile of the short convolution. -/
theorem convolved (i : grid0.Coords) (t : ℕ) (ht : t < 8) (f : Fin 8192 → EReal) (x : FVec Ideal S1x1024x768 .f32) (y v : FVec Ideal S1x1x768 .f32) (w0 w1 w2 bi : FVec Ideal S1x768 .f32)
    (c : Fin 768) (hx : ∀ s : Fin 1024, x (ix3 0 s c) = f ⟨1024 * t + s.val, by omega⟩)
    (hy : y (ix3 0 0 c) * k0_pay2 (F := Ideal) i = padded f (1024 * t + 7)) (hv : v (ix3 0 0 c) * k0_pay3 (F := Ideal) i = padded f (1024 * t + 1032)) (s : Fin 1024) :
    k0_pay7 (F := Ideal) (k0_pay5 i x v) (k0_pay6 i x y w0 w1) w2 bi (ix2 s c)
      = conv f (w0 (ix2 0 c)) (w1 (ix2 0 c)) (w2 (ix2 0 c)) (bi (ix2 0 c)) (1024 * t + s.val) := by
  pointwise [k0_pay7, k0_pay6, k0_pay5, k0_pay4]
  rw [pick _ 0 (by omega) (by omega), pick _ 1023 (by omega) (by omega)]
  unfold conv
  refine add_congr (add_congr (add_congr (congrArg (· * _) ?_) (congrArg (· * _) ?_)) (congrArg (· * _) ?_)) rfl
  · split_ifs with h
    · exact hy.trans (congrArg (padded f) (by omega))
    · exact (hx _).trans (pad_mid f _ _ (by dsimp only; omega))
  · exact (hx _).trans (pad_mid f _ _ rfl)
  · split_ifs with h
    · exact hv.trans (congrArg (padded f) (by omega))
    · exact (hx _).trans (pad_mid f _ _ (by dsimp only; omega))

end Cert.LocalIdeal.Rows

end
-- ==== Proof.LocalGated.lean ====
/- The gated branch's chunks of 128 rows. -/
module

public import proofs.«01_k».proof.Proof.LocalTiles
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows

namespace Cert.LocalIdeal.Rows

open Cert.LocalIdeal Cert.LocalIdeal.Gen

/-- Of four masked summands one is left. -/
theorem collapse (g : Fin 4) (b : EReal) (a : Fin 4 → EReal) :
    b + (if g.val = 0 then a 0 else 0) + (if g.val = 1 then a 1 else 0) + (if g.val = 2 then a 2 else 0) + (if g.val = 3 then a 3 else 0) = b + a g := by
  match g with
  | 0 => simp
  | 1 => simp
  | 2 => simp
  | 3 => simp

/-- The gated branch's norm, a row at a time. -/
theorem normed (x : FVec Ideal S1x1024x256 .f32) (y : FVec Ideal S1x256 .f32) (s : Fin 1024) (c : Fin 256) :
    k0_pay30 (F := Ideal) (k0_pay29 x) y (ix2 s c) = lnorm (fun d => x (ix3 0 s d)) (fun d => y (ix2 0 d)) c := by
  pointwise [k0_pay30, k0_pay29]
  rfl

variable (v : FVec Ideal S1024x256 .bf16) (bi : FVec Ideal S128x256 .f32) (p q r t : FVec Ideal S1x128x128 .bf16) (u : FVec Ideal S1x128x256 .f32)
  (s : Fin 128) (c : Fin 256) (w : Fin 4 → Fin 128 → EReal) (a b : EReal)
  (hu : u (ix3 0 s c) = a) (hb : bi (ix2 s c) = b) (hp : ∀ x, p (ix3 0 s x) = w 0 x) (hq : ∀ x, q (ix3 0 s x) = w 1 x) (hr : ∀ x, r (ix3 0 s x) = w 2 x) (ht : ∀ x, t (ix3 0 s x) = w 3 x)
include hu hb hp hq hr ht

/-- Chunk 0. -/
theorem chunk0 : (k0_pay35 (k0_pay34 k0_pay31 (extractStridedSlice S128x256 ![0, 0] v slices_S1024x256_o0_0_S128x256) (k0_pay33 bi) p q r t u) : FVec Ideal S1x128x256 .bf16) (ix3 0 s c)
    = a * (b + ∑ x : Fin 128, w ⟨c.val / 64, by omega⟩ x * v (ix2 ⟨x.val, by omega⟩ c)) := by
  pointwise [k0_pay35, k0_pay34, k0_pay33]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨x.val, by omega⟩ c))

/-- Chunk 1. -/
theorem chunk1 : (k0_pay39 k0_pay31 (k0_pay36 v) (k0_pay37 v k0_pay31 bi p q r) (k0_pay38 t) (constant S128x256 .f32 0x00000000#32) u : FVec Ideal S1x128x256 .bf16) (ix3 0 s c)
    = a * (b + ∑ x : Fin 128, w ⟨c.val / 64, by omega⟩ x * v (ix2 ⟨128 + x.val, by omega⟩ c)) := by
  pointwise [k0_pay39, k0_pay38, k0_pay37, k0_pay36]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨128 + x.val, by omega⟩ c))

/-- Chunk 2. -/
theorem chunk2 : (k0_pay43 k0_pay31 (k0_pay40 v) (k0_pay41 v k0_pay31 bi p q) (k0_pay42 r) t u : FVec Ideal S1x128x256 .bf16) (ix3 0 s c)
    = a * (b + ∑ x : Fin 128, w ⟨c.val / 64, by omega⟩ x * v (ix2 ⟨256 + x.val, by omega⟩ c)) := by
  pointwise [k0_pay43, k0_pay42, k0_pay41, k0_pay40]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨256 + x.val, by omega⟩ c))

/-- Chunk 3. -/
theorem chunk3 : (k0_pay46 k0_pay31 (k0_pay44 v) (k0_pay45 v k0_pay31 bi p) q r t u : FVec Ideal S1x128x256 .bf16) (ix3 0 s c)
    = a * (b + ∑ x : Fin 128, w ⟨c.val / 64, by omega⟩ x * v (ix2 ⟨384 + x.val, by omega⟩ c)) := by
  pointwise [k0_pay46, k0_pay45, k0_pay44]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨384 + x.val, by omega⟩ c))

/-- Chunk 4. -/
theorem chunk4 : (k0_pay50 (k0_pay49 k0_pay31 (k0_pay47 v) (k0_pay48 bi) p q r t u) : FVec Ideal S1x128x256 .bf16) (ix3 0 s c)
    = a * (b + ∑ x : Fin 128, w ⟨c.val / 64, by omega⟩ x * v (ix2 ⟨512 + x.val, by omega⟩ c)) := by
  pointwise [k0_pay50, k0_pay49, k0_pay48, k0_pay47]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨512 + x.val, by omega⟩ c))

/-- Chunk 5. -/
theorem chunk5 : (k0_pay54 k0_pay31 (k0_pay51 v) (k0_pay52 v k0_pay31 bi p q r) (k0_pay53 t) (constant S128x256 .f32 0x00000000#32) u : FVec Ideal S1x128x256 .bf16) (ix3 0 s c)
    = a * (b + ∑ x : Fin 128, w ⟨c.val / 64, by omega⟩ x * v (ix2 ⟨640 + x.val, by omega⟩ c)) := by
  pointwise [k0_pay54, k0_pay53, k0_pay52, k0_pay51]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨640 + x.val, by omega⟩ c))

/-- Chunk 6. -/
theorem chunk6 : (k0_pay58 k0_pay31 (k0_pay55 v) (k0_pay56 v k0_pay31 bi p q) (k0_pay57 r) t u : FVec Ideal S1x128x256 .bf16) (ix3 0 s c)
    = a * (b + ∑ x : Fin 128, w ⟨c.val / 64, by omega⟩ x * v (ix2 ⟨768 + x.val, by omega⟩ c)) := by
  pointwise [k0_pay58, k0_pay57, k0_pay56, k0_pay55]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨768 + x.val, by omega⟩ c))

/-- Chunk 7. -/
theorem chunk7 : (k0_pay1 (k0_pay61 k0_pay31 (k0_pay59 v) (k0_pay60 v k0_pay31 bi p) q r t u) : FVec Ideal S1x128x256 .bf16) (ix3 0 s c)
    = a * (b + ∑ x : Fin 128, w ⟨c.val / 64, by omega⟩ x * v (ix2 ⟨896 + x.val, by omega⟩ c)) := by
  pointwise [k0_pay1, k0_pay61, k0_pay60, k0_pay59]
  simp only [hp, hq, hr, ht, hu, hb, group]
  rw [pick _ 0 (by omega) (by omega), pick _ 1 (by omega) (by omega), pick _ 2 (by omega) (by omega), pick _ 3 (by omega) (by omega)]
  exact congrArg (a * ·) (collapse ⟨c.val / 64, by omega⟩ b fun g => ∑ x : Fin 128, w g x * v (ix2 ⟨896 + x.val, by omega⟩ c))

end Cert.LocalIdeal.Rows

end
-- ==== Proof.LocalBlocks.lean ====
/- The local mixers: from the tiles to a grid point's blocks, and from the blocks to the whole results. -/
module

public import proofs.«01_k».proof.Proof.LocalGated
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows Idealize.SL.Sem
open Idealize.ShloMosaic.Pipeline (Dat)

namespace Cert.LocalIdeal.Rows

open Cert.LocalIdeal Cert.LocalIdeal.Gen

/-- Which block each window stages at a grid point. -/
theorem idx : ∀ t : Fin cfg0.N, win0_0.index t = ![t.val / 8, t.val % 8, 2]
    ∧ win0_1.index t = ![t.val / 8, 128 * (t.val % 8) - 1, 2]
    ∧ win0_2.index t = ![t.val / 8, min (128 * (t.val % 8) + 128) 1023, 2]
    ∧ win0_3.index t = ![t.val / 8, t.val % 8, 3]
    ∧ win0_4.index t = ![t.val / 8, 128 * (t.val % 8) - 1, 3]
    ∧ win0_5.index t = ![t.val / 8, min (128 * (t.val % 8) + 128) 1023, 3]
    ∧ win0_6.index t = ![t.val / 8, t.val % 8, 4]
    ∧ win0_7.index t = ![t.val / 8, t.val % 8, 5]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0, 0]
    ∧ win0_14.index t = ![0, 0]
    ∧ win0_15.index t = ![t.val / 8 / 2, 0, t.val / 8 % 2, t.val % 8, 0]
    ∧ win0_16.index t = ![t.val / 8 / 2, 0, t.val / 8 % 2, t.val % 8, 0]
    ∧ win0_17.index t = ![t.val / 8 / 2, 0, t.val / 8 % 2, t.val % 8, 0]
    ∧ win0_18.index t = ![t.val / 8, t.val % 8, 0]
    ∧ win0_19.index t = ![t.val / 8, t.val % 8, 0] :=
  (by decide +kernel : ∀ t : Fin grid0.N, win0_0.index t = ![t.val / 8, t.val % 8, 2]
    ∧ win0_1.index t = ![t.val / 8, 128 * (t.val % 8) - 1, 2]
    ∧ win0_2.index t = ![t.val / 8, min (128 * (t.val % 8) + 128) 1023, 2]
    ∧ win0_3.index t = ![t.val / 8, t.val % 8, 3]
    ∧ win0_4.index t = ![t.val / 8, 128 * (t.val % 8) - 1, 3]
    ∧ win0_5.index t = ![t.val / 8, min (128 * (t.val % 8) + 128) 1023, 3]
    ∧ win0_6.index t = ![t.val / 8, t.val % 8, 4]
    ∧ win0_7.index t = ![t.val / 8, t.val % 8, 5]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0, 0]
    ∧ win0_14.index t = ![0, 0]
    ∧ win0_15.index t = ![t.val / 8 / 2, 0, t.val / 8 % 2, t.val % 8, 0]
    ∧ win0_16.index t = ![t.val / 8 / 2, 0, t.val / 8 % 2, t.val % 8, 0]
    ∧ win0_17.index t = ![t.val / 8 / 2, 0, t.val / 8 % 2, t.val % 8, 0]
    ∧ win0_18.index t = ![t.val / 8, t.val % 8, 0]
    ∧ win0_19.index t = ![t.val / 8, t.val % 8, 0])

/-- A grid point's second coordinate. -/
theorem tile_no : ∀ t : Fin cfg0.N, (grid0.coords t 1).val = t.val % 8 :=
  (by decide +kernel : ∀ t : Fin grid0.N, (grid0.coords t 1).val = t.val % 8)

variable (m : (ℓ : Loc nD τ sig) → Buf (Elt Ideal) ℓ) (c : Dev nD) (t : Fin cfg0.N)

/-- The word that says whether two rows lie in the same group. -/
def word (d j : ℕ) : Ideal .f32 :=
  FloatOps.uitofp (F := Ideal) FTy.f32 (IntOp.cmpi CmpIPredicate.eq (IntOp.addi (BitVec.ofNat 32 (d / 64)) 0#32) (BitVec.ofNat 32 (j / 64)))

/-- It is one or zero. -/
theorem same (d j : ℕ) (hd : d < 256) (hj : j < 256) : word d j = if d / 64 = j / 64 then (1 : Ideal .f32) else 0 := by
  unfold word
  have e1 : d / 64 < 4 := by omega
  have e2 : j / 64 < 4 := by omega
  generalize d / 64 = p at *
  generalize j / 64 = q at *
  interval_cases p <;> interval_cases q <;> first | simp [IntOp.cmpi, IntOp.addi, FloatOps.uitofp]; done

/-- The call's first argument. -/
abbrev inp : FVec Ideal S8x8192x2304 .f32 := m ((c : Thread nD τ).loc main_arg0)

/-- Window 1's block. -/
abbrev blk1 : FVec Ideal S1x8x768 .f32 := iblk m c 1 t

/-- Window 2's block. -/
abbrev blk2 : FVec Ideal S1x8x768 .f32 := iblk m c 2 t

/-- Window 4's block. -/
abbrev blk4 : FVec Ideal S1x8x256 .f32 := iblk m c 4 t

/-- Window 5's block. -/
abbrev blk5 : FVec Ideal S1x8x256 .f32 := iblk m c 5 t

/-- Window 10's block. -/
abbrev blk10 : FVec Ideal S256x256 .bf16 := iblk m c 10 t

section
variable (b : Fin 8) (k : ℕ) (hb : b.val = t.val / 8) (hk : k = t.val % 8)
include hb hk

theorem cur (s : Fin 1024) (j : Fin 768) (n : Fin 8192) (hn : n.val = 1024 * k + s.val) :
    iblk m c 0 t (ix3 0 s j) = col (inp m c) b ⟨1536 + j.val, by omega⟩ n := by
  unfold col
  blk_point [iblk, V, idx t]

theorem before (s : Fin 8) (j : Fin 768) :
    blk1 m c t (ix3 0 s j) * k0_pay2 (F := Ideal) (grid0.coords t) = padded (col (inp m c) b ⟨1536 + j.val, by omega⟩) (1024 * k + s.val) := by
  rw [below, tile_no]
  unfold padded
  by_cases h : t.val % 8 = 0
  · rw [if_pos h, mul_zero, dif_neg (by omega)]
  · rw [if_neg h, mul_one, dif_pos (by omega)]
    unfold col blk1
    blk_point [iblk, V, idx t]

theorem after (s : Fin 8) (j : Fin 768) :
    blk2 m c t (ix3 0 s j) * k0_pay3 (F := Ideal) (grid0.coords t) = padded (col (inp m c) b ⟨1536 + j.val, by omega⟩) (1024 * k + 1032 + s.val) := by
  rw [above, tile_no]
  unfold padded
  by_cases h : t.val % 8 = 7
  · rw [if_pos h, mul_zero, dif_neg (by omega)]
  · rw [if_neg h, mul_one, dif_pos (by omega)]
    unfold col blk2
    blk_point [iblk, V, idx t]

theorem pcur (s : Fin 1024) (j : Fin 256) (n : Fin 8192) (hn : n.val = 1024 * k + s.val) :
    iblk m c 3 t (ix3 0 s j) = col (inp m c) b ⟨768 + j.val, by omega⟩ n := by
  unfold col
  blk_point [iblk, V, idx t]

theorem pbefore (s : Fin 8) (j : Fin 256) :
    blk4 m c t (ix3 0 s j) * k0_pay2 (F := Ideal) (grid0.coords t) = padded (col (inp m c) b ⟨768 + j.val, by omega⟩) (1024 * k + s.val) := by
  rw [below, tile_no]
  unfold padded
  by_cases h : t.val % 8 = 0
  · rw [if_pos h, mul_zero, dif_neg (by omega)]
  · rw [if_neg h, mul_one, dif_pos (by omega)]
    unfold col blk4
    blk_point [iblk, V, idx t]

theorem pafter (s : Fin 8) (j : Fin 256) :
    blk5 m c t (ix3 0 s j) * k0_pay3 (F := Ideal) (grid0.coords t) = padded (col (inp m c) b ⟨768 + j.val, by omega⟩) (1024 * k + 1032 + s.val) := by
  rw [above, tile_no]
  unfold padded
  by_cases h : t.val % 8 = 7
  · rw [if_pos h, mul_zero, dif_neg (by omega)]
  · rw [if_neg h, mul_one, dif_pos (by omega)]
    unfold col blk5
    blk_point [iblk, V, idx t]

theorem ucur (s : Fin 1024) (j : Fin 256) (n : Fin 8192) (hn : n.val = 1024 * k + s.val) :
    iblk m c 6 t (ix3 0 s j) = inp m c (ix3 b n ⟨1024 + j.val, by omega⟩) := by
  blk_point [iblk, V, idx t]

theorem vcur (s : Fin 1024) (j : Fin 256) (n : Fin 8192) (hn : n.val = 1024 * k + s.val) :
    iblk m c 7 t (ix3 0 s j) = col (inp m c) b ⟨1280 + j.val, by omega⟩ n := by
  unfold col
  blk_point [iblk, V, idx t]

end

theorem wconv (i : Fin 3) (j : Fin 768) : iblk m c 8 t (ix2 i j) = (m ((c : Thread nD τ).loc main_arg1) : FVec Ideal S3x768 .f32) (ix2 i j) := by
  blk_point [iblk, V, idx t]

theorem bconv (j : Fin 768) : iblk m c 9 t (ix2 0 j) = (m ((c : Thread nD τ).loc main_arg2) : FVec Ideal S768 .f32) (ix1 j) := by
  blk_point [iblk, V, idx t]

/-- The block-diagonal weights' array when the grid runs. -/
theorem spread (d j : Fin 256) : (V m c main_v13 : FVec Ideal S256x256 .bf16) (ix2 d j)
    = word d.val j.val * (m ((c : Thread nD τ).loc main_arg3) : FVec Ideal S4x64x64 .f32) (ix3 ⟨d.val / 64, by omega⟩ ⟨d.val % 64, by omega⟩ ⟨j.val % 64, by omega⟩) := by
  unfold V
  entry_read
  try pointwise
  exact rfl

theorem wpool (d j : Fin 256) : blk10 m c t (ix2 d j)
    = (if d.val / 64 = j.val / 64 then (1 : Ideal .f32) else 0) * (m ((c : Thread nD τ).loc main_arg3) : FVec Ideal S4x64x64 .f32) (ix3 ⟨d.val / 64, by omega⟩ ⟨d.val % 64, by omega⟩ ⟨j.val % 64, by omega⟩) := by
  rw [← same d.val j.val (by omega) (by omega)]
  refine Eq.trans ?_ (spread m c d j)
  unfold blk10 iblk
  generalize V m c main_v13 = w
  blk_ext [idx t]

theorem scale (j : Fin 256) : iblk m c 11 t (ix2 0 j) = (m ((c : Thread nD τ).loc main_arg4) : FVec Ideal S256 .f32) (ix1 j) := by
  blk_point [iblk, V, idx t]

theorem wnorm (j : Fin 256) : iblk m c 12 t (ix2 0 j) = (m ((c : Thread nD τ).loc main_arg5) : FVec Ideal S256 .f32) (ix1 j) := by
  blk_point [iblk, V, idx t]

theorem wmix (g : Fin 4) (i x : Fin 128) : iblk m c 13 t (ix3 g i x) = (m ((c : Thread nD τ).loc main_arg6) : FVec Ideal S4x128x128 .f32) (ix3 g i x) := by
  blk_point [iblk, V, idx t]

theorem bmix (i : Fin 128) (j : Fin 256) : iblk m c 14 t (ix2 i j) = (m ((c : Thread nD τ).loc main_arg7) : FVec Ideal S4x128 .f32) (ix2 ⟨j.val / 64, by omega⟩ i) := by
  blk_point [iblk, V, idx t]

end Cert.LocalIdeal.Rows

end
-- ==== Proof.LocalOut.lean ====
/- The local mixers: what a grid point leaves in its five blocks, from the blocks it stages. -/
module

public import proofs.«01_k».proof.Proof.LocalGated
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows

namespace Cert.LocalIdeal.Rows

open Cert.LocalIdeal Cert.LocalIdeal.Gen

variable (i : grid0.Coords) (x0 : FVec Ideal S1x1024x768 .f32) (x1 : FVec Ideal S1x8x768 .f32) (x2 : FVec Ideal S1x8x768 .f32) (x3 : FVec Ideal S1x1024x256 .f32) (x4 : FVec Ideal S1x8x256 .f32) (x5 : FVec Ideal S1x8x256 .f32) (x6 : FVec Ideal S1x1024x256 .f32) (x7 : FVec Ideal S1x1024x256 .f32) (x8 : FVec Ideal S3x768 .f32) (x9 : FVec Ideal S1x768 .f32) (x10 : FVec Ideal S256x256 .bf16) (x11 : FVec Ideal S1x256 .f32) (x12 : FVec Ideal S1x256 .f32) (x13 : FVec Ideal S4x128x128 .bf16) (x14 : FVec Ideal S128x256 .f32)

/-- The short convolution's tile. -/
def short (i : grid0.Coords) (x0 : FVec Ideal S1x1024x768 .f32) (x1 x2 : FVec Ideal S1x8x768 .f32) (x8 : FVec Ideal S3x768 .f32) (x9 : FVec Ideal S1x768 .f32) : FVec Ideal S1024x768 .f32 :=
  k0_pay7 (k0_pay5 i (View.ld (Val := Elt Ideal) (e' := .f32) x0 r0_0) (View.ld (Val := Elt Ideal) (e' := .f32) x2 r0_2)) (k0_pay6 i (View.ld (Val := Elt Ideal) (e' := .f32) x0 r0_0) (View.ld (Val := Elt Ideal) (e' := .f32) x1 r0_1) (View.ld (Val := Elt Ideal) (e' := .f32) x8 r0_3) (View.ld (Val := Elt Ideal) (e' := .f32) x8 r0_4)) (View.ld (Val := Elt Ideal) (e' := .f32) x8 r0_5) (View.ld (Val := Elt Ideal) (e' := .f32) x9 r0_6)

/-- Its entry, from the blocks'. -/
theorem short_at (k : ℕ) (hk : k < 8) (f : Fin 8192 → EReal) (j : Fin 768) (s : Fin 1024)
    (hx : ∀ s : Fin 1024, x0 (ix3 0 s j) = f ⟨1024 * k + s.val, by omega⟩)
    (hy : x1 (ix3 0 7 j) * k0_pay2 (F := Ideal) i = padded f (1024 * k + 7)) (hv : x2 (ix3 0 0 j) * k0_pay3 (F := Ideal) i = padded f (1024 * k + 1032)) :
    short i x0 x1 x2 x8 x9 (ix2 s j) = conv f (x8 (ix2 0 j)) (x8 (ix2 1 j)) (x8 (ix2 2 j)) (x9 (ix2 0 j)) (1024 * k + s.val) := by
  unfold short
  refine (convolved i k hk f _ _ _ _ _ _ _ j (fun s => Eq.trans ?_ (hx s)) (Eq.trans (congrArg (· * _) ?_) hy) (Eq.trans (congrArg (· * _) ?_) hv) s).trans ?_
  rotate_left 3
  · congr 1 <;> (pointwise; blk_ext)
  all_goals (pointwise; blk_ext)

/-- Window 15's block, an entry at a time. -/
theorem out_at15 (y : S1x2x1x1024x128.Idx) (s : Fin 1024) (j : Fin 768) (hs : s.val = (y 3).val) (hj : j.val = 0 + 128 * (y 1).val + (y 4).val) :
    out0_15 (F := Ideal) i x0 x1 x2 x3 x4 x5 x6 x7 x8 x9 x10 x11 x12 x13 x14 y = short i x0 x1 x2 x8 x9 (ix2 s j) := by
  unfold out0_15 k0_pay62 k0_pay63
  canon_tiles x h
  all_goals
    have e0 : (x 0).val < 1 := (x 0).isLt
    have e1 : (x 1).val < 1 := (x 1).isLt
    have e2 : (x 2).val < 1 := (x 2).isLt
    have e4 : (x 4).val < 128 := (x 4).isLt
  · pointwise [k0_pay9]
    unfold short
    refine congrArg _ (congr (congrArg ix2 (Fin.ext ?_)) (Fin.ext ?_)) <;> (dsimp only; omega)
  · pointwise [k0_pay8]
    unfold short
    refine congrArg _ (congr (congrArg ix2 (Fin.ext ?_)) (Fin.ext ?_)) <;> (dsimp only; omega)

/-- Window 16's block, an entry at a time. -/
theorem out_at16 (y : S1x2x1x1024x128.Idx) (s : Fin 1024) (j : Fin 768) (hs : s.val = (y 3).val) (hj : j.val = 256 + 128 * (y 1).val + (y 4).val) :
    out0_16 (F := Ideal) i x0 x1 x2 x3 x4 x5 x6 x7 x8 x9 x10 x11 x12 x13 x14 y = short i x0 x1 x2 x8 x9 (ix2 s j) := by
  unfold out0_16 k0_pay62 k0_pay63
  canon_tiles x h
  all_goals
    have e0 : (x 0).val < 1 := (x 0).isLt
    have e1 : (x 1).val < 1 := (x 1).isLt
    have e2 : (x 2).val < 1 := (x 2).isLt
    have e4 : (x 4).val < 128 := (x 4).isLt
  · pointwise [k0_pay11]
    unfold short
    refine congrArg _ (congr (congrArg ix2 (Fin.ext ?_)) (Fin.ext ?_)) <;> (dsimp only; omega)
  · pointwise [k0_pay10]
    unfold short
    refine congrArg _ (congr (congrArg ix2 (Fin.ext ?_)) (Fin.ext ?_)) <;> (dsimp only; omega)

/-- Window 17's block, an entry at a time. -/
theorem out_at17 (y : S1x2x1x1024x128.Idx) (s : Fin 1024) (j : Fin 768) (hs : s.val = (y 3).val) (hj : j.val = 512 + 128 * (y 1).val + (y 4).val) :
    out0_17 (F := Ideal) i x0 x1 x2 x3 x4 x5 x6 x7 x8 x9 x10 x11 x12 x13 x14 y = short i x0 x1 x2 x8 x9 (ix2 s j) := by
  unfold out0_17 k0_pay62 k0_pay63
  canon_tiles x h
  all_goals
    have e0 : (x 0).val < 1 := (x 0).isLt
    have e1 : (x 1).val < 1 := (x 1).isLt
    have e2 : (x 2).val < 1 := (x 2).isLt
    have e4 : (x 4).val < 128 := (x 4).isLt
  · pointwise [k0_pay14, k0_pay13]
    unfold short
    refine congrArg _ (congr (congrArg ix2 (Fin.ext ?_)) (Fin.ext ?_)) <;> (dsimp only; omega)
  · pointwise [k0_pay12]
    unfold short
    refine congrArg _ (congr (congrArg ix2 (Fin.ext ?_)) (Fin.ext ?_)) <;> (dsimp only; omega)

/-- Window 18's block, an entry at a time. -/
theorem out_at18 (k : ℕ) (hk : k < 8) (hi : (i 1).val = k) (f : Fin 256 → Fin 8192 → EReal)
    (hx : ∀ (s : Fin 1024) (d : Fin 256), x3 (ix3 0 s d) = f d ⟨1024 * k + s.val, by omega⟩)
    (hy : ∀ (s : Fin 8) (d : Fin 256), x4 (ix3 0 s d) * k0_pay2 (F := Ideal) i = padded (f d) (1024 * k + s.val))
    (hv : ∀ (s : Fin 8) (d : Fin 256), x5 (ix3 0 s d) * k0_pay3 (F := Ideal) i = padded (f d) (1024 * k + 1032 + s.val))
    (y : S1x1024x256.Idx) (s : Fin 1024) (j : Fin 256) (hs : s.val = (y 1).val) (hj : j.val = (y 2).val) :
    out0_18 (F := Ideal) i x0 x1 x2 x3 x4 x5 x6 x7 x8 x9 x10 x11 x12 x13 x14 y
      = (∑ d : Fin 256, mix ⟨d.val / 64, by omega⟩ (f d) ⟨1024 * k + s.val, by omega⟩ * x10 (ix2 d j)) * x11 (ix2 0 j) := by
  unfold out0_18 k0_pay64
  canon_tiles x h
  have e0 : (x 0).val < 1 := (x 0).isLt
  have e : x = ix3 0 s j := (eq_ix3 x).trans (by
    refine congr (congr (congrArg ix3 (Fin.ext ?_)) (Fin.ext ?_)) (Fin.ext ?_) <;> try dsimp only
    all_goals first | omega | (show (x 0).val = 0; omega))
  rw [e, hi]
  refine (pool _ j k hk f _ _ _ (fun s d => Eq.trans ?_ (hx s d)) (fun r d => extended d k hk _ _ (f d) _ _ _ (fun s => Eq.trans ?_ (hx s d))
    (fun s => Eq.trans (congrArg (· * _) ?_) (hy s d)) (fun s => Eq.trans (congrArg (· * _) ?_) (hv s d)) r) s).trans ?_
  rotate_left 4
  · refine congr (congrArg HMul.hMul (Finset.sum_congr rfl fun d _ => congrArg (mix ⟨d.val / 64, by omega⟩ (f d) ⟨1024 * k + s.val, by omega⟩ * ·) ?_)) ?_ <;> (pointwise; blk_ext)
  all_goals (pointwise; blk_ext)

/-- The gated branch's entry, from the blocks'. -/
def gated (x6 x7 : FVec Ideal S1x1024x256 .f32) (x12 : FVec Ideal S1x256 .f32) (x13 : FVec Ideal S4x128x128 .bf16) (x14 : FVec Ideal S128x256 .f32) (s : Fin 1024) (j : Fin 256) : EReal :=
  x6 (ix3 0 s j) * (x14 (ix2 ⟨s.val % 128, by omega⟩ j) + ∑ x : Fin 128, x13 (ix3 ⟨j.val / 64, by omega⟩ ⟨s.val % 128, by omega⟩ x)
    * lnorm (fun d => x7 (ix3 0 ⟨s.val / 128 * 128 + x.val, by omega⟩ d)) (fun d => x12 (ix2 0 d)) j)

/-- A chunk's row is the block's. -/
theorem gated_congr (x6 x7 : FVec Ideal S1x1024x256 .f32) (x12 : FVec Ideal S1x256 .f32) (x13 : FVec Ideal S4x128x128 .bf16) (x14 : FVec Ideal S128x256 .f32)
    (k : Fin 8) (i : Fin 128) (c : Fin 256) (s : Fin 1024) (j : Fin 256) (hs : s.val = 128 * k.val + i.val) (hj : j.val = c.val) (p : Fin 1024) (hp : p.val = 128 * k.val + i.val)
    (q : Fin 128 → Fin 1024) (hq : ∀ x, (q x).val = 128 * k.val + x.val) :
    x6 (ix3 0 p c) * (x14 (ix2 i c) + ∑ x : Fin 128, x13 (ix3 ⟨c.val / 64, by omega⟩ i x)
      * k0_pay30 (F := Ideal) (k0_pay29 (View.ld (Val := Elt Ideal) (e' := .f32) x7 r0_9)) (View.ld (Val := Elt Ideal) (e' := .f32) x12 r0_12) (ix2 (q x) c)) = gated x6 x7 x12 x13 x14 s j := by
  obtain rfl : j = c := Fin.ext hj
  obtain rfl : s = p := Fin.ext (hs.trans hp.symm)
  have e : i = ⟨s.val % 128, by omega⟩ := Fin.ext (by dsimp only; omega)
  unfold gated
  rw [← e]
  refine congrArg (_ * ·) (congrArg (_ + ·) (Finset.sum_congr rfl fun x _ => congrArg (_ * ·) ((normed ..).trans ?_)))
  have e' : q x = ⟨s.val / 128 * 128 + x.val, by omega⟩ := Fin.ext (by dsimp only; rw [hq]; omega)
  rw [← e']
  refine congrArg (fun z => z j) (congr (congrArg lnorm (funext fun d => ?_)) (funext fun d => ?_)) <;> (pointwise; blk_ext)

/-- Window 19's block, an entry at a time. -/
theorem out_at19 (y : S1x1024x256.Idx) (s : Fin 1024) (j : Fin 256) (hs : s.val = (y 1).val) (hj : j.val = (y 2).val) :
    out0_19 (F := Ideal) i x0 x1 x2 x3 x4 x5 x6 x7 x8 x9 x10 x11 x12 x13 x14 y = gated x6 x7 x12 x13 x14 s j := by
  unfold out0_19 k0_pay67 k0_pay66 k0_pay65
  canon_tiles x h
  all_goals
    have e0 : (x 0).val < 1 := (x 0).isLt
    have e1 : (x 1).val < 128 := (x 1).isLt
    have e2 : (x 2).val < 256 := (x 2).isLt
    have e : x = ix3 0 ⟨(x 1).val, e1⟩ ⟨(x 2).val, e2⟩ := (eq_ix3 x).trans (by
      refine congr (congr (congrArg ix3 (Fin.ext ?_)) rfl) rfl
      show (x 0).val = 0
      omega)
    rw [e]
  · refine (chunk7 _ _ _ _ _ _ _ ⟨(x 1).val, e1⟩ ⟨(x 2).val, e2⟩ (fun g z => x13 (ix3 g ⟨(x 1).val, e1⟩ z)) (x6 (ix3 0 ⟨128 * 7 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 7 _ _ s j (by dsimp only; omega) (by dsimp only; omega) _ (by dsimp only; omega) (fun z => ⟨896 + z.val, by omega⟩) (fun z => by dsimp only; omega))
    all_goals first
      | (pointwise; blk_ext; done)
      | (intro z; pointwise; blk_ext)
  · refine (chunk6 _ _ _ _ _ _ _ ⟨(x 1).val, e1⟩ ⟨(x 2).val, e2⟩ (fun g z => x13 (ix3 g ⟨(x 1).val, e1⟩ z)) (x6 (ix3 0 ⟨128 * 6 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 6 _ _ s j (by dsimp only; omega) (by dsimp only; omega) _ (by dsimp only; omega) (fun z => ⟨768 + z.val, by omega⟩) (fun z => by dsimp only; omega))
    all_goals first
      | (pointwise; blk_ext; done)
      | (intro z; pointwise; blk_ext)
  · refine (chunk5 _ _ _ _ _ _ _ ⟨(x 1).val, e1⟩ ⟨(x 2).val, e2⟩ (fun g z => x13 (ix3 g ⟨(x 1).val, e1⟩ z)) (x6 (ix3 0 ⟨128 * 5 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 5 _ _ s j (by dsimp only; omega) (by dsimp only; omega) _ (by dsimp only; omega) (fun z => ⟨640 + z.val, by omega⟩) (fun z => by dsimp only; omega))
    all_goals first
      | (pointwise; blk_ext; done)
      | (intro z; pointwise; blk_ext)
  · refine (chunk4 _ _ _ _ _ _ _ ⟨(x 1).val, e1⟩ ⟨(x 2).val, e2⟩ (fun g z => x13 (ix3 g ⟨(x 1).val, e1⟩ z)) (x6 (ix3 0 ⟨128 * 4 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 4 _ _ s j (by dsimp only; omega) (by dsimp only; omega) _ (by dsimp only; omega) (fun z => ⟨512 + z.val, by omega⟩) (fun z => by dsimp only; omega))
    all_goals first
      | (pointwise; blk_ext; done)
      | (intro z; pointwise; blk_ext)
  · refine (chunk3 _ _ _ _ _ _ _ ⟨(x 1).val, e1⟩ ⟨(x 2).val, e2⟩ (fun g z => x13 (ix3 g ⟨(x 1).val, e1⟩ z)) (x6 (ix3 0 ⟨128 * 3 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 3 _ _ s j (by dsimp only; omega) (by dsimp only; omega) _ (by dsimp only; omega) (fun z => ⟨384 + z.val, by omega⟩) (fun z => by dsimp only; omega))
    all_goals first
      | (pointwise; blk_ext; done)
      | (intro z; pointwise; blk_ext)
  · refine (chunk2 _ _ _ _ _ _ _ ⟨(x 1).val, e1⟩ ⟨(x 2).val, e2⟩ (fun g z => x13 (ix3 g ⟨(x 1).val, e1⟩ z)) (x6 (ix3 0 ⟨128 * 2 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 2 _ _ s j (by dsimp only; omega) (by dsimp only; omega) _ (by dsimp only; omega) (fun z => ⟨256 + z.val, by omega⟩) (fun z => by dsimp only; omega))
    all_goals first
      | (pointwise; blk_ext; done)
      | (intro z; pointwise; blk_ext)
  · refine (chunk1 _ _ _ _ _ _ _ ⟨(x 1).val, e1⟩ ⟨(x 2).val, e2⟩ (fun g z => x13 (ix3 g ⟨(x 1).val, e1⟩ z)) (x6 (ix3 0 ⟨128 * 1 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 1 _ _ s j (by dsimp only; omega) (by dsimp only; omega) _ (by dsimp only; omega) (fun z => ⟨128 + z.val, by omega⟩) (fun z => by dsimp only; omega))
    all_goals first
      | (pointwise; blk_ext; done)
      | (intro z; pointwise; blk_ext)
  · unfold k0_pay32
    refine (chunk0 _ _ _ _ _ _ _ ⟨(x 1).val, e1⟩ ⟨(x 2).val, e2⟩ (fun g z => x13 (ix3 g ⟨(x 1).val, e1⟩ z)) (x6 (ix3 0 ⟨128 * 0 + (x 1).val, by omega⟩ ⟨(x 2).val, e2⟩)) (x14 (ix2 ⟨(x 1).val, e1⟩ ⟨(x 2).val, e2⟩)) ?_ ?_ ?_ ?_ ?_ ?_).trans
      (gated_congr x6 x7 x12 x13 x14 0 _ _ s j (by dsimp only; omega) (by dsimp only; omega) _ (by dsimp only; omega) (fun z => ⟨ z.val, by omega⟩) (fun z => by dsimp only; omega))
    all_goals first
      | (pointwise; blk_ext; done)
      | (intro z; pointwise; blk_ext)

end Cert.LocalIdeal.Rows

end
-- ==== Proof.LocalFinal.lean ====
/- The local mixers: from the blocks to the five whole results. -/
module

public import proofs.«01_k».proof.Proof.LocalBlocks
public import proofs.«01_k».proof.Proof.LocalOut
public import proofs.«01_k».proof.Proof.Gen.LocalIdeal.Frame
public import Idealize.ShloMosaic.Lib.Pipeline.ValueKit

@[expose] public section

set_option maxRecDepth 16384

noncomputable section

open Idealize.ShloMosaic Idealize.ShloMosaic.TcCoe Cert.Rows Idealize.SL.Sem
open Idealize.ShloMosaic.Pipeline (Dat)

namespace Cert.LocalIdeal.Rows

open Cert.LocalIdeal Cert.LocalIdeal.Gen

/-- A product with a block-diagonal matrix is a product with one of its blocks. -/
theorem diag (g : Fin 256 → EReal) (w : Fin 4 → Fin 64 → EReal) (a : Fin 4) :
    (∑ d : Fin 256, g d * ((if d.val / 64 = a.val then (1 : EReal) else 0) * w ⟨d.val / 64, by omega⟩ ⟨d.val % 64, by omega⟩))
      = ∑ x : Fin 64, g ⟨64 * a.val + x.val, by omega⟩ * w a x := by
  rw [← (finProdFinEquiv (m := 4) (n := 64)).sum_comp, Fintype.sum_prod_type, Finset.sum_eq_single a]
  · refine Finset.sum_congr rfl fun x _ => ?_
    have e : (finProdFinEquiv (m := 4) (n := 64) (a, x)).val = x.val + 64 * a.val := rfl
    have e1 : (finProdFinEquiv (m := 4) (n := 64) (a, x)).val / 64 = a.val := by rw [e]; omega
    rw [if_pos e1, one_mul]
    refine congr (congrArg HMul.hMul (congrArg g (Fin.ext ?_))) (congr (congrArg w (Fin.ext e1)) (Fin.ext ?_))
    · rw [e]; dsimp only; omega
    · dsimp only; rw [e]; omega
  · intro q _ hq
    refine Finset.sum_eq_zero fun x _ => ?_
    have e : (finProdFinEquiv (m := 4) (n := 64) (q, x)).val = x.val + 64 * q.val := rfl
    rw [if_neg (fun h => hq (Fin.ext (by rw [e] at h; omega))), zero_mul, mul_zero]
  · intro h
    exact absurd (Finset.mem_univ a) h

variable (m : (ℓ : Loc nD τ sig) → Buf (Elt Ideal) ℓ) (c : Dev nD)

/-- What the reference makes of the call's arguments: result 1. -/
def ref15 : FVec Ideal S4x2x2x8192x128 .f32 :=
  Cert.LocalRefIdeal.Read.val_main_v199 (F := Ideal) (m ((c : Thread nD τ).loc main_arg0)) (m ((c : Thread nD τ).loc main_arg1)) (m ((c : Thread nD τ).loc main_arg2))

/-- What the reference makes of the call's arguments: result 2. -/
def ref16 : FVec Ideal S4x2x2x8192x128 .f32 :=
  Cert.LocalRefIdeal.Read.val_main_v201 (F := Ideal) (m ((c : Thread nD τ).loc main_arg0)) (m ((c : Thread nD τ).loc main_arg1)) (m ((c : Thread nD τ).loc main_arg2))

/-- What the reference makes of the call's arguments: result 3. -/
def ref17 : FVec Ideal S4x2x2x8192x128 .f32 :=
  Cert.LocalRefIdeal.Read.val_main_v203 (F := Ideal) (m ((c : Thread nD τ).loc main_arg0)) (m ((c : Thread nD τ).loc main_arg1)) (m ((c : Thread nD τ).loc main_arg2))

/-- What the reference makes of the call's arguments: result 4. -/
def ref18 : FVec Ideal S8x8192x256 .bf16 :=
  Cert.LocalRefIdeal.Read.val_main_v166 (F := Ideal) (m ((c : Thread nD τ).loc main_arg0)) (m ((c : Thread nD τ).loc main_arg3)) (m ((c : Thread nD τ).loc main_arg4))

/-- What the reference makes of the call's arguments: result 5. -/
def ref19 : FVec Ideal S8x8192x256 .bf16 :=
  Cert.LocalRefIdeal.Read.val_main_v197 (F := Ideal) (m ((c : Thread nD τ).loc main_arg0)) (m ((c : Thread nD τ).loc main_arg5)) (m ((c : Thread nD τ).loc main_arg6)) (m ((c : Thread nD τ).loc main_arg7))

section
variable (t : Fin cfg0.N) (b : Fin 8) (k : ℕ) (hb : b.val = t.val / 8) (hk : k = t.val % 8)
include hb hk

/-- A grid point's short convolution is the reference's there. -/
theorem point (s : Fin 1024) (j : Fin 768) (n : Fin 8192) (hn : n.val = 1024 * k + s.val) :
    short (grid0.coords t) (iblk m c 0 t) (iblk m c 1 t) (iblk m c 2 t) (iblk m c 8 t) (iblk m c 9 t) (ix2 s j)
      = Cert.LocalRefIdeal.Read.val_main_v24 (F := Ideal) (m ((c : Thread nD τ).loc main_arg0)) (m ((c : Thread nD τ).loc main_arg1)) (m ((c : Thread nD τ).loc main_arg2)) (ix3 b n j) := by
  have hk8 : k < 8 := by omega
  refine Eq.trans ?_ (Cert.LocalRefIdeal.Rows.v24 _ _ _ b n j ⟨1536 + j.val, by omega⟩ rfl).symm
  refine (short_at _ _ _ _ _ _ k hk8 (col (inp m c) b ⟨1536 + j.val, by omega⟩) j s (fun s => cur m c t b k hb hk s j _ rfl)
    (before m c t b k hb hk 7 j) (after m c t b k hb hk 0 j)).trans ?_
  rw [hn]
  exact congr (congr (congr (congr (congrArg (conv _) (wconv m c t 0 j)) (wconv m c t 1 j)) (wconv m c t 2 j)) (bconv m c t j)) rfl

/-- A grid point's pooling is the reference's there. -/
theorem point18 (y : S1x1024x256.Idx) (n : Fin 8192) (j : Fin 256) (hn : n.val = 1024 * k + (y 1).val) (hj : j.val = (y 2).val) :
    out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = ref18 m c (ix3 b n j) := by
  have hk8 : k < 8 := by omega
  have h1 : (y 1).val < 1024 := (y 1).isLt
  refine (out_at18 _ _ _ _ _ _ _ _ _ _ _ _ _ _ _ _ k hk8 ((tile_no t).trans hk.symm) (fun d => col (inp m c) b ⟨768 + d.val, by omega⟩)
    (fun s d => pcur m c t b k hb hk s d _ rfl) (pbefore m c t b k hb hk) (pafter m c t b k hb hk) y ⟨(y 1).val, h1⟩ j rfl hj).trans ?_
  refine Eq.trans ?_ (Cert.LocalRefIdeal.Rows.v166 _ _ _ b n j).symm
  obtain rfl : n = ⟨1024 * k + (y 1).val, by clear hn; omega⟩ := Fin.ext hn
  refine congr (congrArg HMul.hMul ?_) (scale m c t j)
  refine (Finset.sum_congr rfl fun d _ => congrArg (mix ⟨d.val / 64, by omega⟩ (col (inp m c) b ⟨768 + d.val, by omega⟩) ⟨1024 * k + (y 1).val, by omega⟩ * ·) (wpool m c t d j)).trans ?_
  refine (diag (fun d => mix ⟨d.val / 64, by omega⟩ (col (inp m c) b ⟨768 + d.val, by omega⟩) ⟨1024 * k + (y 1).val, by omega⟩)
    (fun g x => (m ((c : Thread nD τ).loc main_arg3) : FVec Ideal S4x64x64 .f32) (ix3 g x ⟨j.val % 64, by omega⟩)) ⟨j.val / 64, by omega⟩).trans ?_
  refine Finset.sum_congr rfl fun x _ => congrArg (· * _) ?_
  exact congrArg (fun z => mix z _ _) (Fin.ext (by dsimp only; omega))

/-- A grid point's gated branch is the reference's there. -/
theorem point19 (y : S1x1024x256.Idx) (n : Fin 8192) (j : Fin 256) (hn : n.val = 1024 * k + (y 1).val) (hj : j.val = (y 2).val) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = ref19 m c (ix3 b n j) := by
  have hk8 : k < 8 := by omega
  have h1 : (y 1).val < 1024 := (y 1).isLt
  refine (out_at19 _ _ _ _ _ _ _ _ _ _ _ _ _ _ _ _ y ⟨(y 1).val, h1⟩ j rfl hj).trans ?_
  refine Eq.trans ?_ (Cert.LocalRefIdeal.Rows.v197 _ _ _ _ b n j).symm
  unfold gated
  have e : (⟨n.val % 128, by omega⟩ : Fin 128) = ⟨(y 1).val % 128, by omega⟩ := Fin.ext (by dsimp only; omega)
  rw [e]
  refine congr (congrArg HMul.hMul (ucur m c t b k hb hk _ j n hn)) (congr (congrArg HAdd.hAdd (bmix m c t _ j)) (Finset.sum_congr rfl fun x _ =>
    congr (congrArg HMul.hMul (wmix m c t _ _ x)) (congrArg (fun z => z j) (congr (congrArg lnorm (funext fun d => ?_)) (funext fun d => wnorm m c t d)))))
  exact vcur m c t b k hb hk _ d _ (by dsimp only; omega)

end

/-- Window 15's array after the run is the reference's. -/
theorem final15 : (dats m 0 c).arrAt 15 cfg0.N = ref15 m c := by
  refine (dats m 0 c).arrAt_eq_of_covers 15 _ (by decide +kernel) fun t _ y => ?_
  blk_simp
  rw [after0_15]
  have ht : t.val < 64 := t.isLt
  have h1 : (y 1).val < 2 := (y 1).isLt
  have h3 : (y 3).val < 1024 := (y 3).isLt
  have h4 : (y 4).val < 128 := (y 4).isLt
  refine (out_at15 _ _ _ _ _ _ _ _ _ _ _ _ _ _ _ _ y ⟨(y 3).val, h3⟩ ⟨128 * (y 1).val + (y 4).val, by omega⟩ rfl (by first | (dsimp only; done) | (dsimp only; omega))).trans
    ((point m c t ⟨t.val / 8 / 2 * 2 + t.val / 8 % 2, by omega⟩ (t.val % 8) (by dsimp only; omega) rfl _ _ ⟨1024 * (t.val % 8) + (y 3).val, by omega⟩ rfl).trans ?_)
  refine Eq.trans ?_ ((Cert.LocalRefIdeal.Rows.v199 _ _ _ ⟨1024 * (t.val % 8) + (y 3).val, by omega⟩ ⟨t.val / 8 / 2, by omega⟩ ⟨(y 1).val, h1⟩ ⟨t.val / 8 % 2, by omega⟩ ⟨(y 4).val, h4⟩).symm.trans (congrArg (ref15 m c) ?_))
  · exact congrArg (fun z => Cert.LocalRefIdeal.Read.val_main_v24 (F := Ideal) _ _ _ (ix3 _ _ z)) (Fin.ext (by dsimp only; omega))
  · blk_ext [idx t]

/-- Window 16's array after the run is the reference's. -/
theorem final16 : (dats m 0 c).arrAt 16 cfg0.N = ref16 m c := by
  refine (dats m 0 c).arrAt_eq_of_covers 16 _ (by decide +kernel) fun t _ y => ?_
  blk_simp
  rw [after0_16]
  have ht : t.val < 64 := t.isLt
  have h1 : (y 1).val < 2 := (y 1).isLt
  have h3 : (y 3).val < 1024 := (y 3).isLt
  have h4 : (y 4).val < 128 := (y 4).isLt
  refine (out_at16 _ _ _ _ _ _ _ _ _ _ _ _ _ _ _ _ y ⟨(y 3).val, h3⟩ ⟨256 + 128 * (y 1).val + (y 4).val, by omega⟩ rfl (by first | (dsimp only; done) | (dsimp only; omega))).trans
    ((point m c t ⟨t.val / 8 / 2 * 2 + t.val / 8 % 2, by omega⟩ (t.val % 8) (by dsimp only; omega) rfl _ _ ⟨1024 * (t.val % 8) + (y 3).val, by omega⟩ rfl).trans ?_)
  refine Eq.trans ?_ ((Cert.LocalRefIdeal.Rows.v201 _ _ _ ⟨1024 * (t.val % 8) + (y 3).val, by omega⟩ ⟨t.val / 8 / 2, by omega⟩ ⟨(y 1).val, h1⟩ ⟨t.val / 8 % 2, by omega⟩ ⟨(y 4).val, h4⟩).symm.trans (congrArg (ref16 m c) ?_))
  · exact congrArg (fun z => Cert.LocalRefIdeal.Read.val_main_v24 (F := Ideal) _ _ _ (ix3 _ _ z)) (Fin.ext (by dsimp only; omega))
  · blk_ext [idx t]

/-- Window 17's array after the run is the reference's. -/
theorem final17 : (dats m 0 c).arrAt 17 cfg0.N = ref17 m c := by
  refine (dats m 0 c).arrAt_eq_of_covers 17 _ (by decide +kernel) fun t _ y => ?_
  blk_simp
  rw [after0_17]
  have ht : t.val < 64 := t.isLt
  have h1 : (y 1).val < 2 := (y 1).isLt
  have h3 : (y 3).val < 1024 := (y 3).isLt
  have h4 : (y 4).val < 128 := (y 4).isLt
  refine (out_at17 _ _ _ _ _ _ _ _ _ _ _ _ _ _ _ _ y ⟨(y 3).val, h3⟩ ⟨512 + 128 * (y 1).val + (y 4).val, by omega⟩ rfl (by first | (dsimp only; done) | (dsimp only; omega))).trans
    ((point m c t ⟨t.val / 8 / 2 * 2 + t.val / 8 % 2, by omega⟩ (t.val % 8) (by dsimp only; omega) rfl _ _ ⟨1024 * (t.val % 8) + (y 3).val, by omega⟩ rfl).trans ?_)
  refine Eq.trans ?_ ((Cert.LocalRefIdeal.Rows.v203 _ _ _ ⟨1024 * (t.val % 8) + (y 3).val, by omega⟩ ⟨t.val / 8 / 2, by omega⟩ ⟨(y 1).val, h1⟩ ⟨t.val / 8 % 2, by omega⟩ ⟨(y 4).val, h4⟩).symm.trans (congrArg (ref17 m c) ?_))
  · exact congrArg (fun z => Cert.LocalRefIdeal.Read.val_main_v24 (F := Ideal) _ _ _ (ix3 _ _ z)) (Fin.ext (by dsimp only; omega))
  · blk_ext [idx t]

/-- Window 18's array after the run is the reference's. -/
theorem final18 : (dats m 0 c).arrAt 18 cfg0.N = ref18 m c := by
  refine (dats m 0 c).arrAt_eq_of_covers 18 _ (by decide +kernel) fun t _ y => ?_
  blk_simp
  rw [after0_18]
  have ht : t.val < 64 := t.isLt
  have h1 : (y 1).val < 1024 := (y 1).isLt
  have h2 : (y 2).val < 256 := (y 2).isLt
  refine (point18 m c t ⟨t.val / 8, by omega⟩ (t.val % 8) rfl rfl y ⟨1024 * (t.val % 8) + (y 1).val, by omega⟩ ⟨(y 2).val, h2⟩ rfl rfl).trans (congrArg (ref18 m c) ?_)
  blk_ext [idx t]

/-- Window 19's array after the run is the reference's. -/
theorem final19 : (dats m 0 c).arrAt 19 cfg0.N = ref19 m c := by
  refine (dats m 0 c).arrAt_eq_of_covers 19 _ (by decide +kernel) fun t _ y => ?_
  blk_simp
  rw [after0_19]
  have ht : t.val < 64 := t.isLt
  have h1 : (y 1).val < 1024 := (y 1).isLt
  have h2 : (y 2).val < 256 := (y 2).isLt
  refine (point19 m c t ⟨t.val / 8, by omega⟩ (t.val % 8) rfl rfl y ⟨1024 * (t.val % 8) + (y 1).val, by omega⟩ ⟨(y 2).val, h2⟩ rfl rfl).trans (congrArg (ref19 m c) ?_)
  blk_ext [idx t]

end Cert.LocalIdeal.Rows

end
-- ==== Proof.ClaimLocal.lean ====
/- The claims of the local mixers. -/
module

public import proofs.«01_k».proof.Defs
public import proofs.«01_k».proof.Proof.Gen.Local.Frame
public import proofs.«01_k».proof.Proof.Gen.LocalIdeal.Frame
public import proofs.«01_k».proof.Proof.Gen.LocalRefIdeal.Run
public import proofs.«01_k».proof.Proof.Gen.LocalRefIdeal.Read
public import proofs.«01_k».proof.Proof.Gen.LocalIdeal.Value
public import proofs.«01_k».proof.Proof.LocalFinal
public import Idealize.ShloMosaic.Lib.Claim

@[expose] public section

noncomputable section

namespace Cert.Proof

open Idealize.ShloMosaic Idealize.ShloMosaic.TcCoe Idealize.SL.Sem

/-- The local mixers leave their arguments unchanged and every counter at zero. -/
theorem frame_Local : Cert.quiescent_Local := fun m g _ => Cert.Local.Gen.frame m g

/-- The idealized local mixers leave their arguments unchanged and every counter at zero. -/
theorem frame_LocalIdeal : Cert.quiescent_LocalIdeal := fun m g _ => Cert.LocalIdeal.Gen.frame m g

/-- The local mixers' reference leaves its arguments unchanged and every counter at zero. -/
theorem frame_LocalRefIdeal : Cert.quiescent_LocalRefIdeal := by
  intro m g _
  refine (θ_run _ _ _).mono (fun r h => ⟨fun c => (h c).2.2.2.2.2, ?_⟩) (Cert.LocalRefIdeal.Value.run (F := Ideal) m g)
  exact sem_eq_zero_of_no_sems rfl _

/-- The local mixers compute their reference's five results: at every grid point the blocks are the reference's rows, and the blocks cover the results. -/
theorem algebraic_Local : Cert.algebraic_LocalIdeal_LocalRefIdeal := by
  intro m g m' g' _ hagree
  refine ⟨Cert.LocalIdeal.Rows.ref15 m, Cert.LocalIdeal.Rows.ref16 m, Cert.LocalIdeal.Rows.ref17 m, Cert.LocalIdeal.Rows.ref18 m, Cert.LocalIdeal.Rows.ref19 m, ?_, ?_⟩
  · exact (θ_run _ _ _).mono (fun r h c => ⟨(h c).1.trans (Cert.LocalIdeal.Rows.final15 m c), (h c).2.1.trans (Cert.LocalIdeal.Rows.final16 m c), (h c).2.2.1.trans (Cert.LocalIdeal.Rows.final17 m c), (h c).2.2.2.1.trans (Cert.LocalIdeal.Rows.final18 m c), (h c).2.2.2.2.1.trans (Cert.LocalIdeal.Rows.final19 m c), (h c).2.2.2.2.2⟩)
      (Cert.LocalIdeal.Value.run_blocks (F := Ideal) m g)
  · refine (θ_run _ _ _).mono (fun r h c => ⟨(h c).1.trans ((Cert.LocalRefIdeal.Read.val_main_v199_eq _).trans ?_), (h c).2.1.trans ((Cert.LocalRefIdeal.Read.val_main_v201_eq _).trans ?_), (h c).2.2.1.trans ((Cert.LocalRefIdeal.Read.val_main_v203_eq _).trans ?_), (h c).2.2.2.1.trans ((Cert.LocalRefIdeal.Read.val_main_v166_eq _).trans ?_), (h c).2.2.2.2.1.trans ((Cert.LocalRefIdeal.Read.val_main_v197_eq _).trans ?_), (h c).2.2.2.2.2⟩)
      (Cert.LocalRefIdeal.Value.run (F := Ideal) m' g')
    all_goals
      obtain ⟨h0, h1, h2, h3, h4, h5, h6, h7⟩ := hagree c
    · exact (congr (congr (congrArg (Cert.LocalRefIdeal.Read.val_main_v199 (F := Ideal)) h0) h1) h2)
    · exact (congr (congr (congrArg (Cert.LocalRefIdeal.Read.val_main_v201 (F := Ideal)) h0) h1) h2)
    · exact (congr (congr (congrArg (Cert.LocalRefIdeal.Read.val_main_v203 (F := Ideal)) h0) h1) h2)
    · exact (congr (congr (congrArg (Cert.LocalRefIdeal.Read.val_main_v166 (F := Ideal)) h0) h3) h4)
    · exact (congr (congr (congr (congrArg (Cert.LocalRefIdeal.Read.val_main_v197 (F := Ideal)) h0) h5) h6) h7)

end Cert.Proof

end
-- ==== Proof.lean ====
/- The certificate's claims, assembled. -/
module

public import proofs.«01_k».proof.Defs
public import proofs.«01_k».proof.Proof.ClaimAttn
public import proofs.«01_k».proof.Proof.ClaimFfn
public import proofs.«01_k».proof.Proof.ClaimMerge
public import proofs.«01_k».proof.Proof.ClaimInproj
public import proofs.«01_k».proof.Proof.ClaimMod
public import proofs.«01_k».proof.Proof.ClaimLocal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts,
    Cert.Mod.Gen.facts, Cert.ModIdeal.Gen.facts, Cert.ModRefIdeal.Gen.facts,
    Cert.Local.Gen.facts, Cert.LocalIdeal.Gen.facts, Cert.LocalRefIdeal.Gen.facts, Cert.Pre_finite.facts,
    frame_Kernel, frame_KernelIdeal, frame_KernelIdeal_finite, frame_ReferenceIdeal, frame_ReferenceIdeal_finite,
    frame_Ffn, frame_FfnIdeal, frame_FfnRefIdeal, frame_Merge, frame_MergeIdeal, frame_MergeRefIdeal,
    frame_Inproj, frame_InprojIdeal, frame_InprojRefIdeal,
    frame_Mod, frame_ModIdeal, frame_ModRefIdeal, frame_Local, frame_LocalIdeal, frame_LocalRefIdeal,
    trivial, algebraic_attn, trivial, algebraic_Ffn, trivial, algebraic_Merge, trivial, algebraic_Inproj,
    trivial, algebraic_Mod, trivial, algebraic_Local⟩

end Cert.Proof

end
